-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_entry [hPre_finite_entry : Cert.Pre_finite_entry.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_entry.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_entry [hPre_finite_entry : Cert.Pre_finite_entry.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_entry.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_entry [hKernel8Ideal : Cert.Kernel8Ideal.Facts] [hPre_finite_entry : Cert.Pre_finite_entry.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_entry m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_entry [hReference8Ideal : Cert.Reference8Ideal.Facts] [hPre_finite_entry : Cert.Pre_finite_entry.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_entry m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  IdealRules.named_const.Statement Cert.Kernel7Ideal.κ "q_scale" .f32 0x3E38AA3B#32 (((1 / 8) * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "log2_e" .f32 0x3FB8AA3B#32 (((Real.log 2)⁻¹ : ℝ) : EReal)

def algebraic_Kernel8Ideal_Reference8Ideal_pre_finite_entry [hKernel8Ideal : Cert.Kernel8Ideal.Facts] [hReference8Ideal : Cert.Reference8Ideal.Facts] [hPre_finite_entry : Cert.Pre_finite_entry.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_entry m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v64_0)) (v1 : (c : Dev Cert.Kernel8Ideal.nD) → Buf (Elt Ideal) ((c.tc : Thread Cert.Kernel8Ideal.nD Cert.Kernel8Ideal.τ).loc Cert.Kernel8Ideal.main_v64_1)) (v2 : (c : Dev Cert.Kernel8Ideal.nD) → Buf (Elt Ideal) ((c.tc : Thread Cert.Kernel8Ideal.nD Cert.Kernel8Ideal.τ).loc Cert.Kernel8Ideal.main_v64_2)) (v3 : (c : Dev Cert.Kernel8Ideal.nD) → Buf (Elt Ideal) ((c.tc : Thread Cert.Kernel8Ideal.nD Cert.Kernel8Ideal.τ).loc Cert.Kernel8Ideal.main_v64_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v64_0) = v0 c
          ∧ r.2.mem ((c.tc : Thread Cert.Kernel8Ideal.nD Cert.Kernel8Ideal.τ).loc Cert.Kernel8Ideal.main_v64_1) = v1 c
          ∧ r.2.mem ((c.tc : Thread Cert.Kernel8Ideal.nD Cert.Kernel8Ideal.τ).loc Cert.Kernel8Ideal.main_v64_2) = v2 c
          ∧ r.2.mem ((c.tc : Thread Cert.Kernel8Ideal.nD Cert.Kernel8Ideal.τ).loc Cert.Kernel8Ideal.main_v64_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v106) = v0 c
          ∧ r.2.mem ((c.tc : Thread Cert.Reference8Ideal.nD Cert.Reference8Ideal.τ).loc Cert.Reference8Ideal.main_v108) = v1 c
          ∧ r.2.mem ((c.tc : Thread Cert.Reference8Ideal.nD Cert.Reference8Ideal.τ).loc Cert.Reference8Ideal.main_v110) = v2 c
          ∧ r.2.mem ((c.tc : Thread Cert.Reference8Ideal.nD Cert.Reference8Ideal.τ).loc Cert.Reference8Ideal.main_v111) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_entry : Cert.Pre_finite_entry.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_entry (hKernel8Ideal := hKernel8Ideal) (hPre_finite_entry := hPre_finite_entry)
    ∧ quiescent_Reference8Ideal (hReference8Ideal := hReference8Ideal)
    ∧ quiescent_Reference8Ideal_pre_finite_entry (hReference8Ideal := hReference8Ideal) (hPre_finite_entry := hPre_finite_entry)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_entry (hKernel8Ideal := hKernel8Ideal) (hReference8Ideal := hReference8Ideal) (hPre_finite_entry := hPre_finite_entry)
-- ==== Pre_finite_entry.lean ====
abbrev S32768x1024 : Shape := ⟨2, ![32768, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S2048x16 : Shape := ⟨2, ![2048, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2208 : S_.BroadcastsInDim S1024x2208 (![] : Fin 0 → Fin S1024x2208.rank)
  reducesTo_S1024x2208_S_d0_1 : S1024x2208.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  main_v18

def fn {F : FTy → Type} [FloatOps F] (main_arg0 : FVec F S32768x1024 .f32) (main_arg1 : FVec F S1024 .f32) (main_arg2 : FVec F S1024x2208 .f32) (main_arg3 : FVec F S384 .f32) (main_arg4 : FVec F S384x768 .f32) (main_arg5 : FVec F S256 .f32) (main_arg6 : FVec F S256x1024 .f32) (main_arg7 : FVec F S2048x16 .f32) (main_arg8 : FVec F S2048x16 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2208 .f32 := Host.absf main_arg2
  let main_cst_0 : FVec F S_ .f32 := constant S_ .f32 0x7F800000#32
  let main_v5 : FVec F S1024x2208 .f32 := broadcastInDim S1024x2208 ![] bcast_S_S1024x2208 main_cst_0
  let main_v6 : IVec S1024x2208 1 := cmpf .olt main_v4 main_v5
  let main_c_1 : IVec S_ 1 := constantI S_ 1 1#1
  let main_v7 : IVec S_ 1 := (fun x v => Host.reduce IntOp.andi x v reducesTo_S1024x2208_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x768 .f32 := Host.absf main_arg4
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_v13 main_v16
-- ==== Pre_finite_scores.lean ====
abbrev S16x8x2048x64 : Shape := ⟨4, ![16, 8, 2048, 64]⟩
abbrev S16x8x2048x32 : Shape := ⟨4, ![16, 8, 2048, 32]⟩
abbrev S16x2048x32 : Shape := ⟨3, ![16, 2048, 32]⟩
abbrev S_ : Shape := ⟨0, ![]⟩

class Facts : Prop where
  bcast_S_S16x8x2048x64 : S_.BroadcastsInDim S16x8x2048x64 (![] : Fin 0 → Fin S16x8x2048x64.rank)
  reducesTo_S16x8x2048x64_S_d0_1_2_3 : S16x8x2048x64.ReducesTo [0, 1, 2, 3] S_
  h_S_ : 0 < S_.numel
  bcast_S_S16x8x2048x32 : S_.BroadcastsInDim S16x8x2048x32 (![] : Fin 0 → Fin S16x8x2048x32.rank)
  reducesTo_S16x8x2048x32_S_d0_1_2_3 : S16x8x2048x32.ReducesTo [0, 1, 2, 3] S_
  bcast_S_S16x2048x32 : S_.BroadcastsInDim S16x2048x32 (![] : Fin 0 → Fin S16x2048x32.rank)
  reducesTo_S16x2048x32_S_d0_1_2 : S16x2048x32.ReducesTo [0, 1, 2] S_

variable [Facts]

def fn_part1 {F : FTy → Type} [FloatOps F] (main_v13 : IVec S_ 1) (main_v16 : IVec S16x2048x32 1) : IVec S_ 1 :=
  let main_c_5 : IVec S_ 1 := constantI S_ 1 1#1
  let main_v17 : IVec S_ 1 := (fun x v => Host.reduce IntOp.andi x v reducesTo_S16x2048x32_S_d0_1_2 h_S_) main_v16 main_c_5
  let main_v18 : IVec S_ 1 := andi main_v13 main_v17
  main_v18

def fn {F : FTy → Type} [FloatOps F] (main_arg0 : FVec F S16x8x2048x64 .f32) (main_arg1 : FVec F S16x8x2048x32 .f32) (main_arg2 : FVec F S16x8x2048x64 .f32) (main_arg3 : FVec F S16x2048x32 .f32) (main_arg4 : FVec F S16x8x2048x64 .f32) : IVec S_ 1 :=
  let main_v0 : FVec F S16x8x2048x64 .f32 := Host.absf main_arg0
  let main_cst : FVec F S_ .f32 := constant S_ .f32 0x7F800000#32
  let main_v1 : FVec F S16x8x2048x64 .f32 := broadcastInDim S16x8x2048x64 ![] bcast_S_S16x8x2048x64 main_cst
  let main_v2 : IVec S16x8x2048x64 1 := cmpf .olt main_v0 main_v1
  let main_c : IVec S_ 1 := constantI S_ 1 1#1
  let main_v3 : IVec S_ 1 := (fun x v => Host.reduce IntOp.andi x v reducesTo_S16x8x2048x64_S_d0_1_2_3 h_S_) main_v2 main_c
  let main_v4 : FVec F S16x8x2048x32 .f32 := Host.absf main_arg1
  let main_cst_0 : FVec F S_ .f32 := constant S_ .f32 0x7F800000#32
  let main_v5 : FVec F S16x8x2048x32 .f32 := broadcastInDim S16x8x2048x32 ![] bcast_S_S16x8x2048x32 main_cst_0
  let main_v6 : IVec S16x8x2048x32 1 := cmpf .olt main_v4 main_v5
  let main_c_1 : IVec S_ 1 := constantI S_ 1 1#1
  let main_v7 : IVec S_ 1 := (fun x v => Host.reduce IntOp.andi x v reducesTo_S16x8x2048x32_S_d0_1_2_3 h_S_) main_v6 main_c_1
  let main_v8 : IVec S_ 1 := andi main_v3 main_v7
  let main_v9 : FVec F S16x8x2048x64 .f32 := Host.absf main_arg2
  let main_cst_2 : FVec F S_ .f32 := constant S_ .f32 0x7F800000#32
  let main_v10 : FVec F S16x8x2048x64 .f32 := broadcastInDim S16x8x2048x64 ![] bcast_S_S16x8x2048x64 main_cst_2
  let main_v11 : IVec S16x8x2048x64 1 := cmpf .olt main_v9 main_v10
  let main_c_3 : IVec S_ 1 := constantI S_ 1 1#1
  let main_v12 : IVec S_ 1 := (fun x v => Host.reduce IntOp.andi x v reducesTo_S16x8x2048x64_S_d0_1_2_3 h_S_) main_v11 main_c_3
  let main_v13 : IVec S_ 1 := andi main_v8 main_v12
  let main_v14 : FVec F S16x2048x32 .f32 := Host.absf main_arg3
  let main_cst_4 : FVec F S_ .f32 := constant S_ .f32 0x7F800000#32
  let main_v15 : FVec F S16x2048x32 .f32 := broadcastInDim S16x2048x32 ![] bcast_S_S16x2048x32 main_cst_4
  let main_v16 : IVec S16x2048x32 1 := cmpf .olt main_v14 main_v15
  fn_part1 (F := F) main_v13 main_v16
-- ==== Kernel.lean ====
abbrev S16x8x2048x64 : Shape := ⟨4, ![16, 8, 2048, 64]⟩
abbrev S16x8x2048x32 : Shape := ⟨4, ![16, 8, 2048, 32]⟩
abbrev S16x2048x32 : Shape := ⟨3, ![16, 2048, 32]⟩
abbrev S_ : Shape := ⟨0, ![]⟩
abbrev S16x8x2048x128 : Shape := ⟨4, ![16, 8, 2048, 128]⟩
abbrev S16x2048x8x128 : Shape := ⟨4, ![16, 2048, 8, 128]⟩
abbrev S16x2048x1024 : Shape := ⟨3, ![16, 2048, 1024]⟩
abbrev S16x1x2048x32 : Shape := ⟨4, ![16, 1, 2048, 32]⟩
abbrev S16x4x2048x1 : Shape := ⟨4, ![16, 4, 2048, 1]⟩
abbrev S16x4x2048x63 : Shape := ⟨4, ![16, 4, 2048, 63]⟩
abbrev S16x4x2048x64 : Shape := ⟨4, ![16, 4, 2048, 64]⟩
abbrev S16x4x2048x128 : Shape := ⟨4, ![16, 4, 2048, 128]⟩
abbrev S16x4x1x2048x128 : Shape := ⟨5, ![16, 4, 1, 2048, 128]⟩
abbrev S16x4x2x2048x128 : Shape := ⟨5, ![16, 4, 2, 2048, 128]⟩
abbrev S16x2048x512 : Shape := ⟨3, ![16, 2048, 512]⟩
abbrev S1x2048x256 : Shape := ⟨3, ![1, 2048, 256]⟩
abbrev S1x2048x128 : Shape := ⟨3, ![1, 2048, 128]⟩
abbrev S256x256 : Shape := ⟨2, ![256, 256]⟩
abbrev S512x128 : Shape := ⟨2, ![512, 128]⟩
abbrev S1x512x128 : Shape := ⟨3, ![1, 512, 128]⟩
abbrev S512x256 : Shape := ⟨2, ![512, 256]⟩
abbrev S1024x256 : Shape := ⟨2, ![1024, 256]⟩
abbrev S1x256x256 : Shape := ⟨3, ![1, 256, 256]⟩
abbrev S256x512 : Shape := ⟨2, ![256, 512]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S512x1 : Shape := ⟨2, ![512, 1]⟩
abbrev S1x768x256 : Shape := ⟨3, ![1, 768, 256]⟩
abbrev S768x256 : Shape := ⟨2, ![768, 256]⟩
abbrev S1024x768 : Shape := ⟨2, ![1024, 768]⟩
abbrev S512x768 : Shape := ⟨2, ![512, 768]⟩
abbrev S256x768 : Shape := ⟨2, ![256, 768]⟩
abbrev S256x1024 : Shape := ⟨2, ![256, 1024]⟩
abbrev S1x768x128 : Shape := ⟨3, ![1, 768, 128]⟩
abbrev S768x128 : Shape := ⟨2, ![768, 128]⟩
abbrev S1x1280x256 : Shape := ⟨3, ![1, 1280, 256]⟩
abbrev S1280x256 : Shape := ⟨2, ![1280, 256]⟩
abbrev S1024x1280 : Shape := ⟨2, ![1024, 1280]⟩
abbrev S512x1280 : Shape := ⟨2, ![512, 1280]⟩
abbrev S256x1280 : Shape := ⟨2, ![256, 1280]⟩
abbrev S256x1536 : Shape := ⟨2, ![256, 1536]⟩
abbrev S1x1280x128 : Shape := ⟨3, ![1, 1280, 128]⟩
abbrev S1280x128 : Shape := ⟨2, ![1280, 128]⟩
abbrev S1x1792x256 : Shape := ⟨3, ![1, 1792, 256]⟩
abbrev S1792x256 : Shape := ⟨2, ![1792, 256]⟩
abbrev S1024x1792 : Shape := ⟨2, ![1024, 1792]⟩
abbrev S512x1792 : Shape := ⟨2, ![512, 1792]⟩
abbrev S256x1792 : Shape := ⟨2, ![256, 1792]⟩
abbrev S256x2048 : Shape := ⟨2, ![256, 2048]⟩
abbrev S1x1792x128 : Shape := ⟨3, ![1, 1792, 128]⟩
abbrev S1792x128 : Shape := ⟨2, ![1792, 128]⟩

abbrev nBuf : Space → Nat
  | .hbm => 42
  | .vmem => 8
  | .smem => 0
  | _ => 0

abbrev bufTy : (tb : Table) → Fin (tcTables nBuf tb) → BufTy
  | .hbm, ⟨0, _⟩ => ⟨S16x8x2048x64, .f32⟩
  | .hbm, ⟨1, _⟩ => ⟨S16x8x2048x32, .f32⟩
  | .hbm, ⟨2, _⟩ => ⟨S16x8x2048x64, .f32⟩
  | .hbm, ⟨3, _⟩ => ⟨S16x2048x32, .f32⟩
  | .hbm, ⟨4, _⟩ => ⟨S16x8x2048x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x8x2048x32, .f32⟩
  | .hbm, ⟨14, _⟩ => ⟨S16x8x2048x128, .f32⟩
  | .hbm, ⟨15, _⟩ => ⟨S16x8x2048x128, .f32⟩
  | .hbm, ⟨16, _⟩ => ⟨S16x8x2048x128, .f32⟩
  | .hbm, ⟨17, _⟩ => ⟨S16x2048x8x128, .f32⟩
  | .hbm, ⟨18, _⟩ => ⟨S16x2048x1024, .f32⟩
  | .hbm, ⟨19, _⟩ => ⟨S16x2048x1024, .bf16⟩
  | .hbm, ⟨20, _⟩ => ⟨S16x1x2048x32, .f32⟩
  | .hbm, ⟨21, _⟩ => ⟨S16x8x2048x32, .f32⟩
  | .hbm, ⟨22, _⟩ => ⟨S16x8x2048x128, .f32⟩
  | .hbm, ⟨23, _⟩ => ⟨S16x2048x8x128, .f32⟩
  | .hbm, ⟨24, _⟩ => ⟨S16x2048x1024, .f32⟩
  | .hbm, ⟨25, _⟩ => ⟨S16x2048x1024, .bf16⟩
  | .hbm, ⟨26, _⟩ => ⟨S_, .f32⟩
  | .hbm, ⟨27, _⟩ => ⟨S16x4x2048x1, .f32⟩
  | .hbm, ⟨28, _⟩ => ⟨S_, .f32⟩
  | .hbm, ⟨29, _⟩ => ⟨S16x4x2048x63, .f32⟩
  | .hbm, ⟨30, _⟩ => ⟨S16x4x2048x64, .f32⟩
  | .hbm, ⟨31, _⟩ => ⟨S16x4x2048x64, .f32⟩
  | .hbm, ⟨32, _⟩ => ⟨S16x4x2048x128, .f32⟩
  | .hbm, ⟨33, _⟩ => ⟨S16x4x2048x128, .f32⟩
  | .hbm, ⟨34, _⟩ => ⟨S16x4x1x2048x128, .f32⟩
  | .hbm, ⟨35, _⟩ => ⟨S16x4x1x2048x128, .f32⟩
  | .hbm, ⟨36, _⟩ => ⟨S16x4x2x2048x128, .f32⟩
  | .hbm, ⟨37, _⟩ => ⟨S16x8x2048x128, .f32⟩
  | .hbm, ⟨38, _⟩ => ⟨S16x2048x8x128, .f32⟩
  | .hbm, ⟨39, _⟩ => ⟨S16x2048x1024, .f32⟩
  | .hbm, ⟨40, _⟩ => ⟨S16x2048x1024, .bf16⟩
  | .hbm, ⟨41, _⟩ => ⟨S16x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .bf16⟩
  | .local _ .vmem, ⟨7, _⟩ => ⟨S1x2048x128, .bf16⟩
  | _, _ => ⟨S16x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x8x2048x64 : Shape := ⟨4, ![16, 8, 2048, 64]⟩
abbrev S16x8x2048x32 : Shape := ⟨4, ![16, 8, 2048, 32]⟩
abbrev S16x2048x32 : Shape := ⟨3, ![16, 2048, 32]⟩
abbrev S_ : Shape := ⟨0, ![]⟩
abbrev S16x8x2048x2048 : Shape := ⟨4, ![16, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x2048x8x64 : Shape := ⟨4, ![16, 2048, 8, 64]⟩
abbrev S16x2048x512 : Shape := ⟨3, ![16, 2048, 512]⟩

abbrev nBuf : Space → Nat
  | .hbm => 43
  | .vmem => 0
  | .smem => 0
  | _ => 0

abbrev bufTy : (tb : Table) → Fin (tcTables nBuf tb) → BufTy
  | .hbm, ⟨0, _⟩ => ⟨S16x8x2048x64, .f32⟩
  | .hbm, ⟨1, _⟩ => ⟨S16x8x2048x32, .f32⟩
  | .hbm, ⟨2, _⟩ => ⟨S16x8x2048x64, .f32⟩
  | .hbm, ⟨3, _⟩ => ⟨S16x2048x32, .f32⟩
  | .hbm, ⟨4, _⟩ => ⟨S16x8x2048x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x8x2048x2048, .f32⟩
  | .hbm, ⟨10, _⟩ => ⟨S16x8x2048x2048, .f32⟩
  | .hbm, ⟨11, _⟩ => ⟨S16x8x2048x2048, .f32⟩
  | .hbm, ⟨12, _⟩ => ⟨S16x8x2048x2048, .f32⟩
  | .hbm, ⟨13, _⟩ => ⟨S16x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S16x8x2048x2048, .i1⟩
  | .hbm, ⟨23, _⟩ => ⟨S16x8x2048x2048, .f32⟩
  | .hbm, ⟨24, _⟩ => ⟨S16x8x2048x2048, .f32⟩
  | .hbm, ⟨25, _⟩ => ⟨S_, .f32⟩
  | .hbm, ⟨26, _⟩ => ⟨S16x8x2048, .f32⟩
  | .hbm, ⟨27, _⟩ => ⟨S_, .f32⟩
  | .hbm, ⟨28, _⟩ => ⟨S16x8x2048, .f32⟩
  | .hbm, ⟨29, _⟩ => ⟨S16x8x2048, .f32⟩
  | .hbm, ⟨30, _⟩ => ⟨S16x8x2048x1, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S_, .f32⟩
  | .hbm, ⟨35, _⟩ => ⟨S16x8x2048, .f32⟩
  | .hbm, ⟨36, _⟩ => ⟨S16x8x2048x1, .f32⟩
  | .hbm, ⟨37, _⟩ => ⟨S16x8x2048x2048, .f32⟩
  | .hbm, ⟨38, _⟩ => ⟨S16x8x2048x2048, .f32⟩
  | .hbm, ⟨39, _⟩ => ⟨S16x8x2048x64, .f32⟩
  | .hbm, ⟨40, _⟩ => ⟨S16x2048x8x64, .f32⟩
  | .hbm, ⟨41, _⟩ => ⟨S16x2048x512, .f32⟩
  | .hbm, ⟨42, _⟩ => ⟨S16x2048x512, .bf16⟩
  | _, _ => ⟨S16x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel2.lean ====
abbrev S16x2048x512 : Shape := ⟨3, ![16, 2048, 512]⟩
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S32768x512 : Shape := ⟨2, ![32768, 512]⟩
abbrev S1x1024 : Shape := ⟨2, ![1, 1024]⟩
abbrev S1024 : Shape := ⟨1, ![1024]⟩
abbrev S1024x512 : Shape := ⟨2, ![1024, 512]⟩
abbrev S1024x1024 : Shape := ⟨2, ![1024, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x512x1024 : Shape := ⟨3, ![1, 512, 1024]⟩
abbrev S512x1024 : Shape := ⟨2, ![512, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 25
  | .vmem => 15
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S2x1024x1024, .f32⟩
  | .hbm, ⟨4, _⟩ => ⟨S4x1024, .f32⟩
  | .hbm, ⟨5, _⟩ => ⟨S4x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S32768x1024, .f32⟩
  | .hbm, ⟨10, _⟩ => ⟨S2x1024x1024, .bf16⟩
  | .hbm, ⟨11, _⟩ => ⟨S4x1024x5632, .bf16⟩
  | .hbm, ⟨12, _⟩ => ⟨S4x2816x1024, .bf16⟩
  | .hbm, ⟨13, _⟩ => ⟨S32768x512, .bf16⟩
  | .hbm, ⟨14, _⟩ => ⟨S32768x512, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2048x512 : Shape := ⟨3, ![16, 2048, 512]⟩
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S2x1024x1024, .f32⟩
  | .hbm, ⟨4, _⟩ => ⟨S4x1024, .f32⟩
  | .hbm, ⟨5, _⟩ => ⟨S4x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S16x2048x512, .f32⟩
  | .hbm, ⟨10, _⟩ => ⟨S16x2048x512, .f32⟩
  | .hbm, ⟨11, _⟩ => ⟨S16x2048x1024, .f32⟩
  | .hbm, ⟨12, _⟩ => ⟨S1x1024x1024, .f32⟩
  | .hbm, ⟨13, _⟩ => ⟨S1024x1024, .f32⟩
  | .hbm, ⟨14, _⟩ => ⟨S16x2048x1024, .f32⟩
  | .hbm, ⟨15, _⟩ => ⟨S1x1024, .f32⟩
  | .hbm, ⟨16, _⟩ => ⟨S1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S1x1024, .f32⟩
  | .hbm, ⟨35, _⟩ => ⟨S1024, .f32⟩
  | .hbm, ⟨36, _⟩ => ⟨S16x2048x1024, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | .hbm, ⟨52, _⟩ => ⟨S1x1024x5632, .f32⟩
  | .hbm, ⟨53, _⟩ => ⟨S1024x5632, .f32⟩
  | .hbm, ⟨54, _⟩ => ⟨S16x2048x5632, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S1x2816x1024, .f32⟩
  | .hbm, ⟨68, _⟩ => ⟨S2816x1024, .f32⟩
  | .hbm, ⟨69, _⟩ => ⟨S16x2048x1024, .f32⟩
  | .hbm, ⟨70, _⟩ => ⟨S1x1024, .f32⟩
  | .hbm, ⟨71, _⟩ => ⟨S1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S32768x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel3.lean ====
abbrev S16x2048x1024 : Shape := ⟨3, ![16, 2048, 1024]⟩
abbrev S4x1024 : Shape := ⟨2, ![4, 1024]⟩
abbrev S2x1024x3072 : Shape := ⟨3, ![2, 1024, 3072]⟩
abbrev S32768x1024 : Shape := ⟨2, ![32768, 1024]⟩
abbrev S1x1024 : Shape := ⟨2, ![1, 1024]⟩
abbrev S1024 : Shape := ⟨1, ![1024]⟩
abbrev S32768x3072 : Shape := ⟨2, ![32768, 3072]⟩
abbrev S1024x1024 : Shape := ⟨2, ![1024, 1024]⟩
abbrev S1x1024x3072 : Shape := ⟨3, ![1, 1024, 3072]⟩
abbrev S1024x3072 : Shape := ⟨2, ![1024, 3072]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S2x1024x3072, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S2x1024x3072, .bf16⟩
  | .hbm, ⟨7, _⟩ => ⟨S1x1024, .f32⟩
  | .hbm, ⟨8, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1024x3072, .bf16⟩
  | .local _ .vmem, ⟨5, _⟩ => ⟨S1024x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S16x2048x1024 : Shape := ⟨3, ![16, 2048, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S16x2048x2048 : Shape := ⟨3, ![16, 2048, 2048]⟩
abbrev S32768x3072 : Shape := ⟨2, ![32768, 3072]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1x1024x3072, .f32⟩
  | .hbm, ⟨22, _⟩ => ⟨S1024x3072, .f32⟩
  | .hbm, ⟨23, _⟩ => ⟨S16x2048x3072, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x2048, .f32⟩
  | .hbm, ⟨33, _⟩ => ⟨S16x2048x3072, .f32⟩
  | .hbm, ⟨34, _⟩ => ⟨S32768x3072, .f32⟩
  | .hbm, ⟨35, _⟩ => ⟨S32768x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 23
  | .vmem => 13
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S2x1024x1024, .f32⟩
  | .hbm, ⟨3, _⟩ => ⟨S4x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S4x1024, .f32⟩
  | .hbm, ⟨8, _⟩ => ⟨S32768x1024, .f32⟩
  | .hbm, ⟨9, _⟩ => ⟨S2x1024x1024, .bf16⟩
  | .hbm, ⟨10, _⟩ => ⟨S4x1024x5632, .bf16⟩
  | .hbm, ⟨11, _⟩ => ⟨S4x2816x1024, .bf16⟩
  | .hbm, ⟨12, _⟩ => ⟨S32768x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x2816, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S2x1024x1024, .f32⟩
  | .hbm, ⟨3, _⟩ => ⟨S4x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S4x1024, .f32⟩
  | .hbm, ⟨8, _⟩ => ⟨S16x2048x1024, .f32⟩
  | .hbm, ⟨9, _⟩ => ⟨S1x1024x1024, .f32⟩
  | .hbm, ⟨10, _⟩ => ⟨S1024x1024, .f32⟩
  | .hbm, ⟨11, _⟩ => ⟨S16x2048x1024, .f32⟩
  | .hbm, ⟨12, _⟩ => ⟨S1x1024, .f32⟩
  | .hbm, ⟨13, _⟩ => ⟨S1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1x1024, .f32⟩
  | .hbm, ⟨32, _⟩ => ⟨S1024, .f32⟩
  | .hbm, ⟨33, _⟩ => ⟨S16x2048x1024, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1x1024x5632, .f32⟩
  | .hbm, ⟨50, _⟩ => ⟨S1024x5632, .f32⟩
  | .hbm, ⟨51, _⟩ => ⟨S16x2048x5632, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S1x2816x1024, .f32⟩
  | .hbm, ⟨65, _⟩ => ⟨S2816x1024, .f32⟩
  | .hbm, ⟨66, _⟩ => ⟨S16x2048x1024, .f32⟩
  | .hbm, ⟨67, _⟩ => ⟨S1x1024, .f32⟩
  | .hbm, ⟨68, _⟩ => ⟨S1024, .f32⟩
  | .hbm, ⟨69, _⟩ => ⟨S16x2048x1024, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 23
  | .vmem => 13
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S2x1024x1024, .f32⟩
  | .hbm, ⟨3, _⟩ => ⟨S4x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S4x1024, .f32⟩
  | .hbm, ⟨8, _⟩ => ⟨S32768x1024, .f32⟩
  | .hbm, ⟨9, _⟩ => ⟨S2x1024x1024, .bf16⟩
  | .hbm, ⟨10, _⟩ => ⟨S4x1024x5632, .bf16⟩
  | .hbm, ⟨11, _⟩ => ⟨S4x2816x1024, .bf16⟩
  | .hbm, ⟨12, _⟩ => ⟨S32768x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x2816, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S2x1024x1024, .f32⟩
  | .hbm, ⟨3, _⟩ => ⟨S4x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S4x1024, .f32⟩
  | .hbm, ⟨8, _⟩ => ⟨S16x2048x1024, .f32⟩
  | .hbm, ⟨9, _⟩ => ⟨S1x1024x1024, .f32⟩
  | .hbm, ⟨10, _⟩ => ⟨S1024x1024, .f32⟩
  | .hbm, ⟨11, _⟩ => ⟨S16x2048x1024, .f32⟩
  | .hbm, ⟨12, _⟩ => ⟨S1x1024, .f32⟩
  | .hbm, ⟨13, _⟩ => ⟨S1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1x1024, .f32⟩
  | .hbm, ⟨32, _⟩ => ⟨S1024, .f32⟩
  | .hbm, ⟨33, _⟩ => ⟨S16x2048x1024, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1x1024x5632, .f32⟩
  | .hbm, ⟨50, _⟩ => ⟨S1024x5632, .f32⟩
  | .hbm, ⟨51, _⟩ => ⟨S16x2048x5632, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S1x2816x1024, .f32⟩
  | .hbm, ⟨65, _⟩ => ⟨S2816x1024, .f32⟩
  | .hbm, ⟨66, _⟩ => ⟨S16x2048x1024, .f32⟩
  | .hbm, ⟨67, _⟩ => ⟨S1x1024, .f32⟩
  | .hbm, ⟨68, _⟩ => ⟨S1024, .f32⟩
  | .hbm, ⟨69, _⟩ => ⟨S16x2048x1024, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel6.lean ====
abbrev S16x2048x512 : Shape := ⟨3, ![16, 2048, 512]⟩
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S32768x512 : Shape := ⟨2, ![32768, 512]⟩
abbrev S1x1024 : Shape := ⟨2, ![1, 1024]⟩
abbrev S1024 : Shape := ⟨1, ![1024]⟩
abbrev S1024x512 : Shape := ⟨2, ![1024, 512]⟩
abbrev S1024x1024 : Shape := ⟨2, ![1024, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x512x1024 : Shape := ⟨3, ![1, 512, 1024]⟩
abbrev S512x1024 : Shape := ⟨2, ![512, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 25
  | .vmem => 15
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S2x1024x1024, .f32⟩
  | .hbm, ⟨4, _⟩ => ⟨S4x1024, .f32⟩
  | .hbm, ⟨5, _⟩ => ⟨S4x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S32768x1024, .f32⟩
  | .hbm, ⟨10, _⟩ => ⟨S2x1024x1024, .bf16⟩
  | .hbm, ⟨11, _⟩ => ⟨S4x1024x5632, .bf16⟩
  | .hbm, ⟨12, _⟩ => ⟨S4x2816x1024, .bf16⟩
  | .hbm, ⟨13, _⟩ => ⟨S32768x512, .bf16⟩
  | .hbm, ⟨14, _⟩ => ⟨S32768x512, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16x2048x512 : Shape := ⟨3, ![16, 2048, 512]⟩
abbrev S16x2048x1024 : Shape := ⟨3, ![16, 2048, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S2x1024x1024, .f32⟩
  | .hbm, ⟨4, _⟩ => ⟨S4x1024, .f32⟩
  | .hbm, ⟨5, _⟩ => ⟨S4x1024, .f32⟩
  | .hbm, ⟨6, _⟩ => ⟨S4x1024x5632, .f32⟩
  | .hbm, ⟨7, _⟩ => ⟨S4x2816x1024, .f32⟩
  | .hbm, ⟨8, _⟩ => ⟨S4x1024, .f32⟩
  | .hbm, ⟨9, _⟩ => ⟨S16x2048x512, .f32⟩
  | .hbm, ⟨10, _⟩ => ⟨S16x2048x512, .f32⟩
  | .hbm, ⟨11, _⟩ => ⟨S16x2048x1024, .f32⟩
  | .hbm, ⟨12, _⟩ => ⟨S1x1024x1024, .f32⟩
  | .hbm, ⟨13, _⟩ => ⟨S1024x1024, .f32⟩
  | .hbm, ⟨14, _⟩ => ⟨S16x2048x1024, .f32⟩
  | .hbm, ⟨15, _⟩ => ⟨S1x1024, .f32⟩
  | .hbm, ⟨16, _⟩ => ⟨S1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S1x1024, .f32⟩
  | .hbm, ⟨35, _⟩ => ⟨S1024, .f32⟩
  | .hbm, ⟨36, _⟩ => ⟨S16x2048x1024, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | .hbm, ⟨52, _⟩ => ⟨S1x1024x5632, .f32⟩
  | .hbm, ⟨53, _⟩ => ⟨S1024x5632, .f32⟩
  | .hbm, ⟨54, _⟩ => ⟨S16x2048x5632, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S1x2816x1024, .f32⟩
  | .hbm, ⟨68, _⟩ => ⟨S2816x1024, .f32⟩
  | .hbm, ⟨69, _⟩ => ⟨S16x2048x1024, .f32⟩
  | .hbm, ⟨70, _⟩ => ⟨S1x1024, .f32⟩
  | .hbm, ⟨71, _⟩ => ⟨S1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S32768x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel7.lean ====
abbrev S16x2048x1024 : Shape := ⟨3, ![16, 2048, 1024]⟩
abbrev S4x1024 : Shape := ⟨2, ![4, 1024]⟩
abbrev S2x1024x3072 : Shape := ⟨3, ![2, 1024, 3072]⟩
abbrev S32768x1024 : Shape := ⟨2, ![32768, 1024]⟩
abbrev S1x1024 : Shape := ⟨2, ![1, 1024]⟩
abbrev S1024 : Shape := ⟨1, ![1024]⟩
abbrev S32768x3072 : Shape := ⟨2, ![32768, 3072]⟩
abbrev S1024x1024 : Shape := ⟨2, ![1024, 1024]⟩
abbrev S1x1024x3072 : Shape := ⟨3, ![1, 1024, 3072]⟩
abbrev S1024x3072 : Shape := ⟨2, ![1024, 3072]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S2x1024x3072, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S2x1024x3072, .bf16⟩
  | .hbm, ⟨7, _⟩ => ⟨S1x1024, .f32⟩
  | .hbm, ⟨8, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1024x3072, .bf16⟩
  | .local _ .vmem, ⟨5, _⟩ => ⟨S1024x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel7Ideal.lean ====
variable {F : FTy → Type} [FloatOps F] [Named F]
def κ : String → Option EReal := fun
  | "q_scale" => some (((1 / 8) * (Real.log 2)⁻¹ : ℝ) : EReal)
  | _ => none
-- ==== Reference7Ideal.lean ====
abbrev S16x2048x1024 : Shape := ⟨3, ![16, 2048, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S16x2048x2048 : Shape := ⟨3, ![16, 2048, 2048]⟩
abbrev S32768x3072 : Shape := ⟨2, ![32768, 3072]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1x1024x3072, .f32⟩
  | .hbm, ⟨22, _⟩ => ⟨S1024x3072, .f32⟩
  | .hbm, ⟨23, _⟩ => ⟨S16x2048x3072, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x2048, .f32⟩
  | .hbm, ⟨33, _⟩ => ⟨S16x2048x3072, .f32⟩
  | .hbm, ⟨34, _⟩ => ⟨S32768x3072, .f32⟩
  | .hbm, ⟨35, _⟩ => ⟨S32768x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel8.lean ====
abbrev S32768x1024 : Shape := ⟨2, ![32768, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S2048x16 : Shape := ⟨2, ![2048, 16]⟩
abbrev S1024x32 : Shape := ⟨2, ![1024, 32]⟩
abbrev S1024x384 : Shape := ⟨2, ![1024, 384]⟩
abbrev S_ : Shape := ⟨0, ![]⟩
abbrev S1024x64 : Shape := ⟨2, ![1024, 64]⟩
abbrev S1024x16 : Shape := ⟨2, ![1024, 16]⟩
abbrev S1024x256 : Shape := ⟨2, ![1024, 256]⟩
abbrev S1024x512 : Shape := ⟨2, ![1024, 512]⟩
abbrev S1024x1024 : Shape := ⟨2, ![1024, 1024]⟩
abbrev S1024x2304 : Shape := ⟨2, ![1024, 2304]⟩
abbrev S384x8x96 : Shape := ⟨3, ![384, 8, 96]⟩
abbrev S384x8x64 : Shape := ⟨3, ![384, 8, 64]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x4x2x64 : Shape := ⟨4, ![256, 4, 2, 64]⟩
abbrev S256x4x1x64 : Shape := ⟨4, ![256, 4, 1, 64]⟩
abbrev S256x4x64 : Shape := ⟨3, ![256, 4, 64]⟩
abbrev S256x4x128 : Shape := ⟨3, ![256, 4, 128]⟩
abbrev S256x4x1x128 : Shape := ⟨4, ![256, 4, 1, 128]⟩
abbrev S256x4x2x128 : Shape := ⟨4, ![256, 4, 2, 128]⟩
abbrev S2048x64 : Shape := ⟨2, ![2048, 64]⟩
abbrev S2048x32 : Shape := ⟨2, ![2048, 32]⟩
abbrev S2048x128 : Shape := ⟨2, ![2048, 128]⟩
abbrev S1x1024 : Shape := ⟨2, ![1, 1024]⟩
abbrev S1x384 : Shape := ⟨2, ![1, 384]⟩
abbrev S1x256 : Shape := ⟨2, ![1, 256]⟩
abbrev S32768x1536 : Shape := ⟨2, ![32768, 1536]⟩
abbrev S1024x128 : Shape := ⟨2, ![1024, 128]⟩
abbrev S1024x1536 : Shape := ⟨2, ![1024, 1536]⟩
abbrev S1024x1 : Shape := ⟨2, ![1024, 1]⟩

abbrev nBuf : Space → Nat
  | .hbm => 87
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2208, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S2048x16, .f32⟩
  | .hbm, ⟨8, _⟩ => ⟨S2048x16, .f32⟩
  | .hbm, ⟨9, _⟩ => ⟨S1024x32, .f32⟩
  | .hbm, ⟨10, _⟩ => ⟨S1024x384, .f32⟩
  | .hbm, ⟨11, _⟩ => ⟨S_, .f32⟩
  | .hbm, ⟨12, _⟩ => ⟨S1024x64, .f32⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S1024x32, .f32⟩
  | .hbm, ⟨17, _⟩ => ⟨S1024x256, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x1024, .f32⟩
  | .hbm, ⟨23, _⟩ => ⟨S1024x2304, .f32⟩
  | .hbm, ⟨24, _⟩ => ⟨S1024x2304, .bf16⟩
  | .hbm, ⟨25, _⟩ => ⟨S384x8x96, .f32⟩
  | .hbm, ⟨26, _⟩ => ⟨S384x8x64, .f32⟩
  | .hbm, ⟨27, _⟩ => ⟨S384x8x32, .f32⟩
  | .hbm, ⟨28, _⟩ => ⟨S384x8x16, .f32⟩
  | .hbm, ⟨29, _⟩ => ⟨S384x8x16, .f32⟩
  | .hbm, ⟨30, _⟩ => ⟨S384x8x16, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S384x1024, .bf16⟩
  | .hbm, ⟨35, _⟩ => ⟨S256x8x128, .f32⟩
  | .hbm, ⟨36, _⟩ => ⟨S256x8x64, .f32⟩
  | .hbm, ⟨37, _⟩ => ⟨S256x8x64, .f32⟩
  | .hbm, ⟨38, _⟩ => ⟨S_, .f32⟩
  | .hbm, ⟨39, _⟩ => ⟨S256x8x64, .f32⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S256x4x2x64, .f32⟩
  | .hbm, ⟨44, _⟩ => ⟨S256x4x1x64, .f32⟩
  | .hbm, ⟨45, _⟩ => ⟨S256x4x64, .f32⟩
  | .hbm, ⟨46, _⟩ => ⟨S_, .f32⟩
  | .hbm, ⟨47, _⟩ => ⟨S256x4x64, .f32⟩
  | .hbm, ⟨48, _⟩ => ⟨S256x4x1x64, .f32⟩
  | .hbm, ⟨49, _⟩ => ⟨S256x4x64, .f32⟩
  | .hbm, ⟨50, _⟩ => ⟨S256x4x128, .f32⟩
  | .hbm, ⟨51, _⟩ => ⟨S256x4x1x64, .f32⟩
  | .hbm, ⟨52, _⟩ => ⟨S256x4x64, .f32⟩
  | .hbm, ⟨53, _⟩ => ⟨S256x4x128, .f32⟩
  | .hbm, ⟨54, _⟩ => ⟨S256x4x1x128, .f32⟩
  | .hbm, ⟨55, _⟩ => ⟨S256x4x1x128, .f32⟩
  | .hbm, ⟨56, _⟩ => ⟨S256x4x2x128, .f32⟩
  | .hbm, ⟨57, _⟩ => ⟨S256x1024, .f32⟩
  | .hbm, ⟨58, _⟩ => ⟨S256x1024, .bf16⟩
  | .hbm, ⟨59, _⟩ => ⟨S_, .f32⟩
  | .hbm, ⟨60, _⟩ => ⟨S2048x64, .f32⟩
  | .hbm, ⟨61, _⟩ => ⟨S_, .f32⟩
  | .hbm, ⟨62, _⟩ => ⟨S2048x64, .f32⟩
  | .hbm, ⟨63, _⟩ => ⟨S_, .f32⟩
  | .hbm, ⟨64, _⟩ => ⟨S2048x32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2048x128, .f32⟩
  | .hbm, ⟨73, _⟩ => ⟨S2048x128, .f32⟩
  | .hbm, ⟨74, _⟩ => ⟨S2048x128, .f32⟩
  | .hbm, ⟨75, _⟩ => ⟨S2048x128, .f32⟩
  | .hbm, ⟨76, _⟩ => ⟨S2048x128, .f32⟩
  | .hbm, ⟨77, _⟩ => ⟨S2048x128, .f32⟩
  | .hbm, ⟨78, _⟩ => ⟨S2048x128, .f32⟩
  | .hbm, ⟨79, _⟩ => ⟨S2048x128, .f32⟩
  | .hbm, ⟨80, _⟩ => ⟨S1x1024, .f32⟩
  | .hbm, ⟨81, _⟩ => ⟨S1x384, .f32⟩
  | .hbm, ⟨82, _⟩ => ⟨S1x256, .f32⟩
  | .hbm, ⟨83, _⟩ => ⟨S32768x1024, .bf16⟩
  | .hbm, ⟨84, _⟩ => ⟨S32768x1024, .bf16⟩
  | .hbm, ⟨85, _⟩ => ⟨S32768x1024, .bf16⟩
  | .hbm, ⟨86, _⟩ => ⟨S32768x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S256x1024, .bf16⟩
  | .local _ .vmem, ⟨8, _⟩ => ⟨S256x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1536, .bf16⟩
  | .local _ .vmem, ⟨24, _⟩ => ⟨S1024x1536, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v64_2 : Ref sig .tc := ⟨.hbm, 85, rfl⟩
abbrev main_v64_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel8Ideal.lean ====
variable {F : FTy → Type} [FloatOps F] [Named F]
def κ : String → Option EReal := fun
  | "log2_e" => some (((Real.log 2)⁻¹ : ℝ) : EReal)
  | _ => none
-- ==== Reference8Ideal.lean ====
abbrev S32768x1024 : Shape := ⟨2, ![32768, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S2048x16 : Shape := ⟨2, ![2048, 16]⟩
abbrev S1x2048x1x16 : Shape := ⟨4, ![1, 2048, 1, 16]⟩
abbrev S16x2048x1x16 : Shape := ⟨4, ![16, 2048, 1, 16]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2208 : Shape := ⟨2, ![32768, 2208]⟩
abbrev S32768x384 : Shape := ⟨2, ![32768, 384]⟩
abbrev S1x384 : Shape := ⟨2, ![1, 384]⟩
abbrev S32768x768 : Shape := ⟨2, ![32768, 768]⟩
abbrev S32768x8x96 : Shape := ⟨3, ![32768, 8, 96]⟩
abbrev S32768x8x32 : Shape := ⟨3, ![32768, 8, 32]⟩
abbrev S32768x1x16 : Shape := ⟨3, ![32768, 1, 16]⟩
abbrev S32768x8x16 : Shape := ⟨3, ![32768, 8, 16]⟩
abbrev S32768x256 : Shape := ⟨2, ![32768, 256]⟩
abbrev S1x256 : Shape := ⟨2, ![1, 256]⟩
abbrev S32768x8x128 : Shape := ⟨3, ![32768, 8, 128]⟩
abbrev S32768x8x64 : Shape := ⟨3, ![32768, 8, 64]⟩
abbrev S32768x32 : Shape := ⟨2, ![32768, 32]⟩
abbrev S32768x1x32 : Shape := ⟨3, ![32768, 1, 32]⟩
abbrev S32768x4x1 : Shape := ⟨3, ![32768, 4, 1]⟩
abbrev S32768x4x63 : Shape := ⟨3, ![32768, 4, 63]⟩
abbrev S32768x4x64 : Shape := ⟨3, ![32768, 4, 64]⟩
abbrev S32768x4x256 : Shape := ⟨3, ![32768, 4, 256]⟩
abbrev S32768x512 : Shape := ⟨2, ![32768, 512]⟩
abbrev S32768x1536 : Shape := ⟨2, ![32768, 1536]⟩

abbrev nBuf : Space → Nat
  | .hbm => 137
  | .vmem => 0
  | .smem => 0
  | _ => 0

abbrev hbmTy0_0 (i : Nat) : BufTy := match i % 128 with
  | 0 => ⟨S32768x1024, .f32⟩
  | 1 => ⟨S1024, .f32⟩
  | 2 => ⟨S1024x2208, .f32⟩
  | 3 => ⟨S384, .f32⟩
  | 4 => ⟨S384x768, .f32⟩
  | 5 => ⟨S256, .f32⟩
  | 6 => ⟨S256x1024, .f32⟩
  | 7 => ⟨S2048x16, .f32⟩
  | 8 => ⟨S2048x16, .f32⟩
  | 9 => ⟨S1x2048x1x16, .f32⟩
  | 10 => ⟨S16x2048x1x16, .f32⟩
  | 11 => ⟨S32768x16, .f32⟩
  | 12 => ⟨S1x2048x1x16, .f32⟩
  | 13 => ⟨S16x2048x1x16, .f32⟩
  | 14 => ⟨S32768x16, .f32⟩
  | 15 => ⟨S32768x1024, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1024, .f32⟩
  | 27 => ⟨S32768x1024, .f32⟩
  | 28 => ⟨S1x1024, .f32⟩
  | 29 => ⟨S32768x1024, .f32⟩
  | 30 => ⟨S32768x1024, .f32⟩
  | 31 => ⟨S32768x2208, .f32⟩
  | 32 => ⟨S32768x384, .f32⟩
  | 33 => ⟨S32768x384, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S32768x1, .f32⟩
  | 42 => ⟨S32768x1, .f32⟩
  | 43 => ⟨S32768x1, .f32⟩
  | 44 => ⟨S32768x384, .f32⟩
  | 45 => ⟨S32768x384, .f32⟩
  | 46 => ⟨S1x384, .f32⟩
  | 47 => ⟨S32768x384, .f32⟩
  | 48 => ⟨S32768x384, .f32⟩
  | 49 => ⟨S32768x768, .f32⟩
  | 50 => ⟨S32768x8x96, .f32⟩
  | 51 => ⟨S32768x8x32, .f32⟩
  | 52 => ⟨S32768x1x16, .f32⟩
  | 53 => ⟨S32768x1x16, .f32⟩
  | 54 => ⟨S32768x8x16, .f32⟩
  | 55 => ⟨S32768x8x16, .f32⟩
  | 56 => ⟨S32768x8x16, .f32⟩
  | 57 => ⟨S32768x8x16, .f32⟩
  | 58 => ⟨S32768x8x16, .f32⟩
  | 59 => ⟨S32768x8x16, .f32⟩
  | 60 => ⟨S32768x8x16, .f32⟩
  | 61 => ⟨S32768x8x16, .f32⟩
  | 62 => ⟨S32768x8x16, .f32⟩
  | 63 => ⟨S32768x8x16, .f32⟩
  | 64 => ⟨S32768x8x16, .f32⟩
  | 65 => ⟨S32768x8x16, .f32⟩
  | 66 => ⟨S32768x8x32, .f32⟩
  | 67 => ⟨S32768x256, .f32⟩
  | 68 => ⟨S32768x256, .f32⟩
  | 69 => ⟨S_, .f32⟩
  | 70 => ⟨S32768, .f32⟩
  | 71 => ⟨S32768x1, .f32⟩
  | 72 => ⟨S_, .f32⟩
  | 73 => ⟨S32768x1, .f32⟩
  | 74 => ⟨S32768x1, .f32⟩
  | 75 => ⟨S_, .f32⟩
  | 76 => ⟨S32768x1, .f32⟩
  | 77 => ⟨S32768x1, .f32⟩
  | 78 => ⟨S32768x1, .f32⟩
  | 79 => ⟨S32768x256, .f32⟩
  | 80 => ⟨S32768x256, .f32⟩
  | 81 => ⟨S1x256, .f32⟩
  | 82 => ⟨S32768x256, .f32⟩
  | 83 => ⟨S32768x256, .f32⟩
  | 84 => ⟨S32768x1024, .f32⟩
  | 85 => ⟨S32768x8x128, .f32⟩
  | 86 => ⟨S32768x8x64, .f32⟩
  | 87 => ⟨S32768x8x64, .f32⟩
  | 88 => ⟨S32768x32, .f32⟩
  | 89 => ⟨S32768x16, .f32⟩
  | 90 => ⟨S32768x16, .f32⟩
  | 91 => ⟨S32768x16, .f32⟩
  | 92 => ⟨S32768x16, .f32⟩
  | 93 => ⟨S32768x16, .f32⟩
  | 94 => ⟨S32768x16, .f32⟩
  | 95 => ⟨S32768x16, .f32⟩
  | 96 => ⟨S32768x16, .f32⟩
  | 97 => ⟨S32768x32, .f32⟩
  | 98 => ⟨S32768x1x32, .f32⟩
  | 99 => ⟨S32768x8x32, .f32⟩
  | 100 => ⟨S_, .f32⟩
  | 101 => ⟨S32768x8x32, .f32⟩
  | 102 => ⟨S32768x8x64, .f32⟩
  | 103 => ⟨S32768x8x128, .f32⟩
  | 104 => ⟨S_, .f32⟩
  | 105 => ⟨S_, .f32⟩
  | 106 => ⟨S32768x8x128, .f32⟩
  | 107 => ⟨S32768x8x128, .f32⟩
  | 108 => ⟨S_, .f32⟩
  | 109 => ⟨S_, .f32⟩
  | 110 => ⟨S32768x8x128, .f32⟩
  | 111 => ⟨S32768x8x128, .f32⟩
  | 112 => ⟨S32768x8x128, .f32⟩
  | 113 => ⟨S_, .f32⟩
  | 114 => ⟨S32768x4x1, .f32⟩
  | 115 => ⟨S_, .f32⟩
  | 116 => ⟨S32768x4x63, .f32⟩
  | 117 => ⟨S32768x4x64, .f32⟩
  | 118 => ⟨S32768x4x64, .f32⟩
  | 119 => ⟨S32768x4x256, .f32⟩
  | 120 => ⟨S32768x512, .f32⟩
  | 121 => ⟨S_, .f32⟩
  | 122 => ⟨S32768x512, .f32⟩
  | 123 => ⟨S32768x512, .f32⟩
  | 124 => ⟨S_, .f32⟩
  | 125 => ⟨S_, .f32⟩
  | 126 => ⟨S32768x512, .f32⟩
  | 127 => ⟨S32768x512, .f32⟩
  | _ => ⟨S32768x1024, .f32⟩

abbrev hbmTy0_1 (i : Nat) : BufTy := match i % 128 with
  | 0 => ⟨S32768x1024, .f32⟩
  | 1 => ⟨S32768x1536, .f32⟩
  | 2 => ⟨S32768x1024, .f32⟩
  | 3 => ⟨S32768x1024, .bf16⟩
  | 4 => ⟨S32768x1024, .f32⟩
  | 5 => ⟨S32768x1024, .bf16⟩
  | 6 => ⟨S32768x1024, .f32⟩
  | 7 => ⟨S32768x1024, .bf16⟩
  | 8 => ⟨S32768x1536, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_9 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_10 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_11 : Ref sig .tc := ⟨.hbm, 113, rfl⟩
abbrev main_v92 : Ref sig .tc := ⟨.hbm, 114, rfl⟩
abbrev main_cst_12 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_13 : Ref sig .tc := ⟨.hbm, 121, rfl⟩
abbrev main_v98 : Ref sig .tc := ⟨.hbm, 122, rfl⟩
abbrev main_v99 : Ref sig .tc := ⟨.hbm, 123, rfl⟩
abbrev main_cst_14 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩

abbrev nD : Nat := 1
abbrev τ : Topo := Topo.v7x

variable {F : FTy → Type} [FloatOps F]
-- ==== Proof.MlaFinite.lean ====
/- What the precondition of the attention says of its arguments. -/
module

public import proofs.«01_k».proof.Proof.Gen.Pre_finite_scores
public import Idealize.ShloMosaic.PureOps.Ideal
public import Idealize.ShloMosaic.PureOps.Reduce
public import Idealize.ShloMosaic.Lib.Pointwise

@[expose] public section
noncomputable section
open Idealize.ShloMosaic
namespace Cert.FiniteScores

theorem andi_one (a b : BitVec 1) : IntOp.andi a b = 1#1 ↔ a = 1#1 ∧ b = 1#1 := by revert a b; decide

theorem fold_one {ι : Type} [DecidableEq ι] (f : ι → BitVec 1) (b : BitVec 1) (S : Finset ι) (h : S.fold IntOp.andi b f = 1#1) :
    ∀ i ∈ S, f i = 1#1 := by
  induction S using Finset.induction_on with
  | empty => intro i hi; exact absurd hi (Finset.notMem_empty i)
  | insert a S ha ih =>
    rw [Finset.fold_insert ha, andi_one] at h
    intro i hi
    rcases Finset.mem_insert.1 hi with rfl | hi
    · exact h.1
    · exact ih h.2 i hi

/-- A conjunction over every entry of an array. -/
theorem reduce_one {s t u : Shape} {axes : List (Fin s.rank)} (x : s.Idx → BitVec 1) (init : u.Idx → BitVec 1) (h : s.ReducesTo axes t)
    (hu : 0 < u.numel) (j : t.Idx) (hr : Host.reduce IntOp.andi x init h hu j = 1#1) (i : s.Idx) (hi : h.drop i = j) : x i = 1#1 := by
  rw [Host.reduce_eq_fold] at hr
  exact fold_one _ _ _ hr i (by simp [hi])

theorem inf_eq : Ideal.ofBits .f32 0x7F800000#32 = ⊤ := by simp [Ideal.ofBits, Ideal.ieee]

/-- An entry whose absolute value is below infinity is real. -/
theorem real_of_abs_lt (x : EReal) (h : Ideal.cmp .olt (max x (-x)) (Ideal.ofBits .f32 0x7F800000#32) = 1#1) : ((x.toReal : ℝ) : EReal) = x := by
  rw [inf_eq] at h
  refine EReal.coe_toReal ?_ ?_
  · rintro rfl
    simp [Ideal.cmp] at h
  · rintro rfl
    simp [Ideal.cmp] at h

open Cert.Pre_finite_scores in
/-- The scores' operands are real. -/
theorem real (X0 : FVec Ideal S16x8x2048x64 .f32) (X1 : FVec Ideal S16x8x2048x32 .f32) (X2 : FVec Ideal S16x8x2048x64 .f32)
    (X3 : FVec Ideal S16x2048x32 .f32) (X4 : FVec Ideal S16x8x2048x64 .f32) (h : Cert.Pre_finite_scores.fn (F := Ideal) X0 X1 X2 X3 X4 = fun _ => 1#1) :
    (∃ r : S16x8x2048x64.Idx → ℝ, X0 = fun j => (r j : EReal)) ∧ (∃ r : S16x8x2048x32.Idx → ℝ, X1 = fun j => (r j : EReal))
      ∧ (∃ r : S16x8x2048x64.Idx → ℝ, X2 = fun j => (r j : EReal)) ∧ (∃ r : S16x2048x32.Idx → ℝ, X3 = fun j => (r j : EReal)) := by
  have pre := congrFun h ix0
  simp only [Cert.Pre_finite_scores.fn, Cert.Pre_finite_scores.fn_part1, andi, andi_one] at pre
  obtain ⟨⟨⟨h0, h1⟩, h2⟩, h3⟩ := pre
  refine ⟨⟨fun j => EReal.toReal (X0 j), funext fun j => ?_⟩, ⟨fun j => EReal.toReal (X1 j), funext fun j => ?_⟩,
    ⟨fun j => EReal.toReal (X2 j), funext fun j => ?_⟩, ⟨fun j => EReal.toReal (X3 j), funext fun j => ?_⟩⟩
  · exact (real_of_abs_lt _ (reduce_one _ _ _ _ _ h0 j (funext fun a => a.elim0))).symm
  · exact (real_of_abs_lt _ (reduce_one _ _ _ _ _ h1 j (funext fun a => a.elim0))).symm
  · exact (real_of_abs_lt _ (reduce_one _ _ _ _ _ h2 j (funext fun a => a.elim0))).symm
  · exact (real_of_abs_lt _ (reduce_one _ _ _ _ _ h3 j (funext fun a => a.elim0))).symm

end Cert.FiniteScores
end
-- ==== Proof.SoftmaxRow.lean ====
/- One row of a causal softmax, as powers of two over a prefix of the keys and as exponentials over all of them. -/
module

public import Idealize.ShloMosaic.PureOps
public import Idealize.ShloMosaic.Lib.Pointwise

@[expose] public section
noncomputable section
open Idealize.ShloMosaic
namespace Cert.SoftmaxRow

/-- A row of scores with the keys after `i` masked. -/
def masked (s : ℕ → EReal) (i k : ℕ) : EReal := if k ≤ i then s k else ⊥

/-- The greatest masked score among the first `n` keys. -/
def top (n : ℕ) (s : ℕ → EReal) (i : ℕ) : EReal := (Finset.univ : Finset (Fin n)).fold max ⊥ fun k : Fin n => masked s i k

/-- The weighted sum of `v` over the first `n` keys, the weights powers of two. -/
def acc (n : ℕ) (s : ℕ → EReal) (i : ℕ) (v : ℕ → EReal) : EReal :=
  ∑ k : Fin n, Ideal.exp2 (masked s i k - top n s i) * v k

theorem fold_max_spec {n : ℕ} (f : Fin n → EReal) (hf : ∀ k, f k ≠ ⊤) :
    (Finset.univ : Finset (Fin n)).fold max ⊥ f ≠ ⊤ ∧ ∀ k, f k ≤ (Finset.univ : Finset (Fin n)).fold max ⊥ f := by
  constructor
  · have : (Finset.univ : Finset (Fin n)).fold max ⊥ f < ⊤ := by
      rw [Finset.fold_max_lt]
      exact ⟨bot_lt_top, fun k _ => lt_top_iff_ne_top.2 (hf k)⟩
    exact this.ne
  · intro k
    rw [Finset.le_fold_max]
    exact Or.inr ⟨k, Finset.mem_univ k, le_rfl⟩

/-- The greatest of real scores is real. -/
theorem top_real (n i : ℕ) (hi : i < n) (σ : ℕ → ℝ) : ∃ M : ℝ, top n (fun k => (σ k : EReal)) i = M := by
  obtain ⟨h1, h2⟩ := fold_max_spec (fun k : Fin n => masked (fun k => (σ k : EReal)) i k) (by
    intro k
    simp only [masked]
    split
    · exact EReal.coe_ne_top _
    · exact bot_ne_top)
  have h0 := h2 ⟨i, hi⟩
  simp only [masked, le_refl, ↓reduceIte] at h0
  refine ⟨(top n (fun k => (σ k : EReal)) i).toReal, (EReal.coe_toReal (by exact h1) ?_).symm⟩
  intro hb
  unfold top masked at hb
  rw [hb] at h0
  exact absurd (le_bot_iff.1 h0) (EReal.coe_ne_bot _)

/-- The weight of a key up to a factor of the row. -/
def wt (σ : ℕ → ℝ) (i k : ℕ) : ℝ := if k ≤ i then Real.exp (σ k) else 0

theorem wt_nonneg (σ : ℕ → ℝ) (i k : ℕ) : 0 ≤ wt σ i k := by
  unfold wt
  split
  · exact (Real.exp_pos _).le
  · exact le_rfl

theorem sum_wt_pos (n i : ℕ) (hi : i < n) (σ : ℕ → ℝ) : 0 < ∑ k : Fin n, wt σ i k := by
  refine Finset.sum_pos' (fun k _ => wt_nonneg σ i k) ⟨⟨i, hi⟩, Finset.mem_univ _, ?_⟩
  simp only [wt, le_refl, ↓reduceIte]
  exact Real.exp_pos _

theorem exp2_masked (σ : ℕ → ℝ) (i k : ℕ) (M : ℝ) :
    Ideal.exp2 (masked (fun k => ((σ k * (Real.log 2)⁻¹ : ℝ) : EReal)) i k - (M : EReal)) = ((wt σ i k * Real.rpow 2 (-M) : ℝ) : EReal) := by
  unfold masked wt
  split
  · rw [← EReal.coe_sub, Ideal.exp2_coe]
    congr 1
    have h2 : (0 : ℝ) < 2 := by norm_num
    have hl : Real.log 2 ≠ 0 := (Real.log_pos (by norm_num)).ne'
    show (2 : ℝ) ^ (σ k * (Real.log 2)⁻¹ - M) = Real.exp (σ k) * (2 : ℝ) ^ (-M)
    rw [sub_eq_add_neg, Real.rpow_add h2, Real.rpow_def_of_pos h2 (σ k * _)]
    congr 2
    field_simp
  · rw [EReal.bot_sub, Ideal.exp2_bot, zero_mul]
    rfl

theorem exp_masked (σ : ℕ → ℝ) (i k : ℕ) (M : ℝ) :
    Ideal.exp (masked (fun k => (σ k : EReal)) i k - (M : EReal)) = ((wt σ i k * Real.exp (-M) : ℝ) : EReal) := by
  unfold masked wt
  split
  · rw [← EReal.coe_sub, Ideal.exp_coe, sub_eq_add_neg, Real.exp_add]
  · rw [EReal.bot_sub, Ideal.exp_bot, zero_mul]
    rfl

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem sum_mul_real {n : ℕ} (f : Fin n → EReal) (c : ℝ) (hc : 0 ≤ c) : (∑ k, f k) * (c : EReal) = ∑ k, f k * (c : EReal) := by
  induction n with
  | zero => simp
  | succ n ih =>
    rw [Fin.sum_univ_castSucc, Fin.sum_univ_castSucc,
      EReal.right_distrib_of_nonneg_of_ne_top (by exact_mod_cast hc) (EReal.coe_ne_top _), ih]

/-- Keys of weight zero add nothing. -/
theorem sum_prefix (n N : ℕ) (hn : n ≤ N) (f : ℕ → EReal) (hf : ∀ k, n ≤ k → f k = 0) : ∑ k : Fin n, f k = ∑ k : Fin N, f k := by
  rw [Fin.sum_univ_eq_sum_range, Fin.sum_univ_eq_sum_range]
  exact Finset.sum_subset (Finset.range_subset_range.2 hn) fun k _ hk => hf k (by simpa using hk)

/-- A factor of the whole row cancels in its quotients. -/
theorem quotient (n i : ℕ) (hi : i < n) (σ : ℕ → ℝ) (c : ℝ) (hc : 0 < c) (v : ℕ → EReal) :
    Ideal.div (∑ k : Fin n, ((wt σ i k * c : ℝ) : EReal) * v k) (∑ k : Fin n, ((wt σ i k * c : ℝ) : EReal))
      = ∑ k : Fin n, ((wt σ i k / ∑ k : Fin n, wt σ i k : ℝ) : EReal) * v k := by
  have hS := sum_wt_pos n i hi σ
  rw [← coe_sum, ← Finset.sum_mul, Ideal.div_coe (mul_pos hS hc).ne', sum_mul_real _ _ (by positivity)]
  refine Finset.sum_congr rfl fun k _ => ?_
  rw [mul_right_comm, ← EReal.coe_mul]
  congr 2
  field_simp

/-- The row of the kernel and the row of the reference. -/
theorem row (n N i : ℕ) (hi : i < n) (hn : n ≤ N) (σ : ℕ → ℝ) (v : ℕ → EReal) (one : ℕ → EReal) (h1 : ∀ k, one k = 1) :
    Ideal.div (acc n (fun k => ((σ k * (Real.log 2)⁻¹ : ℝ) : EReal)) i v) (acc n (fun k => ((σ k * (Real.log 2)⁻¹ : ℝ) : EReal)) i one)
      = ∑ k : Fin N, Ideal.div (Ideal.exp (masked (fun k => (σ k : EReal)) i k - top N (fun k => (σ k : EReal)) i))
          (∑ k : Fin N, Ideal.exp (masked (fun k => (σ k : EReal)) i k - top N (fun k => (σ k : EReal)) i)) * v k := by
  obtain ⟨M, hM⟩ := top_real n i hi (fun k => σ k * (Real.log 2)⁻¹)
  obtain ⟨M', hM'⟩ := top_real N i (hi.trans_le hn) σ
  unfold acc
  simp only [hM, hM', exp2_masked, exp_masked, h1, mul_one]
  have hS := sum_wt_pos N i (hi.trans_le hn) σ
  rw [quotient n i hi σ (Real.rpow 2 (-M)) (Real.rpow_pos_of_pos (by norm_num) _) v, ← coe_sum, ← Finset.sum_mul]
  have e : (∑ k : Fin n, wt σ i k) = ∑ k : Fin N, wt σ i k := by
    rw [Fin.sum_univ_eq_sum_range, Fin.sum_univ_eq_sum_range]
    refine Finset.sum_subset (Finset.range_subset_range.2 hn) fun k _ hk => ?_
    have : n ≤ k := by simpa using hk
    rw [wt, if_neg (by omega)]
  rw [e, sum_prefix n N hn (fun k => ((wt σ i k / ∑ k : Fin N, wt σ i k : ℝ) : EReal) * v k) (by
    intro k hk
    rw [wt, if_neg (by omega), zero_div]
    exact zero_mul _)]
  refine Finset.sum_congr rfl fun k _ => ?_
  rw [Ideal.div_coe (mul_pos hS (Real.exp_pos _)).ne', ← EReal.coe_mul]
  congr 2
  have := Real.exp_pos (-M')
  field_simp

end Cert.SoftmaxRow
end
-- ==== Proof.MlaRef.lean ====
/- The result of the reference of the attention, read entry by entry. -/
module

public import proofs.«01_k».proof.Proof.Gen.ReferenceIdeal.Run
public import proofs.«01_k».proof.Proof.SoftmaxRow
public import Idealize.ShloMosaic.Lib.Pointwise
public import Idealize.ShloMosaic.Lib.WordCmp

@[expose] public section
set_option maxRecDepth 16384
noncomputable section
open Idealize.ShloMosaic Idealize.ShloMosaic.TcCoe Idealize.SL.Sem
namespace Cert.ReferenceIdeal.Result
open Cert.ReferenceIdeal Cert.ReferenceIdeal.Gen Cert.SoftmaxRow

variable (X0 : FVec Ideal S16x8x2048x64 .f32) (X1 : FVec Ideal S16x8x2048x32 .f32) (X2 : FVec Ideal S16x8x2048x64 .f32)
  (X3 : FVec Ideal S16x2048x32 .f32) (X4 : FVec Ideal S16x8x2048x64 .f32)

/-- The scaled scores, the later keys masked. -/
def scores : FVec Ideal S16x8x2048x2048 .f32 :=
  select (broadcastInDim S16x8x2048x2048 ![2, 3] bcast_S2048x2048_S16x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.dotGeneral dot_S16x8x2048x64_S16x8x2048x64_S16x8x2048x2048_3_3_2_2_01_01 none X0 X2) (Host.dotGeneral dot_S16x8x2048x32_S16x2048x32_S16x8x2048x2048_3_2_12_1_0_0 none X1 X3)) (broadcastInDim S16x8x2048x2048 ![] bcast_S_S16x8x2048x2048 (Host.divf (constant S_ .f32 0x3F800000#32) (Host.sqrt (constant S_ .f32 0x42C00000#32))))) (broadcastInDim S16x8x2048x2048 ![] bcast_S_S16x8x2048x2048 (id (constant S_ .f32 0xFF800000#32)))

/-- The greatest score of a row. -/
def tops (Z : FVec Ideal S16x8x2048x2048 .f32) : FVec Ideal S16x8x2048 .f32 :=
  Host.reduce FloatOps.maximumf Z (constant S_ .f32 0xFF800000#32) reducesTo_S16x8x2048x2048_S16x8x2048_d3 h_S_

/-- The exponentials of the scores less a number of each row. -/
def expsOf (Z : FVec Ideal S16x8x2048x2048 .f32) (W : FVec Ideal S16x8x2048 .f32) : FVec Ideal S16x8x2048x2048 .f32 :=
  Host.exp (subf Z (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) W))))

/-- The exponentials of the scores less the greatest of their row. -/
def exps (Z : FVec Ideal S16x8x2048x2048 .f32) : FVec Ideal S16x8x2048x2048 .f32 := expsOf Z (tops Z)

/-- The reference's result. -/
def result : FVec Ideal S16x2048x512 .bf16 :=
  truncf .bf16 (shapeCast _ (transpose S16x2048x8x64 [0, 2, 1, 3] (Host.dotGeneral dot_S16x8x2048x2048_S16x8x2048x64_S16x8x2048x64_3_2_2_3_01_01 none (Host.divf (exps (scores X0 X1 X2 X3)) (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd (exps (scores X0 X1 X2 X3)) (constant S_ .f32 0x00000000#32) reducesTo_S16x8x2048x2048_S16x8x2048_d3 h_S_)))) X4) transposes_S16x8x2048x64_S16x2048x8x64_0_2_1_3) shapeCasts_S16x2048x8x64_S16x2048x512) bitsLt_bf16_f32

/-- The score of query `i` and key `k` of a head. -/
def score (b : Fin 16) (h : Fin 8) (i k : Fin 2048) : EReal :=
  (∑ a : Fin 64, X0 (ix4 b h i a) * X2 (ix4 b h k a) + ∑ a : Fin 32, X1 (ix4 b h i a) * X3 (ix3 b k a))
    * Ideal.div 1 (Ideal.sqrt (Ideal.ofBits .f32 0x42C00000#32))

theorem neg_inf : Ideal.ofBits .f32 0xFF800000#32 = ⊥ := by simp [Ideal.ofBits, Ideal.ieee]

theorem sel_le (a b : ℕ) (ha : a < 2 ^ 31) (hb : b < 2 ^ 31) (x y : EReal) :
    Scalar.select (IntOp.cmpi .sle (BitVec.ofNat 32 a) (BitVec.ofNat 32 b)) x y = if a ≤ b then x else y := by
  simp (disch := word_cmp_side) only [hlo_ix]

theorem scores_at (b : Fin 16) (h : Fin 8) (i k : Fin 2048) (s : ℕ → EReal) (hs : ∀ k : Fin 2048, score X0 X1 X2 X3 b h i k = s k) :
    scores X0 X1 X2 X3 (ix4 b h i k) = masked s i k := by
  pointwise [scores, neg_inf]
  simp (disch := omega) only [sel_le]
  rw [masked, ← hs]
  rfl

theorem fold_eq (n : ℕ) (s : ℕ → EReal) (i : ℕ) :
    (Finset.univ : Finset (Fin n)).fold max ⊥ (fun k : Fin n => masked s i k) = top n s i := rfl

theorem fold_congr (n : ℕ) (f g : Fin n → EReal) (h : ∀ k, f k = g k) :
    (Finset.univ : Finset (Fin n)).fold max ⊥ f = (Finset.univ : Finset (Fin n)).fold max ⊥ g := by
  rw [funext h]

theorem tops_at (Z : FVec Ideal S16x8x2048x2048 .f32) (b : Fin 16) (h : Fin 8) (i : Fin 2048) (s : ℕ → EReal)
    (hZ : ∀ k : Fin 2048, Z (ix4 b h i k) = masked s i k) :
    tops Z (ix3 b h i) = top 2048 s i := by
  pointwise [tops]
  rw [neg_inf]
  exact (fold_congr 2048 _ _ hZ).trans (fold_eq 2048 s i)

theorem expsOf_at (Z : FVec Ideal S16x8x2048x2048 .f32) (W : FVec Ideal S16x8x2048 .f32) (b : Fin 16) (h : Fin 8) (i k : Fin 2048) :
    expsOf Z W (ix4 b h i k) = Ideal.exp (Z (ix4 b h i k) - max (Ideal.ofBits .f32 0xFF800000#32) (W (ix3 b h i))) := by
  pointwise [expsOf]

theorem top_eq (z w t u : EReal) (hz : z = u) (hw : w = t) : Ideal.exp (z - max (Ideal.ofBits .f32 0xFF800000#32) w) = Ideal.exp (u - t) := by
  rw [neg_inf, max_eq_right bot_le, hz, hw]

theorem exps_at (Z : FVec Ideal S16x8x2048x2048 .f32) (b : Fin 16) (h : Fin 8) (i k : Fin 2048) (s : ℕ → EReal)
    (hZ : ∀ k : Fin 2048, Z (ix4 b h i k) = masked s i k) :
    exps Z (ix4 b h i k) = Ideal.exp (masked s i k - top 2048 s i) :=
  (expsOf_at Z (tops Z) b h i k).trans (top_eq _ _ _ _ (hZ k) (tops_at Z b h i s hZ))

theorem result_at (b : Fin 16) (i : Fin 2048) (l : Fin 512) (s : ℕ → EReal)
    (hs : ∀ k : Fin 2048, score X0 X1 X2 X3 b ⟨l / 64, by omega⟩ i k = s k) :
    result X0 X1 X2 X3 X4 (ix3 b i l) = ∑ k : Fin 2048, Ideal.div (Ideal.exp (masked s i k - top 2048 s i))
      (∑ k : Fin 2048, Ideal.exp (masked s i k - top 2048 s i)) * X4 (ix4 b ⟨l / 64, by omega⟩ k ⟨l % 64, by omega⟩) := by
  have h := fun k => exps_at (scores X0 X1 X2 X3) b ⟨l / 64, by omega⟩ i k s (fun k => scores_at X0 X1 X2 X3 b _ i k s hs)
  pointwise [result, h]

end Cert.ReferenceIdeal.Result
end
-- ==== Proof.MlaRows.lean ====
/- The attention of a pair of heads: what the call stores for each row, read entry by entry. -/
module

public import proofs.«01_k».proof.Proof.Gen.KernelIdeal.Skeleton
public import proofs.«01_k».proof.Proof.SoftmaxRow
public import Idealize.ShloMosaic.Lib.Pointwise
public import Idealize.ShloMosaic.Lib.WordCmp

@[expose] public section
set_option maxRecDepth 16384
noncomputable section
open Idealize.ShloMosaic Idealize.ShloMosaic.TcCoe Idealize.SL.Sem
namespace Cert.KernelIdeal.MlaAttn
open Cert.KernelIdeal Cert.KernelIdeal.Gen Cert.SoftmaxRow

/-- The score of query `i` and key `k` in head `h` of the pair. -/
def sc (Q K : ℕ → ℕ → EReal) (h i k : ℕ) : EReal := ∑ x : Fin 128, Q i (128 * h + x) * K k (128 * h + x)

/-- What is stored for query `i` over the first `n` keys: the head's lanes over its spare lane. -/
def stored (Q K V : ℕ → ℕ → EReal) (n i l : ℕ) : EReal :=
  if l < 64 then Ideal.div (acc n (sc Q K 0 i) i fun k => V k l) (acc n (sc Q K 0 i) i fun k => V k 64)
  else Ideal.div (acc n (sc Q K 1 i) i fun k => V k (128 + l)) (acc n (sc Q K 1 i) i fun k => V k 128)

theorem neg_inf : Ideal.ofBits .f32 0xFF800000#32 = ⊥ := by simp [Ideal.ofBits, Ideal.ieee]

theorem sel_le (a b : ℕ) (ha : a < 2 ^ 31) (hb : b < 2 ^ 31) (x y : EReal) :
    Scalar.select (IntOp.cmpi .sle (BitVec.ofNat 32 a) (BitVec.ofNat 32 b)) x y = if a ≤ b then x else y := by
  simp (disch := word_cmp_side) only [hlo_ix]

theorem select_one (x y : EReal) : Scalar.select (1#1) x y = x := rfl
theorem select_zero (x y : EReal) : Scalar.select (0#1) x y = y := rfl
theorem exp2_eq (x : EReal) : FloatOps.exp2 (F := Ideal) (φ := .f32) x = Ideal.exp2 x := rfl

theorem acc_eq (n : ℕ) (s : ℕ → EReal) (i : ℕ) (v : ℕ → EReal) (w u : Fin n → EReal) (hw : ∀ k, w k = masked s i k)
    (hu : ∀ k, u k = v k) :
    ∑ k, Ideal.exp2 (w k - (Finset.univ : Finset (Fin n)).fold max ⊥ w) * u k = acc n s i v := by
  obtain rfl : w = fun k : Fin n => masked s i k := funext hw
  obtain rfl : u = fun k : Fin n => v k := funext hu
  rfl

/-- The last block of keys is summed apart. -/
theorem acc_eq_add (a b n : ℕ) (hn : n = a + b) (s : ℕ → EReal) (i : ℕ) (v : ℕ → EReal) (w : Fin n → EReal) (w1 u1 : Fin a → EReal)
    (w2 u2 : Fin b → EReal) (hw : ∀ k, w k = masked s i k) (hw1 : ∀ k, w1 k = masked s i k) (hw2 : ∀ k, w2 k = masked s i (a + k))
    (hu1 : ∀ k, u1 k = v k) (hu2 : ∀ k, u2 k = v (a + k)) :
    ∑ k, Ideal.exp2 (w1 k - (Finset.univ : Finset (Fin n)).fold max ⊥ w) * u1 k
      + ∑ k, Ideal.exp2 (w2 k - (Finset.univ : Finset (Fin n)).fold max ⊥ w) * u2 k = acc n s i v := by
  subst hn
  obtain rfl : w = fun k : Fin (a + b) => masked s i k := funext hw
  unfold acc
  rw [Fin.sum_univ_add]
  simp only [hw1, hw2, hu1, hu2, Fin.val_castAdd, Fin.val_natAdd]
  rfl

/-- The lanes of the even head. -/
theorem lanes_even (l : Fin 128) : IntOp.andi (IntOp.cmpi .sge (BitVec.ofNat 32 l) 0#32) (IntOp.cmpi .slt (BitVec.ofNat 32 l) 64#32)
    = if (l : ℕ) < 64 then 1#1 else 0#1 := by
  revert l; decide

/-- The lanes of the odd head. -/
theorem lanes_odd (l : Fin 128) : IntOp.andi (IntOp.cmpi .sge (BitVec.ofNat 32 l) 64#32) (IntOp.cmpi .slt (BitVec.ofNat 32 l) 128#32)
    = if (l : ℕ) < 64 then 0#1 else 1#1 := by
  revert l; decide

theorem main0 (Q K : ℕ → ℕ → EReal) (qa qb : Vec Ideal S1x512x128 .bf16) (ka : Vec Ideal S1x256x256 .bf16)
    (hqa : ∀ (i : Fin 512) (l : Fin 128), qa (ix3 0 i l) = Q (i) l)
    (hqb : ∀ (i : Fin 512) (l : Fin 128), qb (ix3 0 i l) = Q (i) (128 + l))
    (hka : ∀ (i : Fin 256) (l : Fin 256), ka (ix3 0 i l) = K i l) (r : Fin 1024) (k : Fin 256) :
    k0_pay6 (F := Ideal) qa qb ka (ix2 r k) = sc Q K (r / 512) (r % 512) k := by
  pointwise [k0_pay6, k0_pay4, k0_pay5, k0_pay3, hqa, hqb, hka]
  unfold sc
  by_cases h : (r : ℕ) < 512
  · have e : (r : ℕ) / 512 = 0 := by omega
    have e' : (r : ℕ) % 512 = r := by omega
    simp [h, e, e']
  · have e : (r : ℕ) / 512 = 1 := by omega
    have e' : (r : ℕ) % 512 = r - 512 := by omega
    simp [h, e, e']

theorem last0 (Q K : ℕ → ℕ → EReal) (qa qb : Vec Ideal S1x512x128 .bf16) (kb : Vec Ideal S1x256x256 .bf16)
    (hqa : ∀ (i : Fin 512) (l : Fin 128), qa (ix3 0 i l) = Q (i) l)
    (hqb : ∀ (i : Fin 512) (l : Fin 128), qb (ix3 0 i l) = Q (i) (128 + l))
    (hkb : ∀ (i : Fin 256) (l : Fin 256), kb (ix3 0 i l) = K (256 + i) l) (r : Fin 512) (k : Fin 256) :
    k0_pay7 (F := Ideal) qa qb kb (ix2 r k) = sc Q K (r / 256) (256 + r % 256) (256 + k) := by
  pointwise [k0_pay7, k0_pay4, k0_pay5, k0_pay3, hqa, hqb, hkb]
  unfold sc
  by_cases h : (r : ℕ) < 256
  · have e : (r : ℕ) / 256 = 0 := by omega
    have e' : (256 + (r : ℕ)) = 256 + r % 256 := by omega
    simp [h, e, e']
  · have e : (r : ℕ) / 256 = 1 := by omega
    have e' : (256 + ((r : ℕ) - 256)) = 256 + r % 256 := by omega
    simp [h, e, e']

set_option maxHeartbeats 1000000 in
theorem rows0a (Q K V : ℕ → ℕ → EReal) (qa qb : Vec Ideal S1x512x128 .bf16) (ka : Vec Ideal S1x256x256 .bf16) (kb : Vec Ideal S1x256x256 .bf16)
    (va vc : Vec Ideal S1x256x128 .bf16) (vb vd : Vec Ideal S1x256x128 .bf16)
    (hqa : ∀ (i : Fin 512) (l : Fin 128), qa (ix3 0 i l) = Q (i) l)
    (hqb : ∀ (i : Fin 512) (l : Fin 128), qb (ix3 0 i l) = Q (i) (128 + l))
    (hka : ∀ (i : Fin 256) (l : Fin 256), ka (ix3 0 i l) = K i l) (hkb : ∀ (i : Fin 256) (l : Fin 256), kb (ix3 0 i l) = K (256 + i) l)
    (hva : ∀ (i : Fin 256) (l : Fin 128), va (ix3 0 i l) = V i l)
    (hvb : ∀ (i : Fin 256) (l : Fin 128), vb (ix3 0 i l) = V (256 + i) l)
    (hvc : ∀ (i : Fin 256) (l : Fin 128), vc (ix3 0 i l) = V i (128 + l))
    (hvd : ∀ (i : Fin 256) (l : Fin 128), vd (ix3 0 i l) = V (256 + i) (128 + l))
    (r : Fin 256) (l : Fin 128) :
    k0_pay18 (F := Ideal) (k0_pay11 (k0_pay9 qa qb ka) (k0_pay10 qa qb ka kb) va vb) (k0_pay15 k0_pay2 (k0_pay6 qa qb ka) (k0_pay7 qa qb kb) vc) (k0_pay16 k0_pay2 (k0_pay6 qa qb ka) (k0_pay7 qa qb kb) vc) (k0_pay17 k0_pay2 (k0_pay6 qa qb ka) (k0_pay7 qa qb kb)) vd
      (ix3 0 ⟨r, by omega⟩ l) = stored Q K V 256 (r) l := by
  have hS := main0 Q K qa qb ka hqa hqb hka
  have hT := last0 Q K qa qb kb hqa hqb hkb
  pointwise [k0_pay18, k0_pay11, k0_pay9, k0_pay10, k0_pay15, k0_pay16, k0_pay17, k0_pay14, k0_pay13, k0_pay12, k0_pay8, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq 256 (sc Q K 0 ((r : ℕ))) ((r : ℕ)) (fun k => V k l) _ _ ?_ ?_
      all_goals (intro k; first | with_reducible rfl | (unfold masked; (repeat' split) <;> first | with_reducible rfl | (exfalso; omega) | (congr 1 <;> omega)))
    · refine acc_eq 256 (sc Q K 0 ((r : ℕ))) ((r : ℕ)) (fun k => V k 64) _ _ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq 256 (sc Q K 1 ((r : ℕ))) ((r : ℕ)) (fun k => V k (128 + l)) _ _ ?_ ?_
      all_goals (intro k; first | with_reducible rfl | (unfold masked; (repeat' split) <;> first | with_reducible rfl | (exfalso; omega) | (congr 1 <;> omega)))
    · refine acc_eq 256 (sc Q K 1 ((r : ℕ))) ((r : ℕ)) (fun k => V k 128) _ _ ?_ ?_
      all_goals (intro k; first | with_reducible rfl | (unfold masked; (repeat' split) <;> first | with_reducible rfl | (exfalso; omega) | (congr 1 <;> omega)))

set_option maxHeartbeats 1000000 in
theorem rows0b (Q K V : ℕ → ℕ → EReal) (qa qb : Vec Ideal S1x512x128 .bf16) (ka : Vec Ideal S1x256x256 .bf16) (kb : Vec Ideal S1x256x256 .bf16)
    (va vc : Vec Ideal S1x256x128 .bf16) (vb vd : Vec Ideal S1x256x128 .bf16)
    (hqa : ∀ (i : Fin 512) (l : Fin 128), qa (ix3 0 i l) = Q (i) l)
    (hqb : ∀ (i : Fin 512) (l : Fin 128), qb (ix3 0 i l) = Q (i) (128 + l))
    (hka : ∀ (i : Fin 256) (l : Fin 256), ka (ix3 0 i l) = K i l) (hkb : ∀ (i : Fin 256) (l : Fin 256), kb (ix3 0 i l) = K (256 + i) l)
    (hva : ∀ (i : Fin 256) (l : Fin 128), va (ix3 0 i l) = V i l)
    (hvb : ∀ (i : Fin 256) (l : Fin 128), vb (ix3 0 i l) = V (256 + i) l)
    (hvc : ∀ (i : Fin 256) (l : Fin 128), vc (ix3 0 i l) = V i (128 + l))
    (hvd : ∀ (i : Fin 256) (l : Fin 128), vd (ix3 0 i l) = V (256 + i) (128 + l))
    (r : Fin 256) (l : Fin 128) :
    k0_pay18 (F := Ideal) (k0_pay11 (k0_pay9 qa qb ka) (k0_pay10 qa qb ka kb) va vb) (k0_pay15 k0_pay2 (k0_pay6 qa qb ka) (k0_pay7 qa qb kb) vc) (k0_pay16 k0_pay2 (k0_pay6 qa qb ka) (k0_pay7 qa qb kb) vc) (k0_pay17 k0_pay2 (k0_pay6 qa qb ka) (k0_pay7 qa qb kb)) vd
      (ix3 0 ⟨256 + r, by omega⟩ l) = stored Q K V 512 (256 + r) l := by
  have hS := main0 Q K qa qb ka hqa hqb hka
  have hT := last0 Q K qa qb kb hqa hqb hkb
  pointwise [k0_pay18, k0_pay11, k0_pay9, k0_pay10, k0_pay15, k0_pay16, k0_pay17, k0_pay14, k0_pay13, k0_pay12, k0_pay8, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq_add 256 256 512 (by norm_num) (sc Q K 0 (256 + (r : ℕ))) (256 + (r : ℕ)) (fun k => V k l) _ _ _ _ _ ?_ ?_ ?_ ?_ ?_
      all_goals (intro k; first | with_reducible rfl | (unfold masked; (repeat' split) <;> first | with_reducible rfl | (exfalso; omega) | (congr 1 <;> omega)))
    · refine acc_eq_add 256 256 512 (by norm_num) (sc Q K 0 (256 + (r : ℕ))) (256 + (r : ℕ)) (fun k => V k 64) _ _ _ _ _ ?_ ?_ ?_ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq_add 256 256 512 (by norm_num) (sc Q K 1 (256 + (r : ℕ))) (256 + (r : ℕ)) (fun k => V k (128 + l)) _ _ _ _ _ ?_ ?_ ?_ ?_ ?_
      all_goals (intro k; first | with_reducible rfl | (unfold masked; (repeat' split) <;> first | with_reducible rfl | (exfalso; omega) | (congr 1 <;> omega)))
    · refine acc_eq_add 256 256 512 (by norm_num) (sc Q K 1 (256 + (r : ℕ))) (256 + (r : ℕ)) (fun k => V k 128) _ _ _ _ _ ?_ ?_ ?_ ?_ ?_
      all_goals (intro k; first | with_reducible rfl | (unfold masked; (repeat' split) <;> first | with_reducible rfl | (exfalso; omega) | (congr 1 <;> omega)))

theorem main1 (Q K : ℕ → ℕ → EReal) (qa qb : Vec Ideal S1x512x128 .bf16) (ka : Vec Ideal S1x768x256 .bf16)
    (hqa : ∀ (i : Fin 512) (l : Fin 128), qa (ix3 0 i l) = Q (512 + i) l)
    (hqb : ∀ (i : Fin 512) (l : Fin 128), qb (ix3 0 i l) = Q (512 + i) (128 + l))
    (hka : ∀ (i : Fin 768) (l : Fin 256), ka (ix3 0 i l) = K i l) (r : Fin 1024) (k : Fin 768) :
    k0_pay22 (F := Ideal) (k0_pay21 k0_pay3 qa qb) ka (ix2 r k) = sc Q K (r / 512) (512 + r % 512) k := by
  pointwise [k0_pay22, k0_pay21, k0_pay19, k0_pay20, k0_pay3, hqa, hqb, hka]
  unfold sc
  by_cases h : (r : ℕ) < 512
  · have e : (r : ℕ) / 512 = 0 := by omega
    have e' : (r : ℕ) % 512 = r := by omega
    simp [h, e, e']
  · have e : (r : ℕ) / 512 = 1 := by omega
    have e' : (r : ℕ) % 512 = r - 512 := by omega
    simp [h, e, e']

theorem last1 (Q K : ℕ → ℕ → EReal) (qa qb : Vec Ideal S1x512x128 .bf16) (kb : Vec Ideal S1x256x256 .bf16)
    (hqa : ∀ (i : Fin 512) (l : Fin 128), qa (ix3 0 i l) = Q (512 + i) l)
    (hqb : ∀ (i : Fin 512) (l : Fin 128), qb (ix3 0 i l) = Q (512 + i) (128 + l))
    (hkb : ∀ (i : Fin 256) (l : Fin 256), kb (ix3 0 i l) = K (768 + i) l) (r : Fin 512) (k : Fin 256) :
    k0_pay23 (F := Ideal) (k0_pay19 k0_pay3 qa) (k0_pay20 k0_pay3 qb) kb (ix2 r k) = sc Q K (r / 256) (768 + r % 256) (768 + k) := by
  pointwise [k0_pay23, k0_pay19, k0_pay20, k0_pay3, hqa, hqb, hkb]
  unfold sc
  by_cases h : (r : ℕ) < 256
  · have e : (r : ℕ) / 256 = 0 := by omega
    have e' : 512 + (256 + (r : ℕ)) = 768 + r % 256 := by omega
    simp [h, e, e']
  · have e : (r : ℕ) / 256 = 1 := by omega
    have e' : 512 + (256 + ((r : ℕ) - 256)) = 768 + r % 256 := by omega
    simp [h, e, e']

set_option maxHeartbeats 1000000 in
theorem rows1a (Q K V : ℕ → ℕ → EReal) (qa qb : Vec Ideal S1x512x128 .bf16) (ka : Vec Ideal S1x768x256 .bf16) (kb : Vec Ideal S1x256x256 .bf16)
    (va vc : Vec Ideal S1x768x128 .bf16) (vb vd : Vec Ideal S1x256x128 .bf16)
    (hqa : ∀ (i : Fin 512) (l : Fin 128), qa (ix3 0 i l) = Q (512 + i) l)
    (hqb : ∀ (i : Fin 512) (l : Fin 128), qb (ix3 0 i l) = Q (512 + i) (128 + l))
    (hka : ∀ (i : Fin 768) (l : Fin 256), ka (ix3 0 i l) = K i l) (hkb : ∀ (i : Fin 256) (l : Fin 256), kb (ix3 0 i l) = K (768 + i) l)
    (hva : ∀ (i : Fin 768) (l : Fin 128), va (ix3 0 i l) = V i l)
    (hvb : ∀ (i : Fin 256) (l : Fin 128), vb (ix3 0 i l) = V (768 + i) l)
    (hvc : ∀ (i : Fin 768) (l : Fin 128), vc (ix3 0 i l) = V i (128 + l))
    (hvd : ∀ (i : Fin 256) (l : Fin 128), vd (ix3 0 i l) = V (768 + i) (128 + l))
    (r : Fin 256) (l : Fin 128) :
    k0_pay33 (F := Ideal) (k0_pay30 (k0_pay27 k0_pay2 (k0_pay19 k0_pay3 qa) (k0_pay20 k0_pay3 qb) (k0_pay21 k0_pay3 qa qb) ka kb va) (k0_pay28 k0_pay2 (k0_pay19 k0_pay3 qa) (k0_pay20 k0_pay3 qb) (k0_pay21 k0_pay3 qa qb) ka kb va) (k0_pay29 k0_pay2 (k0_pay19 k0_pay3 qa) (k0_pay20 k0_pay3 qb) (k0_pay21 k0_pay3 qa qb) ka kb) vb) (k0_pay31 k0_pay2 (k0_pay22 (k0_pay21 k0_pay3 qa qb) ka) (k0_pay23 (k0_pay19 k0_pay3 qa) (k0_pay20 k0_pay3 qb) kb) vc vd) (iota .tc S512x128 32 [1] iota_S512x128_d1_w32) k0_pay32
      (ix3 0 ⟨r, by omega⟩ l) = stored Q K V 768 (512 + r) l := by
  have hS := main1 Q K qa qb ka hqa hqb hka
  have hT := last1 Q K qa qb kb hqa hqb hkb
  pointwise [k0_pay33, k0_pay30, k0_pay27, k0_pay28, k0_pay29, k0_pay31, k0_pay32, k0_pay26, k0_pay25, k0_pay24, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq 768 (sc Q K 0 (512 + (r : ℕ))) (512 + (r : ℕ)) (fun k => V k l) _ _ ?_ ?_
      all_goals (intro k; first | with_reducible rfl | (unfold masked; (repeat' split) <;> first | with_reducible rfl | (exfalso; omega) | (congr 1 <;> omega)))
    · refine acc_eq 768 (sc Q K 0 (512 + (r : ℕ))) (512 + (r : ℕ)) (fun k => V k 64) _ _ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq 768 (sc Q K 1 (512 + (r : ℕ))) (512 + (r : ℕ)) (fun k => V k (128 + l)) _ _ ?_ ?_
      all_goals (intro k; first | with_reducible rfl | (unfold masked; (repeat' split) <;> first | with_reducible rfl | (exfalso; omega) | (congr 1 <;> omega)))
    · refine acc_eq 768 (sc Q K 1 (512 + (r : ℕ))) (512 + (r : ℕ)) (fun k => V k 128) _ _ ?_ ?_
      all_goals (intro k; first | with_reducible rfl | (unfold masked; (repeat' split) <;> first | with_reducible rfl | (exfalso; omega) | (congr 1 <;> omega)))

set_option maxHeartbeats 1000000 in
theorem rows1b (Q K V : ℕ → ℕ → EReal) (qa qb : Vec Ideal S1x512x128 .bf16) (ka : Vec Ideal S1x768x256 .bf16) (kb : Vec Ideal S1x256x256 .bf16)
    (va vc : Vec Ideal S1x768x128 .bf16) (vb vd : Vec Ideal S1x256x128 .bf16)
    (hqa : ∀ (i : Fin 512) (l : Fin 128), qa (ix3 0 i l) = Q (512 + i) l)
    (hqb : ∀ (i : Fin 512) (l : Fin 128), qb (ix3 0 i l) = Q (512 + i) (128 + l))
    (hka : ∀ (i : Fin 768) (l : Fin 256), ka (ix3 0 i l) = K i l) (hkb : ∀ (i : Fin 256) (l : Fin 256), kb (ix3 0 i l) = K (768 + i) l)
    (hva : ∀ (i : Fin 768) (l : Fin 128), va (ix3 0 i l) = V i l)
    (hvb : ∀ (i : Fin 256) (l : Fin 128), vb (ix3 0 i l) = V (768 + i) l)
    (hvc : ∀ (i : Fin 768) (l : Fin 128), vc (ix3 0 i l) = V i (128 + l))
    (hvd : ∀ (i : Fin 256) (l : Fin 128), vd (ix3 0 i l) = V (768 + i) (128 + l))
    (r : Fin 256) (l : Fin 128) :
    k0_pay33 (F := Ideal) (k0_pay30 (k0_pay27 k0_pay2 (k0_pay19 k0_pay3 qa) (k0_pay20 k0_pay3 qb) (k0_pay21 k0_pay3 qa qb) ka kb va) (k0_pay28 k0_pay2 (k0_pay19 k0_pay3 qa) (k0_pay20 k0_pay3 qb) (k0_pay21 k0_pay3 qa qb) ka kb va) (k0_pay29 k0_pay2 (k0_pay19 k0_pay3 qa) (k0_pay20 k0_pay3 qb) (k0_pay21 k0_pay3 qa qb) ka kb) vb) (k0_pay31 k0_pay2 (k0_pay22 (k0_pay21 k0_pay3 qa qb) ka) (k0_pay23 (k0_pay19 k0_pay3 qa) (k0_pay20 k0_pay3 qb) kb) vc vd) (iota .tc S512x128 32 [1] iota_S512x128_d1_w32) k0_pay32
      (ix3 0 ⟨256 + r, by omega⟩ l) = stored Q K V 1024 (768 + r) l := by
  have hS := main1 Q K qa qb ka hqa hqb hka
  have hT := last1 Q K qa qb kb hqa hqb hkb
  pointwise [k0_pay33, k0_pay30, k0_pay27, k0_pay28, k0_pay29, k0_pay31, k0_pay32, k0_pay26, k0_pay25, k0_pay24, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq_add 768 256 1024 (by norm_num) (sc Q K 0 (768 + (r : ℕ))) (768 + (r : ℕ)) (fun k => V k l) _ _ _ _ _ ?_ ?_ ?_ ?_ ?_
      all_goals (intro k; first | with_reducible rfl | (unfold masked; (repeat' split) <;> first | with_reducible rfl | (exfalso; omega) | (congr 1 <;> omega)))
    · refine acc_eq_add 768 256 1024 (by norm_num) (sc Q K 0 (768 + (r : ℕ))) (768 + (r : ℕ)) (fun k => V k 64) _ _ _ _ _ ?_ ?_ ?_ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq_add 768 256 1024 (by norm_num) (sc Q K 1 (768 + (r : ℕ))) (768 + (r : ℕ)) (fun k => V k (128 + l)) _ _ _ _ _ ?_ ?_ ?_ ?_ ?_
      all_goals (intro k; first | with_reducible rfl | (unfold masked; (repeat' split) <;> first | with_reducible rfl | (exfalso; omega) | (congr 1 <;> omega)))
    · refine acc_eq_add 768 256 1024 (by norm_num) (sc Q K 1 (768 + (r : ℕ))) (768 + (r : ℕ)) (fun k => V k 128) _ _ _ _ _ ?_ ?_ ?_ ?_ ?_
      all_goals (intro k; first | with_reducible rfl | (unfold masked; (repeat' split) <;> first | with_reducible rfl | (exfalso; omega) | (congr 1 <;> omega)))

theorem main2 (Q K : ℕ → ℕ → EReal) (qa qb : Vec Ideal S1x512x128 .bf16) (ka : Vec Ideal S1x1280x256 .bf16)
    (hqa : ∀ (i : Fin 512) (l : Fin 128), qa (ix3 0 i l) = Q (1024 + i) l)
    (hqb : ∀ (i : Fin 512) (l : Fin 128), qb (ix3 0 i l) = Q (1024 + i) (128 + l))
    (hka : ∀ (i : Fin 1280) (l : Fin 256), ka (ix3 0 i l) = K i l) (r : Fin 1024) (k : Fin 1280) :
    k0_pay36 (F := Ideal) k0_pay3 qa qb ka (ix2 r k) = sc Q K (r / 512) (1024 + r % 512) k := by
  pointwise [k0_pay36, k0_pay34, k0_pay35, k0_pay3, hqa, hqb, hka]
  unfold sc
  by_cases h : (r : ℕ) < 512
  · have e : (r : ℕ) / 512 = 0 := by omega
    have e' : (r : ℕ) % 512 = r := by omega
    simp [h, e, e']
  · have e : (r : ℕ) / 512 = 1 := by omega
    have e' : (r : ℕ) % 512 = r - 512 := by omega
    simp [h, e, e']

theorem last2 (Q K : ℕ → ℕ → EReal) (qa qb : Vec Ideal S1x512x128 .bf16) (kb : Vec Ideal S1x256x256 .bf16)
    (hqa : ∀ (i : Fin 512) (l : Fin 128), qa (ix3 0 i l) = Q (1024 + i) l)
    (hqb : ∀ (i : Fin 512) (l : Fin 128), qb (ix3 0 i l) = Q (1024 + i) (128 + l))
    (hkb : ∀ (i : Fin 256) (l : Fin 256), kb (ix3 0 i l) = K (1280 + i) l) (r : Fin 512) (k : Fin 256) :
    k0_pay38 (F := Ideal) (k0_pay37 k0_pay3 qa qb) kb (ix2 r k) = sc Q K (r / 256) (1280 + r % 256) (1280 + k) := by
  pointwise [k0_pay38, k0_pay37, k0_pay34, k0_pay35, k0_pay3, hqa, hqb, hkb]
  unfold sc
  by_cases h : (r : ℕ) < 256
  · have e : (r : ℕ) / 256 = 0 := by omega
    have e' : 1024 + (256 + (r : ℕ)) = 1280 + r % 256 := by omega
    simp [h, e, e']
  · have e : (r : ℕ) / 256 = 1 := by omega
    have e' : 1024 + (256 + ((r : ℕ) - 256)) = 1280 + r % 256 := by omega
    simp [h, e, e']

set_option maxHeartbeats 1000000 in
theorem rows2a (Q K V : ℕ → ℕ → EReal) (qa qb : Vec Ideal S1x512x128 .bf16) (ka : Vec Ideal S1x1280x256 .bf16) (kb : Vec Ideal S1x256x256 .bf16)
    (va vc : Vec Ideal S1x1280x128 .bf16) (vb vd : Vec Ideal S1x256x128 .bf16)
    (hqa : ∀ (i : Fin 512) (l : Fin 128), qa (ix3 0 i l) = Q (1024 + i) l)
    (hqb : ∀ (i : Fin 512) (l : Fin 128), qb (ix3 0 i l) = Q (1024 + i) (128 + l))
    (hka : ∀ (i : Fin 1280) (l : Fin 256), ka (ix3 0 i l) = K i l) (hkb : ∀ (i : Fin 256) (l : Fin 256), kb (ix3 0 i l) = K (1280 + i) l)
    (hva : ∀ (i : Fin 1280) (l : Fin 128), va (ix3 0 i l) = V i l)
    (hvb : ∀ (i : Fin 256) (l : Fin 128), vb (ix3 0 i l) = V (1280 + i) l)
    (hvc : ∀ (i : Fin 1280) (l : Fin 128), vc (ix3 0 i l) = V i (128 + l))
    (hvd : ∀ (i : Fin 256) (l : Fin 128), vd (ix3 0 i l) = V (1280 + i) (128 + l))
    (r : Fin 256) (l : Fin 128) :
    k0_pay47 (F := Ideal) (k0_pay44 k0_pay2 (k0_pay38 (k0_pay37 k0_pay3 qa qb) kb) (k0_pay40 (k0_pay36 k0_pay3 qa qb ka)) (k0_pay41 (k0_pay36 k0_pay3 qa qb ka)) (k0_pay42 (k0_pay36 k0_pay3 qa qb ka)) (k0_pay43 k0_pay2 (k0_pay36 k0_pay3 qa qb ka)) vc vd) (k0_pay45 (k0_pay39 k0_pay2 (k0_pay36 k0_pay3 qa qb ka) (k0_pay37 k0_pay3 qa qb) kb va vb)) (iota .tc S512x128 32 [1] iota_S512x128_d1_w32) k0_pay46
      (ix3 0 ⟨r, by omega⟩ l) = stored Q K V 1280 (1024 + r) l := by
  have hS := main2 Q K qa qb ka hqa hqb hka
  have hT := last2 Q K qa qb kb hqa hqb hkb
  pointwise [k0_pay47, k0_pay44, k0_pay40, k0_pay41, k0_pay42, k0_pay43, k0_pay45, k0_pay39, k0_pay46, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq 1280 (sc Q K 0 (1024 + (r : ℕ))) (1024 + (r : ℕ)) (fun k => V k l) _ _ ?_ ?_
      all_goals (intro k; first | with_reducible rfl | (unfold masked; (repeat' split) <;> first | with_reducible rfl | (exfalso; omega) | (congr 1 <;> omega)))
    · refine acc_eq 1280 (sc Q K 0 (1024 + (r : ℕ))) (1024 + (r : ℕ)) (fun k => V k 64) _ _ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq 1280 (sc Q K 1 (1024 + (r : ℕ))) (1024 + (r : ℕ)) (fun k => V k (128 + l)) _ _ ?_ ?_
      all_goals (intro k; first | with_reducible rfl | (unfold masked; (repeat' split) <;> first | with_reducible rfl | (exfalso; omega) | (congr 1 <;> omega)))
    · refine acc_eq 1280 (sc Q K 1 (1024 + (r : ℕ))) (1024 + (r : ℕ)) (fun k => V k 128) _ _ ?_ ?_
      all_goals (intro k; first | with_reducible rfl | (unfold masked; (repeat' split) <;> first | with_reducible rfl | (exfalso; omega) | (congr 1 <;> omega)))

set_option maxHeartbeats 1000000 in
theorem rows2b (Q K V : ℕ → ℕ → EReal) (qa qb : Vec Ideal S1x512x128 .bf16) (ka : Vec Ideal S1x1280x256 .bf16) (kb : Vec Ideal S1x256x256 .bf16)
    (va vc : Vec Ideal S1x1280x128 .bf16) (vb vd : Vec Ideal S1x256x128 .bf16)
    (hqa : ∀ (i : Fin 512) (l : Fin 128), qa (ix3 0 i l) = Q (1024 + i) l)
    (hqb : ∀ (i : Fin 512) (l : Fin 128), qb (ix3 0 i l) = Q (1024 + i) (128 + l))
    (hka : ∀ (i : Fin 1280) (l : Fin 256), ka (ix3 0 i l) = K i l) (hkb : ∀ (i : Fin 256) (l : Fin 256), kb (ix3 0 i l) = K (1280 + i) l)
    (hva : ∀ (i : Fin 1280) (l : Fin 128), va (ix3 0 i l) = V i l)
    (hvb : ∀ (i : Fin 256) (l : Fin 128), vb (ix3 0 i l) = V (1280 + i) l)
    (hvc : ∀ (i : Fin 1280) (l : Fin 128), vc (ix3 0 i l) = V i (128 + l))
    (hvd : ∀ (i : Fin 256) (l : Fin 128), vd (ix3 0 i l) = V (1280 + i) (128 + l))
    (r : Fin 256) (l : Fin 128) :
    k0_pay47 (F := Ideal) (k0_pay44 k0_pay2 (k0_pay38 (k0_pay37 k0_pay3 qa qb) kb) (k0_pay40 (k0_pay36 k0_pay3 qa qb ka)) (k0_pay41 (k0_pay36 k0_pay3 qa qb ka)) (k0_pay42 (k0_pay36 k0_pay3 qa qb ka)) (k0_pay43 k0_pay2 (k0_pay36 k0_pay3 qa qb ka)) vc vd) (k0_pay45 (k0_pay39 k0_pay2 (k0_pay36 k0_pay3 qa qb ka) (k0_pay37 k0_pay3 qa qb) kb va vb)) (iota .tc S512x128 32 [1] iota_S512x128_d1_w32) k0_pay46
      (ix3 0 ⟨256 + r, by omega⟩ l) = stored Q K V 1536 (1280 + r) l := by
  have hS := main2 Q K qa qb ka hqa hqb hka
  have hT := last2 Q K qa qb kb hqa hqb hkb
  pointwise [k0_pay47, k0_pay44, k0_pay40, k0_pay41, k0_pay42, k0_pay43, k0_pay45, k0_pay39, k0_pay46, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq_add 1280 256 1536 (by norm_num) (sc Q K 0 (1280 + (r : ℕ))) (1280 + (r : ℕ)) (fun k => V k l) _ _ _ _ _ ?_ ?_ ?_ ?_ ?_
      all_goals (intro k; first | with_reducible rfl | (unfold masked; (repeat' split) <;> first | with_reducible rfl | (exfalso; omega) | (congr 1 <;> omega)))
    · refine acc_eq_add 1280 256 1536 (by norm_num) (sc Q K 0 (1280 + (r : ℕ))) (1280 + (r : ℕ)) (fun k => V k 64) _ _ _ _ _ ?_ ?_ ?_ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq_add 1280 256 1536 (by norm_num) (sc Q K 1 (1280 + (r : ℕ))) (1280 + (r : ℕ)) (fun k => V k (128 + l)) _ _ _ _ _ ?_ ?_ ?_ ?_ ?_
      all_goals (intro k; first | with_reducible rfl | (unfold masked; (repeat' split) <;> first | with_reducible rfl | (exfalso; omega) | (congr 1 <;> omega)))
    · refine acc_eq_add 1280 256 1536 (by norm_num) (sc Q K 1 (1280 + (r : ℕ))) (1280 + (r : ℕ)) (fun k => V k 128) _ _ _ _ _ ?_ ?_ ?_ ?_ ?_
      all_goals (intro k; first | with_reducible rfl | (unfold masked; (repeat' split) <;> first | with_reducible rfl | (exfalso; omega) | (congr 1 <;> omega)))

theorem main3 (Q K : ℕ → ℕ → EReal) (qa qb : Vec Ideal S1x512x128 .bf16) (ka : Vec Ideal S1x1792x256 .bf16)
    (hqa : ∀ (i : Fin 512) (l : Fin 128), qa (ix3 0 i l) = Q (1536 + i) l)
    (hqb : ∀ (i : Fin 512) (l : Fin 128), qb (ix3 0 i l) = Q (1536 + i) (128 + l))
    (hka : ∀ (i : Fin 1792) (l : Fin 256), ka (ix3 0 i l) = K i l) (r : Fin 1024) (k : Fin 1792) :
    k0_pay50 (F := Ideal) k0_pay3 qa qb ka (ix2 r k) = sc Q K (r / 512) (1536 + r % 512) k := by
  pointwise [k0_pay50, k0_pay48, k0_pay49, k0_pay3, hqa, hqb, hka]
  unfold sc
  by_cases h : (r : ℕ) < 512
  · have e : (r : ℕ) / 512 = 0 := by omega
    have e' : (r : ℕ) % 512 = r := by omega
    simp [h, e, e']
  · have e : (r : ℕ) / 512 = 1 := by omega
    have e' : (r : ℕ) % 512 = r - 512 := by omega
    simp [h, e, e']

theorem last3 (Q K : ℕ → ℕ → EReal) (qa qb : Vec Ideal S1x512x128 .bf16) (kb : Vec Ideal S1x256x256 .bf16)
    (hqa : ∀ (i : Fin 512) (l : Fin 128), qa (ix3 0 i l) = Q (1536 + i) l)
    (hqb : ∀ (i : Fin 512) (l : Fin 128), qb (ix3 0 i l) = Q (1536 + i) (128 + l))
    (hkb : ∀ (i : Fin 256) (l : Fin 256), kb (ix3 0 i l) = K (1792 + i) l) (r : Fin 512) (k : Fin 256) :
    k0_pay51 (F := Ideal) k0_pay3 qa qb kb (ix2 r k) = sc Q K (r / 256) (1792 + r % 256) (1792 + k) := by
  pointwise [k0_pay51, k0_pay48, k0_pay49, k0_pay3, hqa, hqb, hkb]
  unfold sc
  by_cases h : (r : ℕ) < 256
  · have e : (r : ℕ) / 256 = 0 := by omega
    have e' : 1536 + (256 + (r : ℕ)) = 1792 + r % 256 := by omega
    simp [h, e, e']
  · have e : (r : ℕ) / 256 = 1 := by omega
    have e' : 1536 + (256 + ((r : ℕ) - 256)) = 1792 + r % 256 := by omega
    simp [h, e, e']

set_option maxHeartbeats 1000000 in
theorem rows3a (Q K V : ℕ → ℕ → EReal) (qa qb : Vec Ideal S1x512x128 .bf16) (ka : Vec Ideal S1x1792x256 .bf16) (kb : Vec Ideal S1x256x256 .bf16)
    (va vc : Vec Ideal S1x1792x128 .bf16) (vb vd : Vec Ideal S1x256x128 .bf16)
    (hqa : ∀ (i : Fin 512) (l : Fin 128), qa (ix3 0 i l) = Q (1536 + i) l)
    (hqb : ∀ (i : Fin 512) (l : Fin 128), qb (ix3 0 i l) = Q (1536 + i) (128 + l))
    (hka : ∀ (i : Fin 1792) (l : Fin 256), ka (ix3 0 i l) = K i l) (hkb : ∀ (i : Fin 256) (l : Fin 256), kb (ix3 0 i l) = K (1792 + i) l)
    (hva : ∀ (i : Fin 1792) (l : Fin 128), va (ix3 0 i l) = V i l)
    (hvb : ∀ (i : Fin 256) (l : Fin 128), vb (ix3 0 i l) = V (1792 + i) l)
    (hvc : ∀ (i : Fin 1792) (l : Fin 128), vc (ix3 0 i l) = V i (128 + l))
    (hvd : ∀ (i : Fin 256) (l : Fin 128), vd (ix3 0 i l) = V (1792 + i) (128 + l))
    (r : Fin 256) (l : Fin 128) :
    k0_pay1 (F := Ideal) (k0_pay60 (k0_pay56 k0_pay2 (k0_pay51 k0_pay3 qa qb kb) (k0_pay53 k0_pay2 k0_pay3 qa qb ka) (k0_pay54 k0_pay3 qa qb ka) (k0_pay55 k0_pay3 qa qb ka) va vb) (k0_pay58 k0_pay2 (k0_pay50 k0_pay3 qa qb ka) (k0_pay51 k0_pay3 qa qb kb)) (k0_pay59 k0_pay2 (k0_pay50 k0_pay3 qa qb ka)) vc vd)
      (ix3 0 ⟨r, by omega⟩ l) = stored Q K V 1792 (1536 + r) l := by
  have hS := main3 Q K qa qb ka hqa hqb hka
  have hT := last3 Q K qa qb kb hqa hqb hkb
  pointwise [k0_pay1, k0_pay60, k0_pay56, k0_pay53, k0_pay54, k0_pay55, k0_pay58, k0_pay59, k0_pay57, k0_pay52, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq 1792 (sc Q K 0 (1536 + (r : ℕ))) (1536 + (r : ℕ)) (fun k => V k l) _ _ ?_ ?_
      all_goals (intro k; first | with_reducible rfl | (unfold masked; (repeat' split) <;> first | with_reducible rfl | (exfalso; omega) | (congr 1 <;> omega)))
    · refine acc_eq 1792 (sc Q K 0 (1536 + (r : ℕ))) (1536 + (r : ℕ)) (fun k => V k 64) _ _ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq 1792 (sc Q K 1 (1536 + (r : ℕ))) (1536 + (r : ℕ)) (fun k => V k (128 + l)) _ _ ?_ ?_
      all_goals (intro k; first | with_reducible rfl | (unfold masked; (repeat' split) <;> first | with_reducible rfl | (exfalso; omega) | (congr 1 <;> omega)))
    · refine acc_eq 1792 (sc Q K 1 (1536 + (r : ℕ))) (1536 + (r : ℕ)) (fun k => V k 128) _ _ ?_ ?_
      all_goals (intro k; first | with_reducible rfl | (unfold masked; (repeat' split) <;> first | with_reducible rfl | (exfalso; omega) | (congr 1 <;> omega)))

set_option maxHeartbeats 1000000 in
theorem rows3b (Q K V : ℕ → ℕ → EReal) (qa qb : Vec Ideal S1x512x128 .bf16) (ka : Vec Ideal S1x1792x256 .bf16) (kb : Vec Ideal S1x256x256 .bf16)
    (va vc : Vec Ideal S1x1792x128 .bf16) (vb vd : Vec Ideal S1x256x128 .bf16)
    (hqa : ∀ (i : Fin 512) (l : Fin 128), qa (ix3 0 i l) = Q (1536 + i) l)
    (hqb : ∀ (i : Fin 512) (l : Fin 128), qb (ix3 0 i l) = Q (1536 + i) (128 + l))
    (hka : ∀ (i : Fin 1792) (l : Fin 256), ka (ix3 0 i l) = K i l) (hkb : ∀ (i : Fin 256) (l : Fin 256), kb (ix3 0 i l) = K (1792 + i) l)
    (hva : ∀ (i : Fin 1792) (l : Fin 128), va (ix3 0 i l) = V i l)
    (hvb : ∀ (i : Fin 256) (l : Fin 128), vb (ix3 0 i l) = V (1792 + i) l)
    (hvc : ∀ (i : Fin 1792) (l : Fin 128), vc (ix3 0 i l) = V i (128 + l))
    (hvd : ∀ (i : Fin 256) (l : Fin 128), vd (ix3 0 i l) = V (1792 + i) (128 + l))
    (r : Fin 256) (l : Fin 128) :
    k0_pay1 (F := Ideal) (k0_pay60 (k0_pay56 k0_pay2 (k0_pay51 k0_pay3 qa qb kb) (k0_pay53 k0_pay2 k0_pay3 qa qb ka) (k0_pay54 k0_pay3 qa qb ka) (k0_pay55 k0_pay3 qa qb ka) va vb) (k0_pay58 k0_pay2 (k0_pay50 k0_pay3 qa qb ka) (k0_pay51 k0_pay3 qa qb kb)) (k0_pay59 k0_pay2 (k0_pay50 k0_pay3 qa qb ka)) vc vd)
      (ix3 0 ⟨256 + r, by omega⟩ l) = stored Q K V 2048 (1792 + r) l := by
  have hS := main3 Q K qa qb ka hqa hqb hka
  have hT := last3 Q K qa qb kb hqa hqb hkb
  pointwise [k0_pay1, k0_pay60, k0_pay56, k0_pay53, k0_pay54, k0_pay55, k0_pay58, k0_pay59, k0_pay57, k0_pay52, k0_pay2, hS, hT, hva, hvb, hvc, hvd, neg_inf, lanes_even, lanes_odd]
  simp (disch := omega) only [sel_le]
  unfold stored
  by_cases hl : (l : ℕ) < 64
  · simp only [hl, ↓reduceIte, select_one, select_zero, add_zero, exp2_eq]
    refine congrArg₂ Ideal.div ?_ ?_
    · refine acc_eq_add 1792 256 2048 (by norm_num) (sc Q K 0 (1792 + (r : ℕ))) (1792 + (r : ℕ)) (fun k => V k l) _ _ _ _ _ ?_ ?_ ?_ ?_ ?_
      all_goals (intro k; first | with_reducible rfl | (unfold masked; (repeat' split) <;> first | with_reducible rfl | (exfalso; omega) | (congr 1 <;> omega)))
    · refine acc_eq_add 1792 256 2048 (by norm_num) (sc Q K 0 (1792 + (r : ℕ))) (1792 + (r : ℕ)) (fun k => V k 64) _ _ _ _ _ ?_ ?_ ?_ ?_ ?_
      all_goals (intro k; first | with_reducible rfl | (unfold masked; (repeat' split) <;> first | with_reducible rfl | (exfalso; omega) | (congr 1 <;> omega)))
  · simp only [hl, ↓reduceIte, select_one, select_zero, zero_add, exp2_eq]
    refine congrArg₂ Ideal.div ?_ ?_
    · refine acc_eq_add 1792 256 2048 (by norm_num) (sc Q K 1 (1792 + (r : ℕ))) (1792 + (r : ℕ)) (fun k => V k (128 + l)) _ _ _ _ _ ?_ ?_ ?_ ?_ ?_
      all_goals (intro k; first | with_reducible rfl | (unfold masked; (repeat' split) <;> first | with_reducible rfl | (exfalso; omega) | (congr 1 <;> omega)))
    · refine acc_eq_add 1792 256 2048 (by norm_num) (sc Q K 1 (1792 + (r : ℕ))) (1792 + (r : ℕ)) (fun k => V k 128) _ _ _ _ _ ?_ ?_ ?_ ?_ ?_
      all_goals (intro k; first | with_reducible rfl | (unfold masked; (repeat' split) <;> first | with_reducible rfl | (exfalso; omega) | (congr 1 <;> omega)))

end Cert.KernelIdeal.MlaAttn
end
-- ==== Proof.MlaHost.lean ====
/- What the operations before the attention's launch leave in each of their arrays. -/
module

public import proofs.«01_k».proof.Proof.Gen.KernelIdeal.Value
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.MlaAttn
open Cert.KernelIdeal Cert.KernelIdeal.Gen
variable (m : (ℓ : Loc nD τ sig) → Buf (Elt Ideal) ℓ) (c : Dev nD)

/-- The operations before the launch. -/
def ops : List (HloOp τ sig (Elt Ideal)) := hostOps0 (F := Ideal)

/-- The array each of them writes. -/
def outs : List (Ref sig .tc) := [main_cst, main_v0, main_cst_0, main_v1, main_v2, main_cst_1, main_v3, main_cst_2, main_v4, main_v5, main_v6, main_v7, main_v8, main_v9, main_v10, main_v11, main_v12, main_v13, main_v14, main_v15, main_v16, main_cst_3, main_v17, main_cst_4, main_v18, main_v19, main_v20, main_v21, main_v22, main_v23, main_v24, main_v25, main_v26, main_v27, main_v28, main_v29]

theorem ops_writes : List.Forall₂ (fun (op : HloOp τ sig (Elt Ideal)) r => op.writes = {Proc.devRef .tc r}) ops outs := by
  unfold ops outs
  repeat' first | exact List.Forall₂.nil | refine List.Forall₂.cons rfl ?_

/-- The arrays after the first `n` operations. -/
def upto (n : ℕ) : Valuation τ sig (Elt Ideal) := StableHlo.after (ops.take n) fun b => m (c, b)

theorem after_append (l l' : List (HloOp τ sig (Elt Ideal))) (σ : Valuation τ sig (Elt Ideal)) :
    StableHlo.after (l ++ l') σ = StableHlo.after l' (StableHlo.after l σ) := by
  induction l generalizing σ with
  | nil => rfl
  | cons op l ih => exact ih _

/-- An array none of the later operations writes. -/
theorem before (n : ℕ) (r : Ref sig .tc) (hr : r ∉ outs.drop n) : upto m c n (Proc.devRef .tc r) = V m c r := by
  have e : V m c r = StableHlo.after (ops.take n ++ ops.drop n) (fun b => m (c, b)) (Proc.devRef .tc r) := by
    rw [List.take_append_drop]; rfl
  rw [e, after_append]
  refine (StableHlo.after_of_forall_not_mem _ _ fun op hop hm => hr ?_).symm
  have h := List.forall₂_drop n ops_writes
  obtain ⟨k, hk, rfl⟩ := List.getElem_of_mem hop
  have h2 := h.get hk (h.length_eq ▸ hk)
  simp only [List.get_eq_getElem] at h2
  rw [h2, Finset.mem_singleton] at hm
  by_cases h3 : r = (outs.drop n)[k]'(h.length_eq ▸ hk)
  · rw [h3]; exact List.getElem_mem _
  · exact absurd hm (StableHlo.devRef_ne_of_ne h3)

/-- The array an operation writes. -/
theorem at_step (n : ℕ) (op : HloOp τ sig (Elt Ideal)) (hop : ops[n]? = some op) (y : Ref sig .tc) (hy : y ∉ outs.drop (n + 1)) :
    V m c y = op.result (upto m c n) (Proc.devRef .tc y) := by
  rw [← before m c (n + 1) y hy, upto, upto, List.take_succ, hop, after_append]
  rfl

theorem congr3 {α β γ δ : Type} (f : α → β → γ → δ) {a a' : α} {b b' : β} {d d' : γ} (ha : a = a') (hb : b = b') (hd : d = d') :
    f a b d = f a' b' d' := by rw [ha, hb, hd]

theorem V_cst : V m c main_cst = constant (F := Ideal) S_ .f32 0x42C00000#32 :=
  (at_step m c 0 _ rfl main_cst (by decide)).trans (StableHlo.nullary_result ..)

theorem V_v0 : V m c main_v0 = ((Host.sqrt (V m c main_cst : FVec Ideal S_ .f32)) : FVec Ideal S_ .f32) :=
  (at_step m c 1 _ rfl main_v0 (by decide)).trans ((StableHlo.unary_result ..).trans (congrArg (fun v => (Host.sqrt (v : FVec Ideal S_ .f32))) (before m c 1 main_cst (by decide))))

theorem V_cst_0 : V m c main_cst_0 = constant (F := Ideal) S_ .f32 0x40000000#32 :=
  (at_step m c 2 _ rfl main_cst_0 (by decide)).trans (StableHlo.nullary_result ..)

theorem V_v1 : V m c main_v1 = ((Host.log (V m c main_cst_0 : FVec Ideal S_ .f32)) : FVec Ideal S_ .f32) :=
  (at_step m c 3 _ rfl main_v1 (by decide)).trans ((StableHlo.unary_result ..).trans (congrArg (fun v => (Host.log (v : FVec Ideal S_ .f32))) (before m c 3 main_cst_0 (by decide))))

theorem V_v2 : V m c main_v2 = ((mulf (V m c main_v0 : FVec Ideal S_ .f32) (V m c main_v1 : FVec Ideal S_ .f32)) : FVec Ideal S_ .f32) :=
  (at_step m c 4 _ rfl main_v2 (by decide)).trans ((StableHlo.binary_result ..).trans (congrArg₂ (fun (v : FVec Ideal S_ .f32) (w : FVec Ideal S_ .f32) => (mulf v w)) (before m c 4 main_v0 (by decide)) (before m c 4 main_v1 (by decide))))

theorem V_cst_1 : V m c main_cst_1 = constant (F := Ideal) S_ .f32 0x3F800000#32 :=
  (at_step m c 5 _ rfl main_cst_1 (by decide)).trans (StableHlo.nullary_result ..)

theorem V_v3 : V m c main_v3 = ((Host.divf (V m c main_cst_1 : FVec Ideal S_ .f32) (V m c main_v2 : FVec Ideal S_ .f32)) : FVec Ideal S_ .f32) :=
  (at_step m c 6 _ rfl main_v3 (by decide)).trans ((StableHlo.binary_result ..).trans (congrArg₂ (fun (v : FVec Ideal S_ .f32) (w : FVec Ideal S_ .f32) => (Host.divf v w)) (before m c 6 main_cst_1 (by decide)) (before m c 6 main_v2 (by decide))))

theorem V_cst_2 : V m c main_cst_2 = constant (F := Ideal) S_ .f32 0x00000000#32 :=
  (at_step m c 7 _ rfl main_cst_2 (by decide)).trans (StableHlo.nullary_result ..)

theorem V_v4 : V m c main_v4 = ((broadcastInDim S16x8x2048x32 ![] bcast_S_S16x8x2048x32 (V m c main_cst_2 : FVec Ideal S_ .f32)) : FVec Ideal S16x8x2048x32 .f32) :=
  (at_step m c 8 _ rfl main_v4 (by decide)).trans ((StableHlo.unary_result ..).trans (congrArg (fun v => (broadcastInDim S16x8x2048x32 ![] bcast_S_S16x8x2048x32 (v : FVec Ideal S_ .f32))) (before m c 8 main_cst_2 (by decide))))

theorem V_v5 : V m c main_v5 = concatenate S16x8x2048x128 3 [⟨S16x8x2048x64, (V m c main_arg0 : FVec Ideal S16x8x2048x64 .f32)⟩, ⟨S16x8x2048x32, (V m c main_arg1 : FVec Ideal S16x8x2048x32 .f32)⟩, ⟨S16x8x2048x32, (V m c main_v4 : FVec Ideal S16x8x2048x32 .f32)⟩] concatenates_S16x8x2048x64_S16x8x2048x32_S16x8x2048x32_S16x8x2048x128_d3 :=
  (at_step m c 9 _ rfl main_v5 (by decide)).trans ((StableHlo.nary_result ..).trans (congr3 (fun (v0 : FVec Ideal S16x8x2048x64 .f32) (v1 : FVec Ideal S16x8x2048x32 .f32) (v2 : FVec Ideal S16x8x2048x32 .f32) => concatenate S16x8x2048x128 3 [⟨S16x8x2048x64, v0⟩, ⟨S16x8x2048x32, v1⟩, ⟨S16x8x2048x32, v2⟩] concatenates_S16x8x2048x64_S16x8x2048x32_S16x8x2048x32_S16x8x2048x128_d3) (before m c 9 main_arg0 (by decide)) (before m c 9 main_arg1 (by decide)) (before m c 9 main_v4 (by decide))))

theorem V_v6 : V m c main_v6 = ((broadcastInDim S16x8x2048x128 ![] bcast_S_S16x8x2048x128 (V m c main_v3 : FVec Ideal S_ .f32)) : FVec Ideal S16x8x2048x128 .f32) :=
  (at_step m c 10 _ rfl main_v6 (by decide)).trans ((StableHlo.unary_result ..).trans (congrArg (fun v => (broadcastInDim S16x8x2048x128 ![] bcast_S_S16x8x2048x128 (v : FVec Ideal S_ .f32))) (before m c 10 main_v3 (by decide))))

theorem V_v7 : V m c main_v7 = ((mulf (V m c main_v5 : FVec Ideal S16x8x2048x128 .f32) (V m c main_v6 : FVec Ideal S16x8x2048x128 .f32)) : FVec Ideal S16x8x2048x128 .f32) :=
  (at_step m c 11 _ rfl main_v7 (by decide)).trans ((StableHlo.binary_result ..).trans (congrArg₂ (fun (v : FVec Ideal S16x8x2048x128 .f32) (w : FVec Ideal S16x8x2048x128 .f32) => (mulf v w)) (before m c 11 main_v5 (by decide)) (before m c 11 main_v6 (by decide))))

theorem V_v8 : V m c main_v8 = ((transpose S16x2048x8x128 [0, 2, 1, 3] (V m c main_v7 : FVec Ideal S16x8x2048x128 .f32) transposes_S16x8x2048x128_S16x2048x8x128_0_2_1_3) : FVec Ideal S16x2048x8x128 .f32) :=
  (at_step m c 12 _ rfl main_v8 (by decide)).trans ((StableHlo.unary_result ..).trans (congrArg (fun v => (transpose S16x2048x8x128 [0, 2, 1, 3] (v : FVec Ideal S16x8x2048x128 .f32) transposes_S16x8x2048x128_S16x2048x8x128_0_2_1_3)) (before m c 12 main_v7 (by decide))))

theorem V_v9 : V m c main_v9 = shapeCast S16x2048x1024 (V m c main_v8 : FVec Ideal S16x2048x8x128 .f32) shapeCasts_S16x2048x8x128_S16x2048x1024 :=
  (at_step m c 13 _ rfl main_v9 (by decide)).trans ((StableHlo.reshape_result ..).trans (congrArg (fun v => shapeCast S16x2048x1024 (v : FVec Ideal S16x2048x8x128 .f32) shapeCasts_S16x2048x8x128_S16x2048x1024) (before m c 13 main_v8 (by decide))))

theorem V_v10 : V m c main_v10 = ((truncf .bf16 (V m c main_v9 : FVec Ideal S16x2048x1024 .f32) bitsLt_bf16_f32) : FVec Ideal S16x2048x1024 .bf16) :=
  (at_step m c 14 _ rfl main_v10 (by decide)).trans ((StableHlo.unary_result ..).trans (congrArg (fun v => (truncf .bf16 (v : FVec Ideal S16x2048x1024 .f32) bitsLt_bf16_f32)) (before m c 14 main_v9 (by decide))))

theorem V_v11 : V m c main_v11 = ((broadcastInDim S16x1x2048x32 ![0, 2, 3] bcast_S16x2048x32_S16x1x2048x32_0_2_3 (V m c main_arg3 : FVec Ideal S16x2048x32 .f32)) : FVec Ideal S16x1x2048x32 .f32) :=
  (at_step m c 15 _ rfl main_v11 (by decide)).trans ((StableHlo.unary_result ..).trans (congrArg (fun v => (broadcastInDim S16x1x2048x32 ![0, 2, 3] bcast_S16x2048x32_S16x1x2048x32_0_2_3 (v : FVec Ideal S16x2048x32 .f32))) (before m c 15 main_arg3 (by decide))))

theorem V_v12 : V m c main_v12 = ((broadcastInDim S16x8x2048x32 ![0, 1, 2, 3] bcast_S16x1x2048x32_S16x8x2048x32_0_1_2_3 (V m c main_v11 : FVec Ideal S16x1x2048x32 .f32)) : FVec Ideal S16x8x2048x32 .f32) :=
  (at_step m c 16 _ rfl main_v12 (by decide)).trans ((StableHlo.unary_result ..).trans (congrArg (fun v => (broadcastInDim S16x8x2048x32 ![0, 1, 2, 3] bcast_S16x1x2048x32_S16x8x2048x32_0_1_2_3 (v : FVec Ideal S16x1x2048x32 .f32))) (before m c 16 main_v11 (by decide))))

theorem V_v13 : V m c main_v13 = concatenate S16x8x2048x128 3 [⟨S16x8x2048x64, (V m c main_arg2 : FVec Ideal S16x8x2048x64 .f32)⟩, ⟨S16x8x2048x32, (V m c main_v12 : FVec Ideal S16x8x2048x32 .f32)⟩, ⟨S16x8x2048x32, (V m c main_v4 : FVec Ideal S16x8x2048x32 .f32)⟩] concatenates_S16x8x2048x64_S16x8x2048x32_S16x8x2048x32_S16x8x2048x128_d3 :=
  (at_step m c 17 _ rfl main_v13 (by decide)).trans ((StableHlo.nary_result ..).trans (congr3 (fun (v0 : FVec Ideal S16x8x2048x64 .f32) (v1 : FVec Ideal S16x8x2048x32 .f32) (v2 : FVec Ideal S16x8x2048x32 .f32) => concatenate S16x8x2048x128 3 [⟨S16x8x2048x64, v0⟩, ⟨S16x8x2048x32, v1⟩, ⟨S16x8x2048x32, v2⟩] concatenates_S16x8x2048x64_S16x8x2048x32_S16x8x2048x32_S16x8x2048x128_d3) (before m c 17 main_arg2 (by decide)) (before m c 17 main_v12 (by decide)) (before m c 17 main_v4 (by decide))))

theorem V_v14 : V m c main_v14 = ((transpose S16x2048x8x128 [0, 2, 1, 3] (V m c main_v13 : FVec Ideal S16x8x2048x128 .f32) transposes_S16x8x2048x128_S16x2048x8x128_0_2_1_3) : FVec Ideal S16x2048x8x128 .f32) :=
  (at_step m c 18 _ rfl main_v14 (by decide)).trans ((StableHlo.unary_result ..).trans (congrArg (fun v => (transpose S16x2048x8x128 [0, 2, 1, 3] (v : FVec Ideal S16x8x2048x128 .f32) transposes_S16x8x2048x128_S16x2048x8x128_0_2_1_3)) (before m c 18 main_v13 (by decide))))

theorem V_v15 : V m c main_v15 = shapeCast S16x2048x1024 (V m c main_v14 : FVec Ideal S16x2048x8x128 .f32) shapeCasts_S16x2048x8x128_S16x2048x1024 :=
  (at_step m c 19 _ rfl main_v15 (by decide)).trans ((StableHlo.reshape_result ..).trans (congrArg (fun v => shapeCast S16x2048x1024 (v : FVec Ideal S16x2048x8x128 .f32) shapeCasts_S16x2048x8x128_S16x2048x1024) (before m c 19 main_v14 (by decide))))

theorem V_v16 : V m c main_v16 = ((truncf .bf16 (V m c main_v15 : FVec Ideal S16x2048x1024 .f32) bitsLt_bf16_f32) : FVec Ideal S16x2048x1024 .bf16) :=
  (at_step m c 20 _ rfl main_v16 (by decide)).trans ((StableHlo.unary_result ..).trans (congrArg (fun v => (truncf .bf16 (v : FVec Ideal S16x2048x1024 .f32) bitsLt_bf16_f32)) (before m c 20 main_v15 (by decide))))

theorem V_cst_3 : V m c main_cst_3 = constant (F := Ideal) S_ .f32 0x3F800000#32 :=
  (at_step m c 21 _ rfl main_cst_3 (by decide)).trans (StableHlo.nullary_result ..)

theorem V_v17 : V m c main_v17 = ((broadcastInDim S16x4x2048x1 ![] bcast_S_S16x4x2048x1 (V m c main_cst_3 : FVec Ideal S_ .f32)) : FVec Ideal S16x4x2048x1 .f32) :=
  (at_step m c 22 _ rfl main_v17 (by decide)).trans ((StableHlo.unary_result ..).trans (congrArg (fun v => (broadcastInDim S16x4x2048x1 ![] bcast_S_S16x4x2048x1 (v : FVec Ideal S_ .f32))) (before m c 22 main_cst_3 (by decide))))

theorem V_cst_4 : V m c main_cst_4 = constant (F := Ideal) S_ .f32 0x00000000#32 :=
  (at_step m c 23 _ rfl main_cst_4 (by decide)).trans (StableHlo.nullary_result ..)

theorem V_v18 : V m c main_v18 = ((broadcastInDim S16x4x2048x63 ![] bcast_S_S16x4x2048x63 (V m c main_cst_4 : FVec Ideal S_ .f32)) : FVec Ideal S16x4x2048x63 .f32) :=
  (at_step m c 24 _ rfl main_v18 (by decide)).trans ((StableHlo.unary_result ..).trans (congrArg (fun v => (broadcastInDim S16x4x2048x63 ![] bcast_S_S16x4x2048x63 (v : FVec Ideal S_ .f32))) (before m c 24 main_cst_4 (by decide))))

theorem V_v19 : V m c main_v19 = ((Host.slice S16x4x2048x64 ![0, 0, 0, 0] ![1, 2, 1, 1] (V m c main_arg4 : FVec Ideal S16x8x2048x64 .f32) slicesBy_S16x8x2048x64_S16x4x2048x64_0s1_0s2_0s1_0s1) : FVec Ideal S16x4x2048x64 .f32) :=
  (at_step m c 25 _ rfl main_v19 (by decide)).trans ((StableHlo.unary_result ..).trans (congrArg (fun v => (Host.slice S16x4x2048x64 ![0, 0, 0, 0] ![1, 2, 1, 1] (v : FVec Ideal S16x8x2048x64 .f32) slicesBy_S16x8x2048x64_S16x4x2048x64_0s1_0s2_0s1_0s1)) (before m c 25 main_arg4 (by decide))))

theorem V_v20 : V m c main_v20 = ((Host.slice S16x4x2048x64 ![0, 1, 0, 0] ![1, 2, 1, 1] (V m c main_arg4 : FVec Ideal S16x8x2048x64 .f32) slicesBy_S16x8x2048x64_S16x4x2048x64_0s1_1s2_0s1_0s1) : FVec Ideal S16x4x2048x64 .f32) :=
  (at_step m c 26 _ rfl main_v20 (by decide)).trans ((StableHlo.unary_result ..).trans (congrArg (fun v => (Host.slice S16x4x2048x64 ![0, 1, 0, 0] ![1, 2, 1, 1] (v : FVec Ideal S16x8x2048x64 .f32) slicesBy_S16x8x2048x64_S16x4x2048x64_0s1_1s2_0s1_0s1)) (before m c 26 main_arg4 (by decide))))

theorem V_v21 : V m c main_v21 = concatenate S16x4x2048x128 3 [⟨S16x4x2048x64, (V m c main_v19 : FVec Ideal S16x4x2048x64 .f32)⟩, ⟨S16x4x2048x1, (V m c main_v17 : FVec Ideal S16x4x2048x1 .f32)⟩, ⟨S16x4x2048x63, (V m c main_v18 : FVec Ideal S16x4x2048x63 .f32)⟩] concatenates_S16x4x2048x64_S16x4x2048x1_S16x4x2048x63_S16x4x2048x128_d3 :=
  (at_step m c 27 _ rfl main_v21 (by decide)).trans ((StableHlo.nary_result ..).trans (congr3 (fun (v0 : FVec Ideal S16x4x2048x64 .f32) (v1 : FVec Ideal S16x4x2048x1 .f32) (v2 : FVec Ideal S16x4x2048x63 .f32) => concatenate S16x4x2048x128 3 [⟨S16x4x2048x64, v0⟩, ⟨S16x4x2048x1, v1⟩, ⟨S16x4x2048x63, v2⟩] concatenates_S16x4x2048x64_S16x4x2048x1_S16x4x2048x63_S16x4x2048x128_d3) (before m c 27 main_v19 (by decide)) (before m c 27 main_v17 (by decide)) (before m c 27 main_v18 (by decide))))

theorem V_v22 : V m c main_v22 = concatenate S16x4x2048x128 3 [⟨S16x4x2048x1, (V m c main_v17 : FVec Ideal S16x4x2048x1 .f32)⟩, ⟨S16x4x2048x63, (V m c main_v18 : FVec Ideal S16x4x2048x63 .f32)⟩, ⟨S16x4x2048x64, (V m c main_v20 : FVec Ideal S16x4x2048x64 .f32)⟩] concatenates_S16x4x2048x1_S16x4x2048x63_S16x4x2048x64_S16x4x2048x128_d3 :=
  (at_step m c 28 _ rfl main_v22 (by decide)).trans ((StableHlo.nary_result ..).trans (congr3 (fun (v0 : FVec Ideal S16x4x2048x1 .f32) (v1 : FVec Ideal S16x4x2048x63 .f32) (v2 : FVec Ideal S16x4x2048x64 .f32) => concatenate S16x4x2048x128 3 [⟨S16x4x2048x1, v0⟩, ⟨S16x4x2048x63, v1⟩, ⟨S16x4x2048x64, v2⟩] concatenates_S16x4x2048x1_S16x4x2048x63_S16x4x2048x64_S16x4x2048x128_d3) (before m c 28 main_v17 (by decide)) (before m c 28 main_v18 (by decide)) (before m c 28 main_v20 (by decide))))

theorem V_v23 : V m c main_v23 = ((broadcastInDim S16x4x1x2048x128 ![0, 1, 3, 4] bcast_S16x4x2048x128_S16x4x1x2048x128_0_1_3_4 (V m c main_v21 : FVec Ideal S16x4x2048x128 .f32)) : FVec Ideal S16x4x1x2048x128 .f32) :=
  (at_step m c 29 _ rfl main_v23 (by decide)).trans ((StableHlo.unary_result ..).trans (congrArg (fun v => (broadcastInDim S16x4x1x2048x128 ![0, 1, 3, 4] bcast_S16x4x2048x128_S16x4x1x2048x128_0_1_3_4 (v : FVec Ideal S16x4x2048x128 .f32))) (before m c 29 main_v21 (by decide))))

theorem V_v24 : V m c main_v24 = ((broadcastInDim S16x4x1x2048x128 ![0, 1, 3, 4] bcast_S16x4x2048x128_S16x4x1x2048x128_0_1_3_4 (V m c main_v22 : FVec Ideal S16x4x2048x128 .f32)) : FVec Ideal S16x4x1x2048x128 .f32) :=
  (at_step m c 30 _ rfl main_v24 (by decide)).trans ((StableHlo.unary_result ..).trans (congrArg (fun v => (broadcastInDim S16x4x1x2048x128 ![0, 1, 3, 4] bcast_S16x4x2048x128_S16x4x1x2048x128_0_1_3_4 (v : FVec Ideal S16x4x2048x128 .f32))) (before m c 30 main_v22 (by decide))))

theorem V_v25 : V m c main_v25 = ((concatenate S16x4x2x2048x128 2 [⟨S16x4x1x2048x128, (V m c main_v23 : FVec Ideal S16x4x1x2048x128 .f32)⟩, ⟨S16x4x1x2048x128, (V m c main_v24 : FVec Ideal S16x4x1x2048x128 .f32)⟩] concatenates_S16x4x1x2048x128_S16x4x1x2048x128_S16x4x2x2048x128_d2) : FVec Ideal S16x4x2x2048x128 .f32) :=
  (at_step m c 31 _ rfl main_v25 (by decide)).trans ((StableHlo.binary_result ..).trans (congrArg₂ (fun (v : FVec Ideal S16x4x1x2048x128 .f32) (w : FVec Ideal S16x4x1x2048x128 .f32) => (concatenate S16x4x2x2048x128 2 [⟨S16x4x1x2048x128, v⟩, ⟨S16x4x1x2048x128, w⟩] concatenates_S16x4x1x2048x128_S16x4x1x2048x128_S16x4x2x2048x128_d2)) (before m c 31 main_v23 (by decide)) (before m c 31 main_v24 (by decide))))

theorem V_v26 : V m c main_v26 = shapeCast S16x8x2048x128 (V m c main_v25 : FVec Ideal S16x4x2x2048x128 .f32) shapeCasts_S16x4x2x2048x128_S16x8x2048x128 :=
  (at_step m c 32 _ rfl main_v26 (by decide)).trans ((StableHlo.reshape_result ..).trans (congrArg (fun v => shapeCast S16x8x2048x128 (v : FVec Ideal S16x4x2x2048x128 .f32) shapeCasts_S16x4x2x2048x128_S16x8x2048x128) (before m c 32 main_v25 (by decide))))

theorem V_v27 : V m c main_v27 = ((transpose S16x2048x8x128 [0, 2, 1, 3] (V m c main_v26 : FVec Ideal S16x8x2048x128 .f32) transposes_S16x8x2048x128_S16x2048x8x128_0_2_1_3) : FVec Ideal S16x2048x8x128 .f32) :=
  (at_step m c 33 _ rfl main_v27 (by decide)).trans ((StableHlo.unary_result ..).trans (congrArg (fun v => (transpose S16x2048x8x128 [0, 2, 1, 3] (v : FVec Ideal S16x8x2048x128 .f32) transposes_S16x8x2048x128_S16x2048x8x128_0_2_1_3)) (before m c 33 main_v26 (by decide))))

theorem V_v28 : V m c main_v28 = shapeCast S16x2048x1024 (V m c main_v27 : FVec Ideal S16x2048x8x128 .f32) shapeCasts_S16x2048x8x128_S16x2048x1024 :=
  (at_step m c 34 _ rfl main_v28 (by decide)).trans ((StableHlo.reshape_result ..).trans (congrArg (fun v => shapeCast S16x2048x1024 (v : FVec Ideal S16x2048x8x128 .f32) shapeCasts_S16x2048x8x128_S16x2048x1024) (before m c 34 main_v27 (by decide))))

theorem V_v29 : V m c main_v29 = ((truncf .bf16 (V m c main_v28 : FVec Ideal S16x2048x1024 .f32) bitsLt_bf16_f32) : FVec Ideal S16x2048x1024 .bf16) :=
  (at_step m c 35 _ rfl main_v29 (by decide)).trans ((StableHlo.unary_result ..).trans (congrArg (fun v => (truncf .bf16 (v : FVec Ideal S16x2048x1024 .f32) bitsLt_bf16_f32)) (before m c 35 main_v28 (by decide))))

end Cert.KernelIdeal.MlaAttn
end
-- ==== Proof.MlaPack.lean ====
/- The packed operands of the attention, read entry by entry. -/
module

public import proofs.«01_k».proof.Proof.MlaHost

@[expose] public section
set_option maxRecDepth 16384
noncomputable section
open Idealize.ShloMosaic Idealize.ShloMosaic.TcCoe Idealize.SL.Sem
namespace Cert.KernelIdeal.MlaAttn
open Cert.KernelIdeal Cert.KernelIdeal.Gen

theorem heads_at (A : FVec Ideal S16x8x2048x128 .f32) (b : Fin 16) (i : Fin 2048) (l : Fin 1024) :
    truncf .bf16 (shapeCast S16x2048x1024 (transpose S16x2048x8x128 [0, 2, 1, 3] A transposes_S16x8x2048x128_S16x2048x8x128_0_2_1_3) shapeCasts_S16x2048x8x128_S16x2048x1024) bitsLt_bf16_f32 (ix3 b i l)
      = A (ix4 b ⟨l / 128, by omega⟩ i ⟨l % 128, by omega⟩) := by
  pointwise

/-- A column of a block of two heads. -/
theorem heads_block (A : FVec Ideal S16x8x2048x128 .f32) (b : Fin 16) (i : Fin 2048) (p : Fin 4) (h : Fin 2) (l : Fin 128)
    (y : Fin 1024) (hy : (y : ℕ) = p * 256 + (128 * h + l)) :
    truncf .bf16 (shapeCast S16x2048x1024 (transpose S16x2048x8x128 [0, 2, 1, 3] A transposes_S16x8x2048x128_S16x2048x8x128_0_2_1_3) shapeCasts_S16x2048x8x128_S16x2048x1024) bitsLt_bf16_f32 (ix3 b i y)
      = A (ix4 b ⟨2 * p + h, by omega⟩ i l) := by
  rw [heads_at]
  congr 2
  · exact Fin.ext (by simp only []; omega)
  · exact Fin.ext (by simp only []; omega)

theorem catQ_at (X0 : FVec Ideal S16x8x2048x64 .f32) (X1 Z : FVec Ideal S16x8x2048x32 .f32) (s : FVec Ideal S_ .f32) (b : Fin 16) (h : Fin 8) (i : Fin 2048) (l : Fin 128) :
    mulf (concatenate S16x8x2048x128 3 [⟨S16x8x2048x64, X0⟩, ⟨S16x8x2048x32, X1⟩, ⟨S16x8x2048x32, Z⟩] concatenates_S16x8x2048x64_S16x8x2048x32_S16x8x2048x32_S16x8x2048x128_d3) (broadcastInDim S16x8x2048x128 ![] bcast_S_S16x8x2048x128 s) (ix4 b h i l)
      = (if h0 : (l : ℕ) < 64 then X0 (ix4 b h i ⟨l, h0⟩) else if h1 : (l : ℕ) - 64 < 32 then X1 (ix4 b h i ⟨l - 64, h1⟩)
        else Z (ix4 b h i ⟨l - 64 - 32, by omega⟩)) * s ix0 := by
  pointwise

theorem catK_at (X2 : FVec Ideal S16x8x2048x64 .f32) (X3 : FVec Ideal S16x2048x32 .f32) (Z : FVec Ideal S16x8x2048x32 .f32) (b : Fin 16) (h : Fin 8) (i : Fin 2048) (l : Fin 128) :
    concatenate S16x8x2048x128 3 [⟨S16x8x2048x64, X2⟩, ⟨S16x8x2048x32, broadcastInDim S16x8x2048x32 ![0, 1, 2, 3] bcast_S16x1x2048x32_S16x8x2048x32_0_1_2_3 (broadcastInDim S16x1x2048x32 ![0, 2, 3] bcast_S16x2048x32_S16x1x2048x32_0_2_3 X3)⟩, ⟨S16x8x2048x32, Z⟩] concatenates_S16x8x2048x64_S16x8x2048x32_S16x8x2048x32_S16x8x2048x128_d3 (ix4 b h i l)
      = if h0 : (l : ℕ) < 64 then X2 (ix4 b h i ⟨l, h0⟩) else if h1 : (l : ℕ) - 64 < 32 then X3 (ix3 b i ⟨l - 64, h1⟩)
        else Z (ix4 b h i ⟨l - 64 - 32, by omega⟩) := by
  pointwise

theorem catV_at (A B : FVec Ideal S16x4x2048x128 .f32) (b : Fin 16) (h : Fin 8) (i : Fin 2048) (l : Fin 128) :
    (shapeCast S16x8x2048x128 (concatenate S16x4x2x2048x128 2 [⟨S16x4x1x2048x128, broadcastInDim S16x4x1x2048x128 ![0, 1, 3, 4] bcast_S16x4x2048x128_S16x4x1x2048x128_0_1_3_4 A⟩, ⟨S16x4x1x2048x128, broadcastInDim S16x4x1x2048x128 ![0, 1, 3, 4] bcast_S16x4x2048x128_S16x4x1x2048x128_0_1_3_4 B⟩] concatenates_S16x4x1x2048x128_S16x4x1x2048x128_S16x4x2x2048x128_d2) shapeCasts_S16x4x2x2048x128_S16x8x2048x128) (ix4 b h i l)
      = if h0 : (h : ℕ) % 2 < 1 then A (ix4 b ⟨h / 2, by omega⟩ i l) else B (ix4 b ⟨h / 2, by omega⟩ i l) := by
  pointwise

theorem evenV_at (X4 : FVec Ideal S16x8x2048x64 .f32) (b : Fin 16) (h : Fin 4) (i : Fin 2048) (l : Fin 128) :
    concatenate S16x4x2048x128 3 [⟨S16x4x2048x64, Host.slice S16x4x2048x64 ![0, 0, 0, 0] ![1, 2, 1, 1] X4 slicesBy_S16x8x2048x64_S16x4x2048x64_0s1_0s2_0s1_0s1⟩, ⟨S16x4x2048x1, broadcastInDim S16x4x2048x1 ![] bcast_S_S16x4x2048x1 (constant (F := Ideal) S_ .f32 0x3F800000#32)⟩, ⟨S16x4x2048x63, broadcastInDim S16x4x2048x63 ![] bcast_S_S16x4x2048x63 (constant (F := Ideal) S_ .f32 0x00000000#32)⟩] concatenates_S16x4x2048x64_S16x4x2048x1_S16x4x2048x63_S16x4x2048x128_d3 (ix4 b h i l)
      = if h0 : (l : ℕ) < 64 then X4 (ix4 b ⟨2 * h, by omega⟩ i ⟨l, h0⟩) else if h1 : (l : ℕ) - 64 < 1 then (1 : EReal) else 0 := by
  pointwise

theorem oddV_at (X4 : FVec Ideal S16x8x2048x64 .f32) (b : Fin 16) (h : Fin 4) (i : Fin 2048) (l : Fin 128) :
    concatenate S16x4x2048x128 3 [⟨S16x4x2048x1, broadcastInDim S16x4x2048x1 ![] bcast_S_S16x4x2048x1 (constant (F := Ideal) S_ .f32 0x3F800000#32)⟩, ⟨S16x4x2048x63, broadcastInDim S16x4x2048x63 ![] bcast_S_S16x4x2048x63 (constant (F := Ideal) S_ .f32 0x00000000#32)⟩, ⟨S16x4x2048x64, Host.slice S16x4x2048x64 ![0, 1, 0, 0] ![1, 2, 1, 1] X4 slicesBy_S16x8x2048x64_S16x4x2048x64_0s1_1s2_0s1_0s1⟩] concatenates_S16x4x2048x1_S16x4x2048x63_S16x4x2048x64_S16x4x2048x128_d3 (ix4 b h i l)
      = if h0 : (l : ℕ) < 1 then (1 : EReal) else if h1 : (l : ℕ) - 1 < 63 then 0 else X4 (ix4 b ⟨1 + 2 * h, by omega⟩ i ⟨l - 1 - 63, by omega⟩) := by
  pointwise

section
variable (m : (ℓ : Loc nD τ sig) → Buf (Elt Ideal) ℓ) (c : Dev nD)

/-- The arguments. -/
abbrev A0 : FVec Ideal S16x8x2048x64 .f32 := m ((c : Thread nD τ).loc main_arg0)
abbrev A1 : FVec Ideal S16x8x2048x32 .f32 := m ((c : Thread nD τ).loc main_arg1)
abbrev A2 : FVec Ideal S16x8x2048x64 .f32 := m ((c : Thread nD τ).loc main_arg2)
abbrev A3 : FVec Ideal S16x2048x32 .f32 := m ((c : Thread nD τ).loc main_arg3)
abbrev A4 : FVec Ideal S16x8x2048x64 .f32 := m ((c : Thread nD τ).loc main_arg4)

/-- The factor on the queries. -/
def factor : EReal := Ideal.div 1 (Ideal.sqrt (Ideal.ofBits .f32 0x42C00000#32) * Ideal.log (Ideal.ofBits .f32 0x40000000#32))

theorem factor_at : (V m c main_v3 : FVec Ideal S_ .f32) ix0 = factor := by
  rw [V_v3, V_cst_1, V_v2, V_v0, V_cst, V_v1, V_cst_0]
  pointwise [factor]

theorem zeros_eq : (V m c main_v4 : FVec Ideal S16x8x2048x32 .f32) = fun _ => (0 : EReal) := by
  funext j
  idx_vars j
  rw [V_v4, V_cst_2]
  pointwise

theorem q_at (b : Fin 16) (i : Fin 2048) (p : Fin 4) (h : Fin 2) (l : Fin 128) (y : Fin 1024) (hy : (y : ℕ) = p * 256 + (128 * h + l)) :
    (V m c main_v10 : FVec Ideal S16x2048x1024 .bf16) (ix3 b i y)
      = (if h0 : (l : ℕ) < 64 then A0 m c (ix4 b ⟨2 * p + h, by omega⟩ i ⟨l, h0⟩)
        else if h1 : (l : ℕ) - 64 < 32 then A1 m c (ix4 b ⟨2 * p + h, by omega⟩ i ⟨l - 64, h1⟩)
        else (0 : EReal)) * factor := by
  rw [V_v10, V_v9, V_v8, heads_block _ b i p h l y hy, V_v7, V_v6, V_v5, catQ_at, factor_at, zeros_eq, V_main_arg0, V_main_arg1]

theorem k_at (b : Fin 16) (i : Fin 2048) (p : Fin 4) (h : Fin 2) (l : Fin 128) (y : Fin 1024) (hy : (y : ℕ) = p * 256 + (128 * h + l)) :
    (V m c main_v16 : FVec Ideal S16x2048x1024 .bf16) (ix3 b i y)
      = if h0 : (l : ℕ) < 64 then A2 m c (ix4 b ⟨2 * p + h, by omega⟩ i ⟨l, h0⟩)
        else if h1 : (l : ℕ) - 64 < 32 then A3 m c (ix3 b i ⟨l - 64, h1⟩)
        else (0 : EReal) := by
  rw [V_v16, V_v15, V_v14, heads_block _ b i p h l y hy, V_v13, V_v12, V_v11, catK_at, zeros_eq, V_main_arg2, V_main_arg3]

theorem v_at_even (b : Fin 16) (i : Fin 2048) (p : Fin 4) (l : Fin 128) (y : Fin 1024) (hy : (y : ℕ) = p * 256 + l) :
    (V m c main_v29 : FVec Ideal S16x2048x1024 .bf16) (ix3 b i y)
      = if h0 : (l : ℕ) < 64 then A4 m c (ix4 b ⟨2 * p, by omega⟩ i ⟨l, h0⟩)
        else if h1 : (l : ℕ) - 64 < 1 then (1 : EReal) else 0 := by
  have e : ∀ h', (⟨(2 * (p : ℕ) + ((0 : Fin 2) : ℕ)) / 2, h'⟩ : Fin 4) = p := fun _ => Fin.ext (by simp)
  rw [V_v29, V_v28, V_v27, heads_block _ b i p 0 l y (by simp [hy]), V_v26, V_v25, V_v23, V_v24, catV_at, dif_pos (by simp), e, V_v21,
    V_v19, V_v17, V_v18, V_cst_3, V_cst_4, evenV_at, V_main_arg4]

theorem v_at_odd (b : Fin 16) (i : Fin 2048) (p : Fin 4) (l : Fin 128) (y : Fin 1024) (hy : (y : ℕ) = p * 256 + (128 + l)) :
    (V m c main_v29 : FVec Ideal S16x2048x1024 .bf16) (ix3 b i y)
      = if h0 : (l : ℕ) < 1 then (1 : EReal) else if h1 : (l : ℕ) - 1 < 63 then 0
        else A4 m c (ix4 b ⟨1 + 2 * p, by omega⟩ i ⟨l - 1 - 63, by omega⟩) := by
  have e : ∀ h', (⟨(2 * (p : ℕ) + ((1 : Fin 2) : ℕ)) / 2, h'⟩ : Fin 4) = p := fun _ => Fin.ext (by simp; omega)
  rw [V_v29, V_v28, V_v27, heads_block _ b i p 1 l y (by simp [hy]), V_v26, V_v25, V_v23, V_v24, catV_at, dif_neg (by simp), e, V_v22,
    V_v20, V_v17, V_v18, V_cst_3, V_cst_4, oddV_at, V_main_arg4]
end

end Cert.KernelIdeal.MlaAttn
end
-- ==== Proof.Consts.lean ====
/- The float constants of the programs as the extended reals that they denote. -/
module

public import Idealize.ShloMosaic.PureOps.Ideal

@[expose] public section

noncomputable section

namespace Cert.Consts

open Idealize.ShloMosaic

/-- `0.125` denotes the real `1 / 8`. -/
theorem ofBits_eighth : Ideal.ofBits .f32 0x3E000000#32 = ((1 / 8 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `96.0` denotes the real `96`. -/
theorem ofBits_96 : Ideal.ofBits .f32 0x42C00000#32 = ((96 : ℝ) : EReal) := by
  simp [Ideal.ofBits, Ideal.ieee, -EReal.coe_mul]; norm_num

/-- Two halvings in turn are one factor: times an eighth, over the logarithm of two. -/
theorem eighth_div_log (x : EReal) :
    Ideal.div (x * Ideal.ofBits .f32 0x3E000000#32) (Ideal.log (Ideal.ofBits .f32 0x40000000#32))
      = x * (((1 / 8) * (Real.log 2)⁻¹ : ℝ) : EReal) := by
  have h : Real.log 2 ≠ 0 := (Real.log_pos (by norm_num)).ne'
  rw [ofBits_eighth, ofBits_two, Ideal.log_coe, if_neg (by norm_num), Ideal.div_coe h, mul_assoc, ← EReal.coe_mul, one_div (Real.log 2)]

end Cert.Consts

end
-- ==== Proof.MlaRow.lean ====
/- What the attention's call stores is the reference's result. -/
module

public import proofs.«01_k».proof.Proof.MlaRef
public import proofs.«01_k».proof.Proof.MlaRows
public import proofs.«01_k».proof.Proof.MlaPack
public import proofs.«01_k».proof.Proof.Consts

@[expose] public section
set_option maxRecDepth 16384
noncomputable section
open Idealize.ShloMosaic Idealize.ShloMosaic.TcCoe Idealize.SL.Sem
namespace Cert.KernelIdeal.MlaAttn
open Cert.KernelIdeal Cert.KernelIdeal.Gen Cert.SoftmaxRow Cert.ReferenceIdeal.Result

theorem factor_eq : factor = ((1 / Real.sqrt 96 * (Real.log 2)⁻¹ : ℝ) : EReal) := by
  have h1 : Real.log 2 ≠ 0 := (Real.log_pos (by norm_num)).ne'
  have h2 : Real.sqrt 96 ≠ 0 := (Real.sqrt_pos.2 (by norm_num)).ne'
  rw [factor, Cert.Consts.ofBits_96, Cert.Consts.ofBits_two, Ideal.log_coe, if_neg (by norm_num), Ideal.sqrt_coe, if_neg (by norm_num), ← EReal.coe_mul,
    Ideal.div_coe (mul_ne_zero h2 h1), one_mul]
  congr 1
  field_simp

theorem scale_eq : Ideal.div 1 (Ideal.sqrt (Ideal.ofBits .f32 0x42C00000#32)) = ((1 / Real.sqrt 96 : ℝ) : EReal) := by
  have h2 : Real.sqrt 96 ≠ 0 := (Real.sqrt_pos.2 (by norm_num)).ne'
  rw [Cert.Consts.ofBits_96, Ideal.sqrt_coe, if_neg (by norm_num), Ideal.div_coe h2, one_mul]

variable (r0 : S16x8x2048x64.Idx → ℝ) (r1 : S16x8x2048x32.Idx → ℝ) (r2 : S16x8x2048x64.Idx → ℝ) (r3 : S16x2048x32.Idx → ℝ)
  (X4 : FVec Ideal S16x8x2048x64 .f32)

/-- The score of query `i` and key `k`, a real. -/
def real_score (b : Fin 16) (hd : Fin 8) (i : Fin 2048) (k : ℕ) : ℝ :=
  if hk : k < 2048 then
    (∑ a : Fin 64, r0 (ix4 b hd i a) * r2 (ix4 b hd ⟨k, hk⟩ a) + ∑ a : Fin 32, r1 (ix4 b hd i a) * r3 (ix3 b ⟨k, hk⟩ a)) * (1 / Real.sqrt 96)
  else 0

theorem score_eq (b : Fin 16) (hd : Fin 8) (i k : Fin 2048) :
    score (fun j => (r0 j : EReal)) (fun j => (r1 j : EReal)) (fun j => (r2 j : EReal)) (fun j => (r3 j : EReal)) b hd i k
      = ((real_score r0 r1 r2 r3 b hd i k : ℝ) : EReal) := by
  unfold score real_score
  rw [dif_pos k.2, scale_eq, EReal.coe_mul, EReal.coe_add, coe_sum, coe_sum]
  simp only [EReal.coe_mul]

theorem sum_lanes (f : Fin 128 → EReal) (f1 : Fin 64 → EReal) (f2 : Fin 32 → EReal)
    (h1 : ∀ a : Fin 64, f ⟨a, by omega⟩ = f1 a) (h2 : ∀ a : Fin 32, f ⟨64 + a, by omega⟩ = f2 a) (h3 : ∀ a : Fin 32, f ⟨96 + a, by omega⟩ = 0) :
    ∑ x, f x = ∑ a, f1 a + ∑ a, f2 a := by
  have e : ∑ x, f x = ∑ x : Fin (64 + (32 + 32)), f ⟨x, by omega⟩ := rfl
  rw [e, Fin.sum_univ_add, Fin.sum_univ_add]
  congr 1
  · exact Finset.sum_congr rfl fun a _ => h1 a
  · have z : ∑ a : Fin 32, f ⟨(Fin.natAdd 64 (Fin.natAdd 32 a) : Fin (64 + (32 + 32))), by omega⟩ = 0 := Finset.sum_eq_zero fun a _ => by
      have := h3 a
      convert this using 2
      exact Fin.ext (by simp; omega)
    rw [z, add_zero]
    exact Finset.sum_congr rfl fun a _ => h2 a

theorem sc_eq (Q K : ℕ → ℕ → EReal) (b : Fin 16) (hd : Fin 8) (h : ℕ) (i : Fin 2048)
    (hQ : ∀ l : Fin 128, Q i (128 * h + l) = (if h0 : (l : ℕ) < 64 then ((r0 (ix4 b hd i ⟨l, h0⟩) : ℝ) : EReal)
      else if h1 : (l : ℕ) - 64 < 32 then ((r1 (ix4 b hd i ⟨l - 64, h1⟩) : ℝ) : EReal) else 0) * factor)
    (hK : ∀ (k : Fin 2048) (l : Fin 128), K k (128 * h + l) = if h0 : (l : ℕ) < 64 then ((r2 (ix4 b hd k ⟨l, h0⟩) : ℝ) : EReal)
      else if h1 : (l : ℕ) - 64 < 32 then ((r3 (ix3 b k ⟨l - 64, h1⟩) : ℝ) : EReal) else 0)
    (hK0 : ∀ k l, 2048 ≤ k → K k l = 0) :
    sc Q K h i = fun k => ((real_score r0 r1 r2 r3 b hd i k * (Real.log 2)⁻¹ : ℝ) : EReal) := by
  funext k
  unfold sc real_score
  by_cases hk : k < 2048
  · rw [dif_pos hk, sum_lanes _ (fun a => ((r0 (ix4 b hd i a) * r2 (ix4 b hd ⟨k, hk⟩ a) * (1 / Real.sqrt 96 * (Real.log 2)⁻¹) : ℝ) : EReal))
      (fun a => ((r1 (ix4 b hd i a) * r3 (ix3 b ⟨k, hk⟩ a) * (1 / Real.sqrt 96 * (Real.log 2)⁻¹) : ℝ) : EReal)), ← coe_sum, ← coe_sum, ← EReal.coe_add,
      ← Finset.sum_mul, ← Finset.sum_mul, ← add_mul, mul_assoc]
    · intro a
      have e1 := hQ ⟨a, by omega⟩
      have e2 := hK ⟨k, hk⟩ ⟨a, by omega⟩
      simp only [Fin.is_lt, ↓reduceDIte] at e1 e2
      rw [e1, e2, factor_eq, ← EReal.coe_mul, ← EReal.coe_mul]
      congr 1
      simp only [Fin.eta]
      ring
    · intro a
      have e1 := hQ ⟨64 + a, by omega⟩
      have e2 := hK ⟨k, hk⟩ ⟨64 + a, by omega⟩
      have n1 : ¬ (64 + (a : ℕ) < 64) := by omega
      have n2 : 64 + (a : ℕ) - 64 = a := by omega
      simp only [n1, n2, Fin.is_lt, ↓reduceDIte] at e1 e2
      rw [e1, e2, factor_eq, ← EReal.coe_mul, ← EReal.coe_mul]
      congr 1
      simp only [Fin.eta]
      ring
    · intro a
      have e2 := hK ⟨k, hk⟩ ⟨96 + a, by omega⟩
      have n1 : ¬ (96 + (a : ℕ) < 64) := by omega
      have n2 : ¬ (96 + (a : ℕ) - 64 < 32) := by omega
      simp only [n1, n2, ↓reduceDIte] at e2
      rw [e2, mul_zero]
  · rw [dif_neg hk, zero_mul]
    simp only [hK0 k _ (by omega), mul_zero, Finset.sum_const_zero]
    rfl

/-- One row of one head: the quotient of the call is the row of the reference. -/
theorem head_eq (s : ℕ → EReal) (v one : ℕ → EReal) (n : ℕ) (b : Fin 16) (hd : Fin 8) (i : Fin 2048) (l : Fin 512) (hi : (i : ℕ) < n) (hn : n ≤ 2048)
    (hs : s = fun k => ((real_score r0 r1 r2 r3 b hd i k * (Real.log 2)⁻¹ : ℝ) : EReal)) (h1 : ∀ k, one k = 1)
    (hl : (l : ℕ) / 64 = hd) (hv : ∀ k : Fin 2048, v k = X4 (ix4 b hd k ⟨l % 64, by omega⟩)) :
    Ideal.div (acc n s i v) (acc n s i one)
      = result (fun j => (r0 j : EReal)) (fun j => (r1 j : EReal)) (fun j => (r2 j : EReal)) (fun j => (r3 j : EReal)) X4 (ix3 b i l) := by
  have e : (⟨l / 64, by omega⟩ : Fin 8) = hd := Fin.ext hl
  rw [hs, row n 2048 i hi hn (fun k => real_score r0 r1 r2 r3 b hd i k) v one h1,
    result_at _ _ _ _ X4 b i l (fun k => ((real_score r0 r1 r2 r3 b hd i k : ℝ) : EReal)) (fun k => by rw [e]; exact score_eq r0 r1 r2 r3 b hd i k), e]
  simp only [hv]

/-- What the call stores for a row. -/
theorem stored_eq (Q K V : ℕ → ℕ → EReal) (b : Fin 16) (p : Fin 4)
    (hQ : ∀ (i : Fin 2048) (h : Fin 2) (l : Fin 128), Q i (128 * h + l) = (if h0 : (l : ℕ) < 64 then ((r0 (ix4 b ⟨2 * p + h, by omega⟩ i ⟨l, h0⟩) : ℝ) : EReal)
      else if h1 : (l : ℕ) - 64 < 32 then ((r1 (ix4 b ⟨2 * p + h, by omega⟩ i ⟨l - 64, h1⟩) : ℝ) : EReal) else 0) * factor)
    (hK : ∀ (k : Fin 2048) (h : Fin 2) (l : Fin 128), K k (128 * h + l) = if h0 : (l : ℕ) < 64 then ((r2 (ix4 b ⟨2 * p + h, by omega⟩ k ⟨l, h0⟩) : ℝ) : EReal)
      else if h1 : (l : ℕ) - 64 < 32 then ((r3 (ix3 b k ⟨l - 64, h1⟩) : ℝ) : EReal) else 0)
    (hK0 : ∀ k l, 2048 ≤ k → K k l = 0) (hV64 : ∀ k, V k 64 = 1) (hV128 : ∀ k, V k 128 = 1)
    (hVe : ∀ (k : Fin 2048) (l : Fin 64), V k l = X4 (ix4 b ⟨2 * p, by omega⟩ k l))
    (hVo : ∀ (k : Fin 2048) (l : Fin 64), V k (192 + l) = X4 (ix4 b ⟨1 + 2 * p, by omega⟩ k l))
    (n : ℕ) (i : Fin 2048) (hi : (i : ℕ) < n) (hn : n ≤ 2048) (l : Fin 128) (y : Fin 512) (hy : (y : ℕ) = p * 128 + l) :
    stored Q K V n i l
      = result (fun j => (r0 j : EReal)) (fun j => (r1 j : EReal)) (fun j => (r2 j : EReal)) (fun j => (r3 j : EReal)) X4 (ix3 b i y) := by
  unfold stored
  by_cases hl : (l : ℕ) < 64
  · rw [if_pos hl]
    refine head_eq r0 r1 r2 r3 X4 _ _ _ n b ⟨2 * p, by omega⟩ i y hi hn (sc_eq r0 r1 r2 r3 Q K b _ 0 i (hQ i 0) (fun k => hK k 0) hK0) hV64
      (by simp only []; omega) fun k => ?_
    rw [hVe k ⟨l, hl⟩]
    congr 2
    exact Fin.ext (by simp only []; omega)
  · rw [if_neg hl]
    refine head_eq r0 r1 r2 r3 X4 _ _ _ n b ⟨1 + 2 * p, by omega⟩ i y hi hn ?_ hV128
      (by simp only []; omega) fun k => ?_
    · have e : (⟨1 + 2 * p, by omega⟩ : Fin 8) = ⟨2 * p + ((1 : Fin 2) : ℕ), by omega⟩ := Fin.ext (by simp; omega)
      rw [e]
      exact sc_eq r0 r1 r2 r3 Q K b _ 1 i (hQ i 1) (fun k => hK k 1) hK0
    · have e := hVo k ⟨l - 64, by omega⟩
      rw [show 128 + (l : ℕ) = 192 + (l - 64) by omega]
      refine e.trans ?_
      congr 2
      exact Fin.ext (by simp only []; omega)

end Cert.KernelIdeal.MlaAttn
end
-- ==== Proof.MlaBlock.lean ====
/- The block that one grid point of the attention stores. -/
module

public import proofs.«01_k».proof.Proof.MlaRows
public import proofs.«01_k».proof.Proof.Gen.KernelIdeal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.MlaAttn
open Cert.KernelIdeal Cert.KernelIdeal.Gen Cert.SoftmaxRow

/-- The entry of the stored block at a row and a column. -/
def entry (Q K V : ℕ → ℕ → EReal) (y : S1x2048x128.Idx) : EReal :=
  stored Q K V (256 * ((y 1 : ℕ) / 256) + 256) (y 1 : ℕ) (y 2 : ℕ)

theorem half (r : Fin 512) : (∃ q : Fin 256, r = ⟨q, by omega⟩) ∨ ∃ q : Fin 256, r = ⟨256 + q, by omega⟩ := by
  by_cases h : (r : ℕ) < 256
  · exact Or.inl ⟨⟨r, h⟩, rfl⟩
  · exact Or.inr ⟨⟨r - 256, by omega⟩, Fin.ext (by simp only []; omega)⟩

theorem stored_congr (Q K V : ℕ → ℕ → EReal) (y : S1x2048x128.Idx) (n i l : ℕ) (hi : (y 1 : ℕ) = i) (hn : 256 * ((y 1 : ℕ) / 256) + 256 = n)
    (hl : (y 2 : ℕ) = l) : stored Q K V n i l = entry Q K V y := by
  subst hi hn hl
  rfl

set_option maxHeartbeats 1000000 in
theorem block (Q K V : ℕ → ℕ → EReal) (x0 x1 x2 : Vec Ideal S1x2048x256 .bf16)
    (e0 : ∀ (i : Fin 2048) (l : Fin 256), x0 (ix3 0 i l) = Q i l)
    (e1 : ∀ (i : Fin 2048) (l : Fin 256), x1 (ix3 0 i l) = K i l)
    (e2 : ∀ (i : Fin 2048) (l : Fin 256), x2 (ix3 0 i l) = V i l) (y : S1x2048x128.Idx) :
    out0_3 (F := Ideal) x0 x1 x2 y = entry Q K V y := by
  unfold_out out0_3
  canon_tiles x h
  case piece3 =>
    obtain ⟨a, r, l, rfl⟩ : ∃ (a : Fin 1) (r : Fin 512) (l : Fin 128), x = ix3 a r l := ⟨x 0, x 1, x 2, eq_ix3 x⟩
    obtain rfl : a = 0 := Subsingleton.elim _ _
    rcases half r with ⟨q, rfl⟩ | ⟨q, rfl⟩
    · refine (rows0a Q K V _ _ _ _ _ _ _ _ ?_ ?_ ?_ ?_ ?_ ?_ ?_ ?_ q l).trans ?_
      case refine_9 =>
        have k1 : (y 1 : ℕ) = (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
    · refine (rows0b Q K V _ _ _ _ _ _ _ _ ?_ ?_ ?_ ?_ ?_ ?_ ?_ ?_ q l).trans ?_
      case refine_9 =>
        have k1 : (y 1 : ℕ) = 256 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
  case piece2 =>
    obtain ⟨a, r, l, rfl⟩ : ∃ (a : Fin 1) (r : Fin 512) (l : Fin 128), x = ix3 a r l := ⟨x 0, x 1, x 2, eq_ix3 x⟩
    obtain rfl : a = 0 := Subsingleton.elim _ _
    rcases half r with ⟨q, rfl⟩ | ⟨q, rfl⟩
    · refine (rows1a Q K V _ _ _ _ _ _ _ _ ?_ ?_ ?_ ?_ ?_ ?_ ?_ ?_ q l).trans ?_
      case refine_9 =>
        have k1 : (y 1 : ℕ) = 512 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
    · refine (rows1b Q K V _ _ _ _ _ _ _ _ ?_ ?_ ?_ ?_ ?_ ?_ ?_ ?_ q l).trans ?_
      case refine_9 =>
        have k1 : (y 1 : ℕ) = 768 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
  case piece1 =>
    obtain ⟨a, r, l, rfl⟩ : ∃ (a : Fin 1) (r : Fin 512) (l : Fin 128), x = ix3 a r l := ⟨x 0, x 1, x 2, eq_ix3 x⟩
    obtain rfl : a = 0 := Subsingleton.elim _ _
    rcases half r with ⟨q, rfl⟩ | ⟨q, rfl⟩
    · refine (rows2a Q K V _ _ _ _ _ _ _ _ ?_ ?_ ?_ ?_ ?_ ?_ ?_ ?_ q l).trans ?_
      case refine_9 =>
        have k1 : (y 1 : ℕ) = 1024 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
    · refine (rows2b Q K V _ _ _ _ _ _ _ _ ?_ ?_ ?_ ?_ ?_ ?_ ?_ ?_ q l).trans ?_
      case refine_9 =>
        have k1 : (y 1 : ℕ) = 1280 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
  case piece0 =>
    obtain ⟨a, r, l, rfl⟩ : ∃ (a : Fin 1) (r : Fin 512) (l : Fin 128), x = ix3 a r l := ⟨x 0, x 1, x 2, eq_ix3 x⟩
    obtain rfl : a = 0 := Subsingleton.elim _ _
    rcases half r with ⟨q, rfl⟩ | ⟨q, rfl⟩
    · refine (rows3a Q K V _ _ _ _ _ _ _ _ ?_ ?_ ?_ ?_ ?_ ?_ ?_ ?_ q l).trans ?_
      case refine_9 =>
        have k1 : (y 1 : ℕ) = 1536 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])
    · refine (rows3b Q K V _ _ _ _ _ _ _ _ ?_ ?_ ?_ ?_ ?_ ?_ ?_ ?_ q l).trans ?_
      case refine_9 =>
        have k1 : (y 1 : ℕ) = 1792 + (q : ℕ) := by refine (show (y 1 : ℕ) = _ from h1).trans ?_; pointwise; all_goals omega
        have k2 : (y 2 : ℕ) = l := h2.trans rfl
        exact stored_congr Q K V y _ _ _ k1 (by omega) k2
      all_goals (intro i l; pointwise [e0, e1, e2])

end Cert.KernelIdeal.MlaAttn
end
-- ==== Proof.MlaAttn.lean ====
/- The latent attention's call of the last layer: each program runs, and kernel and reference end with the same array. -/
module

public import proofs.«01_k».proof.Defs
public import proofs.«01_k».proof.Proof.Gen.ReferenceIdeal.Run
public import proofs.«01_k».proof.Proof.Gen.Kernel.Frame
public import proofs.«01_k».proof.Proof.Gen.KernelIdeal.Value
public import proofs.«01_k».proof.Proof.MlaFinite
public import proofs.«01_k».proof.Proof.MlaRow
public import proofs.«01_k».proof.Proof.MlaBlock
public import Idealize.ShloMosaic.Lib.Pipeline.ValueKit
public import Idealize.ShloMosaic.Lib.Quiescent
public import Idealize.ShloMosaic.Lib.Pointwise

@[expose] public section
set_option maxRecDepth 16384
noncomputable section
open Idealize.ShloMosaic Idealize.ShloMosaic.TcCoe Idealize.SL.Sem

namespace Cert.KernelIdeal.MlaAttn
open Cert.KernelIdeal Cert.KernelIdeal.Gen Cert.SoftmaxRow Cert.ReferenceIdeal.Result
variable (m : (ℓ : Loc nD τ sig) → Buf (Elt Ideal) ℓ)

theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The batch of a grid point. -/
def batch (t : Fin cfg0.N) : Fin 16 := ⟨t.val / 4, by have := t.2; change t.val < 64 at this; omega⟩
/-- The pair of heads of a grid point. -/
def pair (t : Fin cfg0.N) : Fin 4 := ⟨t.val % 4, by omega⟩

theorem blk0_at (c : Dev nD) (t : Fin cfg0.N) (i : Fin 2048) (l : Fin 256) (Y : Vec Ideal S16x2048x1024 .bf16) (hY : V m c main_v10 = Y) :
    iblk m c 0 t (ix3 0 i l) = Y (ix3 (batch t) i ⟨pair t * 256 + l, by omega⟩) := by
  have e : iblk m c 0 t = ((cfg0.win 0).blk t).view.read (Elt Ideal) (V m c main_v10) := rfl
  rw [e, hY]
  clear e hY
  unfold batch pair
  blk_ext [idx t]
theorem blk1_at (c : Dev nD) (t : Fin cfg0.N) (i : Fin 2048) (l : Fin 256) (Y : Vec Ideal S16x2048x1024 .bf16) (hY : V m c main_v16 = Y) :
    iblk m c 1 t (ix3 0 i l) = Y (ix3 (batch t) i ⟨pair t * 256 + l, by omega⟩) := by
  have e : iblk m c 1 t = ((cfg0.win 1).blk t).view.read (Elt Ideal) (V m c main_v16) := rfl
  rw [e, hY]
  clear e hY
  unfold batch pair
  blk_ext [idx t]
theorem blk2_at (c : Dev nD) (t : Fin cfg0.N) (i : Fin 2048) (l : Fin 256) (Y : Vec Ideal S16x2048x1024 .bf16) (hY : V m c main_v29 = Y) :
    iblk m c 2 t (ix3 0 i l) = Y (ix3 (batch t) i ⟨pair t * 256 + l, by omega⟩) := by
  have e : iblk m c 2 t = ((cfg0.win 2).blk t).view.read (Elt Ideal) (V m c main_v29) := rfl
  rw [e, hY]
  clear e hY
  unfold batch pair
  blk_ext [idx t]

theorem out_at (t : Fin cfg0.N) (i : Fin 2048) (l : Fin 128) :
    ((cfg0.win 3).blk t).view.emb (ix3 0 i l) = ix3 (batch t) i (⟨pair t * 128 + l, by omega⟩ : Fin 512) := by
  unfold batch pair
  funext a
  apply Fin.ext
  fin_cases a <;> blk_simp [idx t] <;> rfl

/-- A packed array of one batch and pair of heads by row and lane, `d` outside it. -/
def lanes (d : EReal) (Y : Vec Ideal S16x2048x1024 .bf16) (b : Fin 16) (p : Fin 4) (i l : ℕ) : EReal :=
  if h : i < 2048 ∧ l < 256 then Y (ix3 b ⟨i, h.1⟩ ⟨p * 256 + l, by omega⟩) else d

theorem lanes_in (d : EReal) (Y : Vec Ideal S16x2048x1024 .bf16) (b : Fin 16) (p : Fin 4) (i : Fin 2048) (l : ℕ) (hl : l < 256) :
    lanes d Y b p i l = Y (ix3 b i ⟨p * 256 + l, by omega⟩) := dif_pos ⟨i.2, hl⟩
theorem lanes_out (d : EReal) (Y : Vec Ideal S16x2048x1024 .bf16) (b : Fin 16) (p : Fin 4) (i l : ℕ) (hi : 2048 ≤ i) :
    lanes d Y b p i l = d := dif_neg (by omega)

/-- The rows of one pair of heads, from the packed arrays. -/
theorem stored_lanes (c : Dev nD) (b : Fin 16) (p : Fin 4) (i : Fin 2048) (l : Fin 128) (y : Fin 512) (hy : (y : ℕ) = p * 128 + l)
    (r0 : S16x8x2048x64.Idx → ℝ) (r1 : S16x8x2048x32.Idx → ℝ) (r2 : S16x8x2048x64.Idx → ℝ) (r3 : S16x2048x32.Idx → ℝ)
    (h0 : A0 m c = fun j => (r0 j : EReal)) (h1 : A1 m c = fun j => (r1 j : EReal)) (h2 : A2 m c = fun j => (r2 j : EReal))
    (h3 : A3 m c = fun j => (r3 j : EReal)) :
    stored (lanes 0 (V m c main_v10) b p) (lanes 0 (V m c main_v16) b p) (lanes 1 (V m c main_v29) b p) (256 * ((i : ℕ) / 256) + 256) i l
      = result (fun j => (r0 j : EReal)) (fun j => (r1 j : EReal)) (fun j => (r2 j : EReal)) (fun j => (r3 j : EReal)) (A4 m c) (ix3 b i y) := by
  refine stored_eq r0 r1 r2 r3 (A4 m c) _ _ _ b p ?_ ?_ ?_ ?_ ?_ ?_ ?_ (256 * ((i : ℕ) / 256) + 256) i (by omega) (by omega) l y hy
  · intro i h l
    rw [lanes_in 0 _ b p i _ (by omega)]
    refine (q_at m c b i p h l _ rfl).trans ?_
    rw [h0, h1]
  · intro i h l
    rw [lanes_in 0 _ b p i _ (by omega)]
    refine (k_at m c b i p h l _ rfl).trans ?_
    rw [h2, h3]
  · exact fun k l hk => lanes_out 0 _ b p k l hk
  · intro k
    by_cases hk : k < 2048
    · refine (lanes_in 1 _ b p ⟨k, hk⟩ 64 (by omega)).trans ?_
      refine (v_at_even m c b ⟨k, hk⟩ p ⟨64, by omega⟩ _ rfl).trans ?_
      rw [dif_neg (by simp), dif_pos (by simp)]
    · exact lanes_out 1 _ b p k 64 (by omega)
  · intro k
    by_cases hk : k < 2048
    · refine (lanes_in 1 _ b p ⟨k, hk⟩ 128 (by omega)).trans ?_
      refine (v_at_odd m c b ⟨k, hk⟩ p ⟨0, by omega⟩ _ rfl).trans ?_
      rw [dif_pos (by simp)]
    · exact lanes_out 1 _ b p k 128 (by omega)
  · intro k l
    rw [lanes_in 1 _ b p k _ (by omega)]
    refine (v_at_even m c b k p ⟨l, by omega⟩ _ rfl).trans ?_
    rw [dif_pos l.2]
  · intro k l
    rw [lanes_in 1 _ b p k _ (by omega)]
    refine (v_at_odd m c b k p ⟨64 + l, by omega⟩ _ (by simp only []; omega)).trans ?_
    rw [dif_neg (by simp only []; omega), dif_neg (by simp only []; omega)]
    congr 2
    exact Fin.ext (by simp only []; omega)

/-- What a grid point stores is its block of the reference's result. -/
theorem point (c : Dev nD) (t : Fin cfg0.N) (y : S1x2048x128.Idx)
    (r0 : S16x8x2048x64.Idx → ℝ) (r1 : S16x8x2048x32.Idx → ℝ) (r2 : S16x8x2048x64.Idx → ℝ) (r3 : S16x2048x32.Idx → ℝ)
    (h0 : A0 m c = fun j => (r0 j : EReal)) (h1 : A1 m c = fun j => (r1 j : EReal)) (h2 : A2 m c = fun j => (r2 j : EReal))
    (h3 : A3 m c = fun j => (r3 j : EReal)) :
    out0_3 (F := Ideal) (iblk m c 0 t) (iblk m c 1 t) (iblk m c 2 t) y
      = result (A0 m c) (A1 m c) (A2 m c) (A3 m c) (A4 m c) (((cfg0.win 3).blk t).view.emb y) := by
  obtain ⟨a, i, l, rfl⟩ : ∃ (a : Fin 1) (i : Fin 2048) (l : Fin 128), y = ix3 a i l := ⟨y 0, y 1, y 2, eq_ix3 y⟩
  obtain rfl : a = 0 := Subsingleton.elim _ _
  rw [out_at]
  refine (block (lanes 0 (V m c main_v10) (batch t) (pair t)) (lanes 0 (V m c main_v16) (batch t) (pair t)) (lanes 1 (V m c main_v29) (batch t) (pair t))
    _ _ _ ?_ ?_ ?_ _).trans ?_
  · exact fun i l => (blk0_at m c t i l _ rfl).trans (lanes_in 0 _ _ _ i l l.2).symm
  · exact fun i l => (blk1_at m c t i l _ rfl).trans (lanes_in 0 _ _ _ i l l.2).symm
  · exact fun i l => (blk2_at m c t i l _ rfl).trans (lanes_in 1 _ _ _ i l l.2).symm
  rw [h0, h1, h2, h3]
  exact stored_lanes m c (batch t) (pair t) i l _ rfl r0 r1 r2 r3 h0 h1 h2 h3

/-- The result array after the run. -/
theorem final (c : Dev nD)
    (hpre : Cert.Pre_finite_scores.fn (F := Ideal) (A0 m c) (A1 m c) (A2 m c) (A3 m c) (A4 m c) = fun _ => 1#1) :
    (dats m 0 c).arrAt 3 (cfgs 0).N = result (A0 m c) (A1 m c) (A2 m c) (A3 m c) (A4 m c) := by
  obtain ⟨⟨r0, h0⟩, ⟨r1, h1⟩, ⟨r2, h2⟩, ⟨r3, h3⟩⟩ := Cert.FiniteScores.real _ _ _ _ _ hpre
  refine (dats m 0 c).arrAt_eq_of_covers 3 _ (by decide +kernel) fun t _ y => ?_
  blk_simp
  rw [after0_3]
  exact point m c t y r0 r1 r2 r3 h0 h1 h2 h3

end Cert.KernelIdeal.MlaAttn

namespace Cert.Proof.MlaAttnClaims

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite_scores := fun m ρ _ => frame_ri m ρ trivial

theorem preserves : Cert.preserves_Kernel_KernelIdeal := trivial

/-- Kernel and reference end with the same array. -/
theorem algebraic : Cert.algebraic_KernelIdeal_ReferenceIdeal_pre_finite_scores := by
  intro m ρ m' ρ' hpre hagree
  refine ⟨_, (θ_run Cert.KernelIdeal.defs _ _).mono
    (fun _ h c => ⟨(h c).1.trans (Cert.KernelIdeal.MlaAttn.final m c (hpre c)), (h c).2⟩)
    (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  have e : Cert.ReferenceIdeal.Value.res_main_v28 (F := Ideal) m' c
      = Cert.ReferenceIdeal.Result.result (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := rfl
  rw [e, h0, h1, h2, h3, h4]

end Cert.Proof.MlaAttnClaims

end
-- ==== Proof.MixFirst.lean ====
/- The first layer: the mixer's projection over two inputs, and the feed-forward part. -/
module

public import proofs.«01_k».proof.Defs
public import proofs.«01_k».proof.Proof.Gen.Reference2Ideal.Run
public import proofs.«01_k».proof.Proof.Gen.Kernel2.Frame
public import proofs.«01_k».proof.Proof.Gen.Kernel2Ideal.Value
public import Idealize.ShloMosaic.Lib.Pipeline.ValueKit
public import Idealize.ShloMosaic.Lib.Quiescent
public import Idealize.ShloMosaic.Lib.Pointwise
public import Idealize.ShloMosaic.Lib.VecWindow

@[expose] public section
set_option maxRecDepth 16384
noncomputable section
open Idealize.ShloMosaic Idealize.ShloMosaic.TcCoe Idealize.SL.Sem
namespace Cert.Reference2Ideal.Result
open Cert.Reference2Ideal Cert.Reference2Ideal.Gen

/-- The mixer's output times its projection. -/
def mixed (X0 : FVec Ideal S16x2048x512 .bf16) (X1 : FVec Ideal S16x2048x512 .bf16) (X3 : FVec Ideal S2x1024x1024 .f32) :
    FVec Ideal S16x2048x1024 .f32 :=
  Host.dotGeneral dot_S16x2048x1024_S1024x1024_S16x2048x1024_2_0_01_1_n_n none (concatenate S16x2048x1024 2 [⟨S16x2048x512, (extf .f32 X0 bitsLt_bf16_f32)⟩, ⟨S16x2048x512, (extf .f32 X1 bitsLt_bf16_f32)⟩] concatenates_S16x2048x512_S16x2048x512_S16x2048x1024_d2) (shapeCast _ (extractStridedSlice S1x1024x1024 ![0, 0, 0] X3 slices_S2x1024x1024_S1x1024x1024_0_0_0) shapeCasts_S1x1024x1024_S1024x1024)

/-- The residual stream with the mixer's part added. -/
def withMix (X0 : FVec Ideal S16x2048x512 .bf16) (X1 : FVec Ideal S16x2048x512 .bf16) (X2 : FVec Ideal S16x2048x1024 .f32) (X3 : FVec Ideal S2x1024x1024 .f32) (X4 : FVec Ideal S4x1024 .f32) :
    FVec Ideal S16x2048x1024 .f32 :=
  addf X2 (mulf (mulf (mixed X0 X1 X3) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (mixed X0 X1 X3) (mixed X0 X1 X3)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] X4 slices_S4x1024_S1x1024_0_0) shapeCasts_S1x1024_S1024))))

/-- Gate and up projection of the normalised residual stream. -/
def gateUp (X0 : FVec Ideal S16x2048x512 .bf16) (X1 : FVec Ideal S16x2048x512 .bf16) (X2 : FVec Ideal S16x2048x1024 .f32) (X3 : FVec Ideal S2x1024x1024 .f32) (X4 : FVec Ideal S4x1024 .f32) (X5 : FVec Ideal S4x1024 .f32) (X6 : FVec Ideal S4x1024x5632 .f32) :
    FVec Ideal S16x2048x5632 .f32 :=
  Host.dotGeneral dot_S16x2048x1024_S1024x5632_S16x2048x5632_2_0_01_1_n_n none (mulf (mulf (withMix X0 X1 X2 X3 X4) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (withMix X0 X1 X2 X3 X4) (withMix X0 X1 X2 X3 X4)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] X5 slices_S4x1024_S1x1024_0_0) shapeCasts_S1x1024_S1024)))) (shapeCast _ (extractStridedSlice S1x1024x5632 ![0, 0, 0] X6 slices_S4x1024x5632_S1x1024x5632_0_0_0) shapeCasts_S1x1024x5632_S1024x5632)

/-- The gated product times the down projection. -/
def down (X0 : FVec Ideal S16x2048x512 .bf16) (X1 : FVec Ideal S16x2048x512 .bf16) (X2 : FVec Ideal S16x2048x1024 .f32) (X3 : FVec Ideal S2x1024x1024 .f32) (X4 : FVec Ideal S4x1024 .f32) (X5 : FVec Ideal S4x1024 .f32) (X6 : FVec Ideal S4x1024x5632 .f32) (X7 : FVec Ideal S4x2816x1024 .f32) :
    FVec Ideal S16x2048x1024 .f32 :=
  Host.dotGeneral dot_S16x2048x2816_S2816x1024_S16x2048x1024_2_0_01_1_n_n none (mulf (mulf (extractStridedSlice S16x2048x2816 ![0, 0, 0] (gateUp X0 X1 X2 X3 X4 X5 X6) slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] (gateUp X0 X1 X2 X3 X4 X5 X6) slices_S16x2048x5632_S16x2048x2816_0_0_0)))))) (extractStridedSlice S16x2048x2816 ![0, 0, 2816] (gateUp X0 X1 X2 X3 X4 X5 X6) slices_S16x2048x5632_S16x2048x2816_0_0_2816)) (shapeCast _ (extractStridedSlice S1x2816x1024 ![0, 0, 0] X7 slices_S4x2816x1024_S1x2816x1024_0_0_0) shapeCasts_S1x2816x1024_S2816x1024)

/-- The reference's result. -/
def result (X0 : FVec Ideal S16x2048x512 .bf16) (X1 : FVec Ideal S16x2048x512 .bf16) (X2 : FVec Ideal S16x2048x1024 .f32) (X3 : FVec Ideal S2x1024x1024 .f32) (X4 : FVec Ideal S4x1024 .f32) (X5 : FVec Ideal S4x1024 .f32) (X6 : FVec Ideal S4x1024x5632 .f32) (X7 : FVec Ideal S4x2816x1024 .f32) (X8 : FVec Ideal S4x1024 .f32) :
    FVec Ideal S32768x1024 .f32 :=
  shapeCast _ (addf (withMix X0 X1 X2 X3 X4) (mulf (mulf (down X0 X1 X2 X3 X4 X5 X6 X7) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (down X0 X1 X2 X3 X4 X5 X6 X7) (down X0 X1 X2 X3 X4 X5 X6 X7)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] X8 slices_S4x1024_S1x1024_0_0) shapeCasts_S1x1024_S1024))))) shapeCasts_S16x2048x1024_S32768x1024
/-- The gated product of a row: the left factor of the down projection. -/
def act (g : FVec Ideal S16x2048x5632 .f32) (b : Fin 16) (s : Fin 2048) (k : Fin 2816) : EReal :=
  g (ix3 b s ⟨k, by omega⟩) * Ideal.div 1 (1 + Ideal.exp (-g (ix3 b s ⟨k, by omega⟩))) * g (ix3 b s ⟨2816 + k, by omega⟩)

end Cert.Reference2Ideal.Result

namespace Cert.Kernel2Ideal.MixFirst
open Cert.Kernel2Ideal Cert.Kernel2Ideal.Gen Cert.Reference2Ideal.Result
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0, 0]
    ∧ win0_7.index t = ![0, 0, 0] ∧ win0_8.index t = ![0, 0] ∧ win0_9.index t = ![t.val, 0] :=
  (by decide +kernel : ∀ t : Fin grid0.N, _)

/-- The reference's gate and up projection at the run's arguments. -/
abbrev gu (c : Dev nD) : FVec Ideal Cert.Reference2Ideal.S16x2048x5632 .f32 :=
  gateUp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The reference's result at the run's arguments. -/
abbrev res (c : Dev nD) : FVec Ideal Cert.Reference2Ideal.S32768x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The two halves of the mixer's projection, as a pair of blocks holds them. -/
def Halves (c : Dev nD) (w0 w1 : Vec Ideal S1x512x1024 .bf16) : Prop :=
  (∀ (a : Fin 512) (k : Fin 1024), w0 (ix3 0 a k) = (m ((c : Thread nD τ).loc main_arg3)) (ix3 0 ⟨a, by omega⟩ k))
    ∧ ∀ (a : Fin 512) (k : Fin 1024), w1 (ix3 0 a k) = (m ((c : Thread nD τ).loc main_arg3)) (ix3 0 ⟨512 + a, by omega⟩ k)

/-- The residual stream with the mixer's part added, a row of a block. -/
theorem hid (c : Dev nD) (t : Fin cfg0.N) (w0 w1 : Vec Ideal S1x512x1024 .bf16) (hw : Halves m c w0 w1)
    (r k : Fin 1024) (b : Fin 16) (s : Fin 2048) (h : (b : ℕ) * 2048 + s = t.val * 1024 + r) :
    k0_pay2 (F := Ideal) (iblk m c 0 t) w0 (iblk m c 1 t) w1 (iblk m c 2 t) (iblk m c 4 t) (ix2 r k)
      = withMix (m ((c : Thread nD τ).loc main_arg0)) (m ((c : Thread nD τ).loc main_arg1)) (m ((c : Thread nD τ).loc main_arg2))
          (m ((c : Thread nD τ).loc main_arg3)) (m ((c : Thread nD τ).loc main_arg4)) (ix3 b s k) := by
  pointwise [k0_pay2, withMix, mixed, hw.1, hw.2]
  blk_point [iblk, V, idx t]

/-- A column of the gate or up projection, a row of a block. -/
theorem gate (c : Dev nD) (t : Fin cfg0.N) (w0 w1 : Vec Ideal S1x512x1024 .bf16) (hw : Halves m c w0 w1)
    (w : Vec Ideal S1x1024x256 .bf16) (r : Fin 1024) (k : Fin 256) (q : Fin 5632)
    (hq : ∀ a, w (ix3 0 a k) = (m ((c : Thread nD τ).loc main_arg6)) (ix3 0 a q))
    (b : Fin 16) (s : Fin 2048) (h : (b : ℕ) * 2048 + s = t.val * 1024 + r) :
    k0_pay10 (F := Ideal) (k0_pay5 (k0_pay2 (iblk m c 0 t) w0 (iblk m c 1 t) w1 (iblk m c 2 t) (iblk m c 4 t)) (k0_pay3 (iblk m c 5 t))
        (k0_pay4 (iblk m c 0 t) w0 (iblk m c 1 t) w1 (iblk m c 2 t) (iblk m c 4 t)) (Scalar.ofBits .f32 0x358637BD#32)) w (ix2 r k)
      = gu m c (ix3 b s q) := by
  pointwise [k0_pay10, k0_pay5, k0_pay3, k0_pay4, gateUp, hq, fun k => hid m c t w0 w1 hw r k b s h]
  blk_point [iblk, V, idx t]

theorem logistic_eq (x : EReal) : Ideal.logistic x = Ideal.div 1 (1 + Ideal.exp (-x)) := rfl

/-- One column of the gated product, a row of a block. -/
theorem gated (c : Dev nD) (t : Fin cfg0.N) (w0 w1 : Vec Ideal S1x512x1024 .bf16) (hw : Halves m c w0 w1)
    (wg wu : Vec Ideal S1x1024x256 .bf16) (r : Fin 1024) (k : Fin 256) (q : Fin 2816)
    (hg : ∀ a, wg (ix3 0 a k) = (m ((c : Thread nD τ).loc main_arg6)) (ix3 0 a ⟨q, by omega⟩))
    (hu : ∀ a, wu (ix3 0 a k) = (m ((c : Thread nD τ).loc main_arg6)) (ix3 0 a ⟨2816 + q, by omega⟩))
    (b : Fin 16) (s : Fin 2048) (h : (b : ℕ) * 2048 + s = t.val * 1024 + r) :
    k0_pay8 (F := Ideal) (k0_pay5 (k0_pay2 (iblk m c 0 t) w0 (iblk m c 1 t) w1 (iblk m c 2 t) (iblk m c 4 t)) (k0_pay3 (iblk m c 5 t))
        (k0_pay4 (iblk m c 0 t) w0 (iblk m c 1 t) w1 (iblk m c 2 t) (iblk m c 4 t)) (Scalar.ofBits .f32 0x358637BD#32)) wg wu (ix2 r k)
      = act (gu m c) b s q := by
  unfold act
  rw [← gate m c t w0 w1 hw wg r k ⟨q, by omega⟩ hg b s h, ← gate m c t w0 w1 hw wu r k ⟨2816 + q, by omega⟩ hu b s h]
  pointwise [k0_pay8, k0_pay10, logistic_eq]

/-- A row of the result, from a row of the gated product. -/
theorem out_of_act (c : Dev nD) (t : Fin cfg0.N) (w0 w1 : Vec Ideal S1x512x1024 .bf16) (hw : Halves m c w0 w1)
    (A : Vec Ideal S1024x2816 .bf16) (r k : Fin 1024)
    (b : Fin 16) (s : Fin 2048) (h : (b : ℕ) * 2048 + s = t.val * 1024 + r) (hA : ∀ q, A (ix2 r q) = act (gu m c) b s q)
    (j : S32768x1024.Idx) (h0 : (j 0 : ℕ) = t.val * 1024 + r) (h1 : (j 1 : ℕ) = k) :
    k0_pay1 (F := Ideal) (k0_pay2 (iblk m c 0 t) w0 (iblk m c 1 t) w1 (iblk m c 2 t) (iblk m c 4 t)) (k0_pay21 A (iblk m c 7 t))
        (k0_pay22 (iblk m c 8 t)) (ix2 r k)
      = res m c j := by
  idx_vars j
  have hb : b = ⟨(j0 : ℕ) / 2048, by omega⟩ := Fin.ext (by simp only []; omega)
  pointwise [k0_pay1, k0_pay21, k0_pay22, result, down, hA, fun k => hid m c t w0 w1 hw r k b s h, act, gu]
  blk_point [iblk, V, idx t]

section
variable (u : FVec Ideal S1024x1024 .bf16) (a b : Vec Ideal S1x1024x256 .bf16)
theorem pay9_eq : k0_pay9 u a b = k0_pay8 u a b := rfl
theorem pay12_eq : k0_pay12 (k0_pay10 u b) (k0_pay11 u a) = k0_pay8 u a b := rfl
theorem pay13_eq : k0_pay13 u a b = k0_pay8 u a b := rfl
theorem pay14_eq : k0_pay14 u a b = k0_pay8 u a b := rfl
theorem pay15_eq : k0_pay15 u a b = k0_pay8 u a b := rfl
theorem pay16_eq : k0_pay16 u a b = k0_pay8 u a b := rfl
theorem pay19_eq : k0_pay19 (k0_pay17 u b) (k0_pay18 u a) = k0_pay8 u a b := rfl
theorem pay20_eq : k0_pay20 u a b = k0_pay8 u a b := rfl
variable (x : FVec Ideal S1024x1024 .f32) (g : FVec Ideal S1x1024 .f32) (v : FVec Ideal S1024x1 .f32) (e : EReal)
theorem pay6_eq : k0_pay6 (F := Ideal) x g v e a b = k0_pay8 (k0_pay5 x g v e) a b := rfl
theorem pay7_eq : k0_pay7 (F := Ideal) x g v e a b = k0_pay8 (k0_pay5 x g v e) a b := rfl
end

/-- What a grid point stores is its block of the reference's result. -/
theorem point (c : Dev nD) (t : Fin cfg0.N) (y : S1024x1024.Idx) :
    outsAt0 (F := Ideal) m c t y = res m c (((cfg0.win 9).blk t).view.emb y) := by
  have ht : t.val < 32 := t.isLt
  have hy : (y 0 : ℕ) < 1024 := (y 0).isLt
  unfold outsAt0
  frame_out
  have hw : Halves m c (View.ld (iblk m c 3 t) (Rect.unit ![0, 0, 0] ![1, 512, 1024] inb_S1x1024x1024_S1x512x1024_0_0_0))
      (View.ld (iblk m c 3 t) (Rect.unit ![0, 512, 0] ![1, 512, 1024] inb_S1x1024x1024_S1x512x1024_0_512_0)) := by
    constructor <;> intro a k <;> pointwise <;> blk_point [iblk, V, idx t]
  rw [eq_ix2 y]
  refine out_of_act m c t _ _ hw _ _ _ ⟨(t.val * 1024 + (y 0 : ℕ)) / 2048, by omega⟩ ⟨(t.val * 1024 + (y 0 : ℕ)) % 2048, by omega⟩ ?_ (fun q => ?_) _ ?_ ?_
  · simp only []; omega
  · refine ((congrFun (View.readCov_eq_canon' _ _ _) _).trans (congrArg _ (Rect.emb_unit_full _ _))).trans ?_
    generalize hx : (ix2 (y 0) q : S1024x2816.Idx) = x
    canon_tiles x h
    all_goals
      subst hx
      have e0 : (y 0 : ℕ) = x 0 := h0
      first
        | have e1 : (q : ℕ) = _ + (x 1 : ℕ) := h1
        | have e1 : (q : ℕ) = (x 1 : ℕ) := h1
      try first | rw [pay9_eq] | rw [pay12_eq] | rw [pay13_eq] | rw [pay14_eq] | rw [pay15_eq] | rw [pay16_eq] | rw [pay19_eq] | rw [pay20_eq] | rw [pay6_eq] | rw [pay7_eq]
      rw [eq_ix2 x]
      refine gated m c t _ _ hw _ _ _ _ _ (fun a => ?_) (fun a => ?_) _ _ (by simp only []; omega)
      all_goals
        pointwise
        blk_point [iblk, V, idx t]
  · blk_simp [idx t]
  · blk_simp [idx t]

/-- The result array after the run. -/
theorem final (c : Dev nD) : (dats m 0 c).arrAt 9 (cfgs 0).N = res m c := by
  refine (dats m 0 c).arrAt_eq_of_covers 9 _ (by decide +kernel) fun t _ y => ?_
  blk_simp
  rw [after0_9]
  exact point m c t y

end Cert.Kernel2Ideal.MixFirst

namespace Cert.Proof.MixFirstClaims

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- Kernel and reference end with the same array. -/
theorem algebraic : Cert.algebraic_Kernel2Ideal_Reference2Ideal := by
  intro m ρ m' ρ' _ hagree
  refine ⟨_, (θ_run Cert.Kernel2Ideal.defs _ _).mono
    (fun _ h c => ⟨(h c).1.trans (Cert.Kernel2Ideal.MixFirst.final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8⟩ := hagree c
  rw [Cert.Reference2Ideal.Value.res_main_v63, h0, h1, h2, h3, h4, h5, h6, h7, h8]
  rfl

end Cert.Proof.MixFirstClaims

end
-- ==== Proof.NormMatmul.lean ====
/- The result of the reference of the norm and projection, read entry by entry. -/
module

public import proofs.«01_k».proof.Defs
public import proofs.«01_k».proof.Proof.Gen.Reference3Ideal.Run
public import proofs.«01_k».proof.Proof.Gen.Kernel3.Frame
public import proofs.«01_k».proof.Proof.Gen.Kernel3Ideal.Value
public import proofs.«01_k».proof.Proof.Consts
public import Idealize.ShloMosaic.Lib.Pipeline.ValueKit
public import Idealize.ShloMosaic.Lib.Quiescent
public import Idealize.ShloMosaic.Lib.Pointwise

@[expose] public section
set_option maxRecDepth 16384
noncomputable section
open Idealize.ShloMosaic Idealize.ShloMosaic.TcCoe Idealize.SL.Sem
namespace Cert.Reference3Ideal.Result
open Cert.Reference3Ideal Cert.Reference3Ideal.Gen

/-- The normalised rows. -/
def normed (X0 : FVec Ideal S16x2048x1024 .f32) (X1 : FVec Ideal S4x1024 .f32) : FVec Ideal S16x2048x1024 .f32 :=
  mulf (mulf X0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X0 X0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![1, 0] X1 slices_S4x1024_S1x1024_1_0) shapeCasts_S1x1024_S1024)))

/-- The normalised rows times the first projection. -/
def projected (X0 : FVec Ideal S16x2048x1024 .f32) (X1 : FVec Ideal S4x1024 .f32) (X2 : FVec Ideal S2x1024x3072 .f32) :
    FVec Ideal S16x2048x3072 .f32 :=
  Host.dotGeneral dot_S16x2048x1024_S1024x3072_S16x2048x3072_2_0_01_1_n_n none (normed X0 X1) (shapeCast _ (extractStridedSlice S1x1024x3072 ![0, 0, 0] X2 slices_S2x1024x3072_S1x1024x3072_0_0_0) shapeCasts_S1x1024x3072_S1024x3072)

/-- The reference's result. -/
def result (X0 : FVec Ideal S16x2048x1024 .f32) (X1 : FVec Ideal S4x1024 .f32) (X2 : FVec Ideal S2x1024x3072 .f32) :
    FVec Ideal S32768x3072 .bf16 :=
  truncf .bf16 (shapeCast _ (concatenate S16x2048x3072 2 [⟨S16x2048x1024, (Host.divf (mulf (extractStridedSlice S16x2048x1024 ![0, 0, 0] (projected X0 X1 X2) slices_S16x2048x3072_S16x2048x1024_0_0_0) (broadcastInDim S16x2048x1024 ![] bcast_S_S16x2048x1024 (constant S_ .f32 0x3E000000#32))) (broadcastInDim S16x2048x1024 ![] bcast_S_S16x2048x1024 (Host.log (constant S_ .f32 0x40000000#32))))⟩, ⟨S16x2048x2048, (extractStridedSlice S16x2048x2048 ![0, 0, 1024] (projected X0 X1 X2) slices_S16x2048x3072_S16x2048x2048_0_0_1024)⟩] concatenates_S16x2048x1024_S16x2048x2048_S16x2048x3072_d2) shapeCasts_S16x2048x3072_S32768x3072) bitsLt_bf16_f32

/-- The factor on the queries: the kernel's named constant. -/
abbrev qScale : EReal := Named.named (F := Ideal) Cert.Kernel3Ideal.κ "q_scale" (φ := .f32) 0x3E38AA3B#32

theorem qScale_eq : qScale = (((1 / 8) * (Real.log 2)⁻¹ : ℝ) : EReal) :=
  IdealRules.named_const.ideal_named_scalar _ _ _ _ rfl

/-- The result with one factor on the columns of the queries. -/
theorem result_at (X0 : FVec Ideal S16x2048x1024 .f32) (X1 : FVec Ideal S4x1024 .f32) (X2 : FVec Ideal S2x1024x3072 .f32)
    (r : Fin 32768) (k : Fin 3072) :
    result X0 X1 X2 (ix2 r k) = if (k : ℕ) < 1024
      then projected X0 X1 X2 (ix3 ⟨r / 2048, by omega⟩ ⟨r % 2048, by omega⟩ k) * qScale
      else projected X0 X1 X2 (ix3 ⟨r / 2048, by omega⟩ ⟨r % 2048, by omega⟩ k) := by
  pointwise [result]
  by_cases h : (k : ℕ) < 1024
  · simp only [h, ↓reduceIte, ↓reduceDIte, qScale_eq]
    exact Cert.Consts.eighth_div_log _
  · simp only [h, ↓reduceIte, ↓reduceDIte]
    congr 2
    exact Fin.ext (by simp only []; omega)

end Cert.Reference3Ideal.Result

namespace Cert.Kernel3Ideal.NormMatmul
open Cert.Kernel3Ideal Cert.Kernel3Ideal.Gen Cert.Reference3Ideal.Result
variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] :=
  (by decide +kernel : ∀ t : Fin grid0.N, _)

/-- One column of queries of a block of rows. -/
theorem core_q (c : Dev nD) (t : Fin cfg0.N) (x2 : Vec Ideal S1x1024x512 .bf16) (r : Fin 1024) (k : Fin 512) (j : S32768x3072.Idx)
    (hx : ∀ a, x2 (ix3 0 a k) = (m ((c : Thread nD τ).loc main_arg2)) (ix3 0 a (j 1)))
    (h0 : (j 0 : ℕ) = t.val * 1024 + r) (h1 : (j 1 : ℕ) < 1024) :
    k0_pay6 (F := Ideal) (iblk m c 0 t) (iblk m c 1 t) x2 (ix2 r k)
      = result (m ((c : Thread nD τ).loc main_arg0)) (m ((c : Thread nD τ).loc main_arg1)) (m ((c : Thread nD τ).loc main_arg2)) j := by
  idx_vars j
  rw [result_at, if_pos h1]
  pointwise [k0_pay6, k0_pay5, projected, normed, hx]
  blk_point [iblk, V, idx t]

/-- One of the other columns of a block of rows. -/
theorem core (c : Dev nD) (t : Fin cfg0.N) (x2 : Vec Ideal S1x1024x512 .bf16) (r : Fin 1024) (k : Fin 512) (j : S32768x3072.Idx)
    (hx : ∀ a, x2 (ix3 0 a k) = (m ((c : Thread nD τ).loc main_arg2)) (ix3 0 a (j 1)))
    (h0 : (j 0 : ℕ) = t.val * 1024 + r) (h1 : ¬ (j 1 : ℕ) < 1024) :
    k0_pay1 (F := Ideal) (k0_pay5 (iblk m c 0 t) (iblk m c 1 t)) (k0_pay8 x2) (ix2 r k)
      = result (m ((c : Thread nD τ).loc main_arg0)) (m ((c : Thread nD τ).loc main_arg1)) (m ((c : Thread nD τ).loc main_arg2)) j := by
  idx_vars j
  rw [result_at, if_neg h1]
  pointwise [k0_pay1, k0_pay8, k0_pay5, projected, normed, hx]
  blk_point [iblk, V, idx t]

theorem hz : (![0, 0] : Fin 2 → Nat) = fun _ => 0 := funext fun a => by fin_cases a <;> rfl
theorem pay9_eq (x0 : Vec Ideal S1024x1024 .f32) (x1 : Vec Ideal S1x1024 .f32) (x2 : Vec Ideal S1x1024x3072 .bf16) :
    k0_pay9 x0 x1 x2 = k0_pay5 x0 x1 := by
  unfold k0_pay9
  rw [View.ld_unit_zero hz, View.ld_unit_zero hz]
theorem pay2_eq (u : FVec Ideal S1024x1024 .bf16) (w : Vec Ideal S1x1024x512 .bf16) : k0_pay2 u w = k0_pay1 u (k0_pay8 w) := rfl
theorem pay3_eq (u : FVec Ideal S1024x1024 .bf16) (w : Vec Ideal S1x1024x512 .bf16) : k0_pay3 u w = k0_pay1 u (k0_pay8 w) := rfl
theorem pay4_eq (u : FVec Ideal S1024x1024 .bf16) (w : Vec Ideal S1x1024x512 .bf16) : k0_pay4 u w = k0_pay1 u (k0_pay8 w) := rfl
theorem pay7_eq (x0 : Vec Ideal S1024x1024 .f32) (x1 : Vec Ideal S1x1024 .f32) (w : Vec Ideal S1x1024x512 .bf16) :
    k0_pay7 x0 x1 w = k0_pay6 x0 x1 w := rfl

/-- What a grid point stores is its block of the reference's result. -/
theorem point (c : Dev nD) (t : Fin cfg0.N) (y : S1024x3072.Idx) :
    out0_3 (F := Ideal) (iblk m c 0 t) (iblk m c 1 t) (iblk m c 2 t) y
      = result (m ((c : Thread nD τ).loc main_arg0)) (m ((c : Thread nD τ).loc main_arg1)) (m ((c : Thread nD τ).loc main_arg2))
        (((cfg0.win 3).blk t).view.emb y) := by
  canon_tiles x h
  case piece4 | piece5 =>
    all_goals (
      try rw [pay7_eq]
      rw [View.ld_unit_zero hz, View.ld_unit_zero hz, eq_ix2 x]
      refine core_q m c t _ _ _ _ (fun a => ?_) (by blk_simp [idx t] <;> omega) (by blk_simp [idx t] <;> omega)
      pointwise
      blk_point [iblk, V, idx t])
  all_goals (
    rw [pay9_eq]
    first | rw [pay4_eq] | rw [pay3_eq] | rw [pay2_eq] | skip
    rw [eq_ix2 x]
    refine core m c t _ _ _ _ (fun a => ?_) (by blk_simp [idx t] <;> omega) (by blk_simp [idx t] <;> omega)
    pointwise
    blk_point [iblk, V, idx t])

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel3Ideal.NormMatmul

namespace Cert.Proof.NormMatmulClaims

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal :=
  IdealRules.named_const.statement Cert.Kernel3Ideal.κ "q_scale" .f32 0x3E38AA3B#32 (((1 / 8) * (Real.log 2)⁻¹ : ℝ) : EReal) rfl

/-- Kernel and reference end with the same array. -/
theorem algebraic : Cert.algebraic_Kernel3Ideal_Reference3Ideal := by
  intro m ρ m' ρ' _ hagree
  refine ⟨_, (θ_run Cert.Kernel3Ideal.defs _ _).mono
    (fun _ h c => ⟨(h c).1.trans (Cert.Kernel3Ideal.NormMatmul.final m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  obtain ⟨h0, h1, h2⟩ := hagree c
  rw [h0, h1, h2]
  rfl

end Cert.Proof.NormMatmulClaims

end
-- ==== Proof.MixLast.lean ====
/- The last layer: the mixer's projection and the feed-forward part; its result is the trunk's. -/
module

public import proofs.«01_k».proof.Defs
public import proofs.«01_k».proof.Proof.Gen.Reference4Ideal.Run
public import proofs.«01_k».proof.Proof.Gen.Kernel4.Frame
public import proofs.«01_k».proof.Proof.Gen.Kernel4Ideal.Value
public import Idealize.ShloMosaic.Lib.Pipeline.ValueKit
public import Idealize.ShloMosaic.Lib.Quiescent
public import Idealize.ShloMosaic.Lib.Pointwise
public import Idealize.ShloMosaic.Lib.VecWindow

@[expose] public section
set_option maxRecDepth 16384
noncomputable section
open Idealize.ShloMosaic Idealize.ShloMosaic.TcCoe Idealize.SL.Sem
namespace Cert.Reference4Ideal.Result
open Cert.Reference4Ideal Cert.Reference4Ideal.Gen

/-- The mixer's output times its projection. -/
def mixed (X0 : FVec Ideal S16x2048x1024 .bf16) (X2 : FVec Ideal S2x1024x1024 .f32) :
    FVec Ideal S16x2048x1024 .f32 :=
  Host.dotGeneral dot_S16x2048x1024_S1024x1024_S16x2048x1024_2_0_01_1_n_n none (extf .f32 X0 bitsLt_bf16_f32) (shapeCast _ (extractStridedSlice S1x1024x1024 ![1, 0, 0] X2 slices_S2x1024x1024_S1x1024x1024_1_0_0) shapeCasts_S1x1024x1024_S1024x1024)

/-- The residual stream with the mixer's part added. -/
def withMix (X0 : FVec Ideal S16x2048x1024 .bf16) (X1 : FVec Ideal S16x2048x1024 .f32) (X2 : FVec Ideal S2x1024x1024 .f32) (X3 : FVec Ideal S4x1024 .f32) :
    FVec Ideal S16x2048x1024 .f32 :=
  addf X1 (mulf (mulf (mixed X0 X2) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (mixed X0 X2) (mixed X0 X2)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![3, 0] X3 slices_S4x1024_S1x1024_3_0) shapeCasts_S1x1024_S1024))))

/-- Gate and up projection of the normalised residual stream. -/
def gateUp (X0 : FVec Ideal S16x2048x1024 .bf16) (X1 : FVec Ideal S16x2048x1024 .f32) (X2 : FVec Ideal S2x1024x1024 .f32) (X3 : FVec Ideal S4x1024 .f32) (X4 : FVec Ideal S4x1024 .f32) (X5 : FVec Ideal S4x1024x5632 .f32) :
    FVec Ideal S16x2048x5632 .f32 :=
  Host.dotGeneral dot_S16x2048x1024_S1024x5632_S16x2048x5632_2_0_01_1_n_n none (mulf (mulf (withMix X0 X1 X2 X3) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (withMix X0 X1 X2 X3) (withMix X0 X1 X2 X3)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![3, 0] X4 slices_S4x1024_S1x1024_3_0) shapeCasts_S1x1024_S1024)))) (shapeCast _ (extractStridedSlice S1x1024x5632 ![3, 0, 0] X5 slices_S4x1024x5632_S1x1024x5632_3_0_0) shapeCasts_S1x1024x5632_S1024x5632)

/-- The gated product times the down projection. -/
def down (X0 : FVec Ideal S16x2048x1024 .bf16) (X1 : FVec Ideal S16x2048x1024 .f32) (X2 : FVec Ideal S2x1024x1024 .f32) (X3 : FVec Ideal S4x1024 .f32) (X4 : FVec Ideal S4x1024 .f32) (X5 : FVec Ideal S4x1024x5632 .f32) (X6 : FVec Ideal S4x2816x1024 .f32) :
    FVec Ideal S16x2048x1024 .f32 :=
  Host.dotGeneral dot_S16x2048x2816_S2816x1024_S16x2048x1024_2_0_01_1_n_n none (mulf (mulf (extractStridedSlice S16x2048x2816 ![0, 0, 0] (gateUp X0 X1 X2 X3 X4 X5) slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] (gateUp X0 X1 X2 X3 X4 X5) slices_S16x2048x5632_S16x2048x2816_0_0_0)))))) (extractStridedSlice S16x2048x2816 ![0, 0, 2816] (gateUp X0 X1 X2 X3 X4 X5) slices_S16x2048x5632_S16x2048x2816_0_0_2816)) (shapeCast _ (extractStridedSlice S1x2816x1024 ![3, 0, 0] X6 slices_S4x2816x1024_S1x2816x1024_3_0_0) shapeCasts_S1x2816x1024_S2816x1024)

/-- The reference's result. -/
def result (X0 : FVec Ideal S16x2048x1024 .bf16) (X1 : FVec Ideal S16x2048x1024 .f32) (X2 : FVec Ideal S2x1024x1024 .f32) (X3 : FVec Ideal S4x1024 .f32) (X4 : FVec Ideal S4x1024 .f32) (X5 : FVec Ideal S4x1024x5632 .f32) (X6 : FVec Ideal S4x2816x1024 .f32) (X7 : FVec Ideal S4x1024 .f32) :
    FVec Ideal S32768x1024 .f32 :=
  shapeCast _ (addf (withMix X0 X1 X2 X3) (mulf (mulf (down X0 X1 X2 X3 X4 X5 X6) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (down X0 X1 X2 X3 X4 X5 X6) (down X0 X1 X2 X3 X4 X5 X6)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![3, 0] X7 slices_S4x1024_S1x1024_3_0) shapeCasts_S1x1024_S1024))))) shapeCasts_S16x2048x1024_S32768x1024
/-- The gated product of a row: the left factor of the down projection. -/
def act (g : FVec Ideal S16x2048x5632 .f32) (b : Fin 16) (s : Fin 2048) (k : Fin 2816) : EReal :=
  g (ix3 b s ⟨k, by omega⟩) * Ideal.div 1 (1 + Ideal.exp (-g (ix3 b s ⟨k, by omega⟩))) * g (ix3 b s ⟨2816 + k, by omega⟩)

end Cert.Reference4Ideal.Result

namespace Cert.Kernel4Ideal.MixLast
open Cert.Kernel4Ideal Cert.Kernel4Ideal.Gen Cert.Reference4Ideal.Result
variable (m : (ℓ : Loc nD τ sig) → Buf (Elt Ideal) ℓ)

theorem idx : ∀ t : Fin cfg0.N, win0_0.index t = ![t.val, 0] ∧ win0_1.index t = ![t.val, 0] ∧ win0_2.index t = ![1, 0, 0]
    ∧ win0_3.index t = ![0, 0] ∧ win0_4.index t = ![0, 0] ∧ win0_5.index t = ![3, 0, 0] ∧ win0_6.index t = ![3, 0, 0]
    ∧ win0_7.index t = ![0, 0] ∧ win0_8.index t = ![t.val, 0] :=
  (by decide +kernel : ∀ t : Fin grid0.N, _)

/-- The reference's gate and up projection at the run's arguments. -/
abbrev gu (c : Dev nD) : FVec Ideal Cert.Reference4Ideal.S16x2048x5632 .f32 :=
  gateUp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's result at the run's arguments. -/
abbrev res (c : Dev nD) : FVec Ideal Cert.Reference4Ideal.S32768x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The residual stream with the mixer's part added, a row of a block. -/
theorem hid (c : Dev nD) (t : Fin cfg0.N) (r k : Fin 1024) (b : Fin 16) (s : Fin 2048) (h : (b : ℕ) * 2048 + s = t.val * 1024 + r) :
    k0_pay3 (F := Ideal) (iblk m c 0 t) (iblk m c 2 t) (iblk m c 1 t) (iblk m c 3 t) (ix2 r k)
      = withMix (m ((c : Thread nD τ).loc main_arg0)) (m ((c : Thread nD τ).loc main_arg1)) (m ((c : Thread nD τ).loc main_arg2))
          (m ((c : Thread nD τ).loc main_arg3)) (ix3 b s k) := by
  pointwise [k0_pay3, withMix, mixed]
  blk_point [iblk, V, idx t]

/-- A column of the gate or up projection, a row of a block. -/
theorem gate (c : Dev nD) (t : Fin cfg0.N) (w : Vec Ideal S1x1024x256 .bf16) (r : Fin 1024) (k : Fin 256) (q : Fin 5632)
    (hw : ∀ a, w (ix3 0 a k) = (m ((c : Thread nD τ).loc main_arg5)) (ix3 3 a q))
    (b : Fin 16) (s : Fin 2048) (h : (b : ℕ) * 2048 + s = t.val * 1024 + r) :
    k0_pay7 (F := Ideal) (k0_pay4 (iblk m c 0 t) (iblk m c 2 t) (iblk m c 1 t) (iblk m c 3 t) (iblk m c 4 t)) w (ix2 r k)
      = gu m c (ix3 b s q) := by
  pointwise [k0_pay7, k0_pay4, gateUp, hw, fun k => hid m c t r k b s h]
  blk_point [iblk, V, idx t]

theorem logistic_eq (x : EReal) : Ideal.logistic x = Ideal.div 1 (1 + Ideal.exp (-x)) := rfl

/-- One column of the gated product, a row of a block. -/
theorem gated (c : Dev nD) (t : Fin cfg0.N) (wg wu : Vec Ideal S1x1024x256 .bf16) (r : Fin 1024) (k : Fin 256) (q : Fin 2816)
    (hg : ∀ a, wg (ix3 0 a k) = (m ((c : Thread nD τ).loc main_arg5)) (ix3 3 a ⟨q, by omega⟩))
    (hu : ∀ a, wu (ix3 0 a k) = (m ((c : Thread nD τ).loc main_arg5)) (ix3 3 a ⟨2816 + q, by omega⟩))
    (b : Fin 16) (s : Fin 2048) (h : (b : ℕ) * 2048 + s = t.val * 1024 + r) :
    k0_pay1 (F := Ideal) (k0_pay4 (iblk m c 0 t) (iblk m c 2 t) (iblk m c 1 t) (iblk m c 3 t) (iblk m c 4 t)) wg wu (ix2 r k)
      = act (gu m c)
          b s q := by
  unfold act
  rw [← gate m c t wg r k ⟨q, by omega⟩ hg b s h, ← gate m c t wu r k ⟨2816 + q, by omega⟩ hu b s h]
  pointwise [k0_pay1, k0_pay7, logistic_eq]

/-- A row of the result, from a row of the gated product. -/
theorem out_of_act (c : Dev nD) (t : Fin cfg0.N) (A : Vec Ideal S1024x2816 .bf16) (r k : Fin 1024)
    (b : Fin 16) (s : Fin 2048) (h : (b : ℕ) * 2048 + s = t.val * 1024 + r)
    (hA : ∀ q, A (ix2 r q) = act (gu m c)
          b s q)
    (j : S32768x1024.Idx) (h0 : (j 0 : ℕ) = t.val * 1024 + r) (h1 : (j 1 : ℕ) = k) :
    k0_pay2 (F := Ideal) (k0_pay3 (iblk m c 0 t) (iblk m c 2 t) (iblk m c 1 t) (iblk m c 3 t)) A (iblk m c 6 t) (iblk m c 7 t) (ix2 r k)
      = res m c j := by
  idx_vars j
  have hb : b = ⟨(j0 : ℕ) / 2048, by omega⟩ := Fin.ext (by simp only []; omega)
  pointwise [k0_pay2, result, down, hA, fun k => hid m c t r k b s h, act]
  blk_point [iblk, V, idx t]

section
variable (u : FVec Ideal S1024x1024 .bf16) (a b : Vec Ideal S1x1024x256 .bf16)
theorem pay5_eq : k0_pay5 u a b = k0_pay1 u a b := rfl
theorem pay6_eq : k0_pay6 u a b = k0_pay1 u a b := rfl
theorem pay9_eq : k0_pay9 (k0_pay7 u b) (k0_pay8 u a) = k0_pay1 u a b := rfl
theorem pay10_eq : k0_pay10 u a b = k0_pay1 u a b := rfl
theorem pay11_eq : k0_pay11 u a b = k0_pay1 u a b := rfl
theorem pay12_eq : k0_pay12 u a b = k0_pay1 u a b := rfl
theorem pay13_eq : k0_pay13 u a b = k0_pay1 u a b := rfl
theorem pay16_eq : k0_pay16 (k0_pay14 u b) (k0_pay15 u a) = k0_pay1 u a b := rfl
theorem pay17_eq : k0_pay17 u a b = k0_pay1 u a b := rfl
theorem pay18_eq : k0_pay18 u a b = k0_pay1 u a b := rfl
end

/-- What a grid point stores is its block of the reference's result. -/
theorem point (c : Dev nD) (t : Fin cfg0.N) (y : S1024x1024.Idx) :
    outsAt0 (F := Ideal) m c t y = res m c (((cfg0.win 8).blk t).view.emb y) := by
  have ht : t.val < 32 := t.isLt
  have hy : (y 0 : ℕ) < 1024 := (y 0).isLt
  unfold outsAt0
  frame_out
  rw [eq_ix2 y]
  refine out_of_act m c t _ _ _ ⟨(t.val * 1024 + (y 0 : ℕ)) / 2048, by omega⟩ ⟨(t.val * 1024 + (y 0 : ℕ)) % 2048, by omega⟩ ?_ (fun q => ?_) _ ?_ ?_
  · simp only []; omega
  · refine ((congrFun (View.readCov_eq_canon' _ _ _) _).trans (congrArg _ (Rect.emb_unit_full _ _))).trans ?_
    generalize hx : (ix2 (y 0) q : S1024x2816.Idx) = x
    canon_tiles x h
    all_goals
      subst hx
      have e0 : (y 0 : ℕ) = x 0 := h0
      first
        | have e1 : (q : ℕ) = _ + (x 1 : ℕ) := h1
        | have e1 : (q : ℕ) = (x 1 : ℕ) := h1
      try first | rw [pay5_eq] | rw [pay6_eq] | rw [pay9_eq] | rw [pay10_eq] | rw [pay11_eq] | rw [pay12_eq] | rw [pay13_eq] | rw [pay16_eq] | rw [pay17_eq] | rw [pay18_eq]
      rw [eq_ix2 x]
      refine gated m c t _ _ _ _ _ (fun a => ?_) (fun a => ?_) _ _ (by simp only []; omega)
      all_goals
        pointwise
        blk_point [iblk, V, idx t]
  · blk_simp [idx t]
  · blk_simp [idx t]

/-- The result array after the run. -/
theorem final (c : Dev nD) : (dats m 0 c).arrAt 8 (cfgs 0).N = res m c := by
  refine (dats m 0 c).arrAt_eq_of_covers 8 _ (by decide +kernel) fun t _ y => ?_
  blk_simp
  rw [after0_8]
  exact point m c t y

end Cert.Kernel4Ideal.MixLast

namespace Cert.Proof.MixLastClaims

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- Kernel and reference end with the same array. -/
theorem algebraic : Cert.algebraic_Kernel4Ideal_Reference4Ideal := by
  intro m ρ m' ρ' _ hagree
  refine ⟨_, (θ_run Cert.Kernel4Ideal.defs _ _).mono
    (fun _ h c => ⟨(h c).1.trans (Cert.Kernel4Ideal.MixLast.final m c), (h c).2⟩)
    (Cert.Kernel4Ideal.Value.run_blocks (F := Ideal) m ρ), ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7⟩ := hagree c
  rw [Cert.Reference4Ideal.Value.res_main_v61, h0, h1, h2, h3, h4, h5, h6, h7]
  rfl

end Cert.Proof.MixLastClaims

end
-- ==== Proof.MixLayer1.lean ====
/- Layer 1: the mixer's projection and the feed-forward part. -/
module

public import proofs.«01_k».proof.Defs
public import proofs.«01_k».proof.Proof.Gen.Reference5Ideal.Run
public import proofs.«01_k».proof.Proof.Gen.Kernel5.Frame
public import proofs.«01_k».proof.Proof.Gen.Kernel5Ideal.Value
public import Idealize.ShloMosaic.Lib.Pipeline.ValueKit
public import Idealize.ShloMosaic.Lib.Quiescent
public import Idealize.ShloMosaic.Lib.Pointwise
public import Idealize.ShloMosaic.Lib.VecWindow

@[expose] public section
set_option maxRecDepth 16384
noncomputable section
open Idealize.ShloMosaic Idealize.ShloMosaic.TcCoe Idealize.SL.Sem
namespace Cert.Reference5Ideal.Result
open Cert.Reference5Ideal Cert.Reference5Ideal.Gen

/-- The mixer's output times its projection. -/
def mixed (X0 : FVec Ideal S16x2048x1024 .bf16) (X2 : FVec Ideal S2x1024x1024 .f32) :
    FVec Ideal S16x2048x1024 .f32 :=
  Host.dotGeneral dot_S16x2048x1024_S1024x1024_S16x2048x1024_2_0_01_1_n_n none (extf .f32 X0 bitsLt_bf16_f32) (shapeCast _ (extractStridedSlice S1x1024x1024 ![0, 0, 0] X2 slices_S2x1024x1024_S1x1024x1024_0_0_0) shapeCasts_S1x1024x1024_S1024x1024)

/-- The residual stream with the mixer's part added. -/
def withMix (X0 : FVec Ideal S16x2048x1024 .bf16) (X1 : FVec Ideal S16x2048x1024 .f32) (X2 : FVec Ideal S2x1024x1024 .f32) (X3 : FVec Ideal S4x1024 .f32) :
    FVec Ideal S16x2048x1024 .f32 :=
  addf X1 (mulf (mulf (mixed X0 X2) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (mixed X0 X2) (mixed X0 X2)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![1, 0] X3 slices_S4x1024_S1x1024_1_0) shapeCasts_S1x1024_S1024))))

/-- Gate and up projection of the normalised residual stream. -/
def gateUp (X0 : FVec Ideal S16x2048x1024 .bf16) (X1 : FVec Ideal S16x2048x1024 .f32) (X2 : FVec Ideal S2x1024x1024 .f32) (X3 : FVec Ideal S4x1024 .f32) (X4 : FVec Ideal S4x1024 .f32) (X5 : FVec Ideal S4x1024x5632 .f32) :
    FVec Ideal S16x2048x5632 .f32 :=
  Host.dotGeneral dot_S16x2048x1024_S1024x5632_S16x2048x5632_2_0_01_1_n_n none (mulf (mulf (withMix X0 X1 X2 X3) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (withMix X0 X1 X2 X3) (withMix X0 X1 X2 X3)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![1, 0] X4 slices_S4x1024_S1x1024_1_0) shapeCasts_S1x1024_S1024)))) (shapeCast _ (extractStridedSlice S1x1024x5632 ![1, 0, 0] X5 slices_S4x1024x5632_S1x1024x5632_1_0_0) shapeCasts_S1x1024x5632_S1024x5632)

/-- The gated product times the down projection. -/
def down (X0 : FVec Ideal S16x2048x1024 .bf16) (X1 : FVec Ideal S16x2048x1024 .f32) (X2 : FVec Ideal S2x1024x1024 .f32) (X3 : FVec Ideal S4x1024 .f32) (X4 : FVec Ideal S4x1024 .f32) (X5 : FVec Ideal S4x1024x5632 .f32) (X6 : FVec Ideal S4x2816x1024 .f32) :
    FVec Ideal S16x2048x1024 .f32 :=
  Host.dotGeneral dot_S16x2048x2816_S2816x1024_S16x2048x1024_2_0_01_1_n_n none (mulf (mulf (extractStridedSlice S16x2048x2816 ![0, 0, 0] (gateUp X0 X1 X2 X3 X4 X5) slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] (gateUp X0 X1 X2 X3 X4 X5) slices_S16x2048x5632_S16x2048x2816_0_0_0)))))) (extractStridedSlice S16x2048x2816 ![0, 0, 2816] (gateUp X0 X1 X2 X3 X4 X5) slices_S16x2048x5632_S16x2048x2816_0_0_2816)) (shapeCast _ (extractStridedSlice S1x2816x1024 ![1, 0, 0] X6 slices_S4x2816x1024_S1x2816x1024_1_0_0) shapeCasts_S1x2816x1024_S2816x1024)

/-- The reference's result. -/
def result (X0 : FVec Ideal S16x2048x1024 .bf16) (X1 : FVec Ideal S16x2048x1024 .f32) (X2 : FVec Ideal S2x1024x1024 .f32) (X3 : FVec Ideal S4x1024 .f32) (X4 : FVec Ideal S4x1024 .f32) (X5 : FVec Ideal S4x1024x5632 .f32) (X6 : FVec Ideal S4x2816x1024 .f32) (X7 : FVec Ideal S4x1024 .f32) :
    FVec Ideal S32768x1024 .f32 :=
  shapeCast _ (addf (withMix X0 X1 X2 X3) (mulf (mulf (down X0 X1 X2 X3 X4 X5 X6) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (down X0 X1 X2 X3 X4 X5 X6) (down X0 X1 X2 X3 X4 X5 X6)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![1, 0] X7 slices_S4x1024_S1x1024_1_0) shapeCasts_S1x1024_S1024))))) shapeCasts_S16x2048x1024_S32768x1024
/-- The gated product of a row: the left factor of the down projection. -/
def act (g : FVec Ideal S16x2048x5632 .f32) (b : Fin 16) (s : Fin 2048) (k : Fin 2816) : EReal :=
  g (ix3 b s ⟨k, by omega⟩) * Ideal.div 1 (1 + Ideal.exp (-g (ix3 b s ⟨k, by omega⟩))) * g (ix3 b s ⟨2816 + k, by omega⟩)

end Cert.Reference5Ideal.Result

namespace Cert.Kernel5Ideal.MixLayer1
open Cert.Kernel5Ideal Cert.Kernel5Ideal.Gen Cert.Reference5Ideal.Result
variable (m : (ℓ : Loc nD τ sig) → Buf (Elt Ideal) ℓ)

theorem idx : ∀ t : Fin cfg0.N, win0_0.index t = ![t.val, 0] ∧ win0_1.index t = ![t.val, 0] ∧ win0_2.index t = ![0, 0, 0]
    ∧ win0_3.index t = ![0, 0] ∧ win0_4.index t = ![0, 0] ∧ win0_5.index t = ![1, 0, 0] ∧ win0_6.index t = ![1, 0, 0]
    ∧ win0_7.index t = ![0, 0] ∧ win0_8.index t = ![t.val, 0] :=
  (by decide +kernel : ∀ t : Fin grid0.N, _)

/-- The reference's gate and up projection at the run's arguments. -/
abbrev gu (c : Dev nD) : FVec Ideal Cert.Reference5Ideal.S16x2048x5632 .f32 :=
  gateUp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's result at the run's arguments. -/
abbrev res (c : Dev nD) : FVec Ideal Cert.Reference5Ideal.S32768x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The residual stream with the mixer's part added, a row of a block. -/
theorem hid (c : Dev nD) (t : Fin cfg0.N) (r k : Fin 1024) (b : Fin 16) (s : Fin 2048) (h : (b : ℕ) * 2048 + s = t.val * 1024 + r) :
    k0_pay3 (F := Ideal) (iblk m c 0 t) (iblk m c 2 t) (iblk m c 1 t) (iblk m c 3 t) (ix2 r k)
      = withMix (m ((c : Thread nD τ).loc main_arg0)) (m ((c : Thread nD τ).loc main_arg1)) (m ((c : Thread nD τ).loc main_arg2))
          (m ((c : Thread nD τ).loc main_arg3)) (ix3 b s k) := by
  pointwise [k0_pay3, withMix, mixed]
  blk_point [iblk, V, idx t]

/-- A column of the gate or up projection, a row of a block. -/
theorem gate (c : Dev nD) (t : Fin cfg0.N) (w : Vec Ideal S1x1024x256 .bf16) (r : Fin 1024) (k : Fin 256) (q : Fin 5632)
    (hw : ∀ a, w (ix3 0 a k) = (m ((c : Thread nD τ).loc main_arg5)) (ix3 1 a q))
    (b : Fin 16) (s : Fin 2048) (h : (b : ℕ) * 2048 + s = t.val * 1024 + r) :
    k0_pay7 (F := Ideal) (k0_pay4 (iblk m c 0 t) (iblk m c 2 t) (iblk m c 1 t) (iblk m c 3 t) (iblk m c 4 t)) w (ix2 r k)
      = gu m c (ix3 b s q) := by
  pointwise [k0_pay7, k0_pay4, gateUp, hw, fun k => hid m c t r k b s h]
  blk_point [iblk, V, idx t]

theorem logistic_eq (x : EReal) : Ideal.logistic x = Ideal.div 1 (1 + Ideal.exp (-x)) := rfl

/-- One column of the gated product, a row of a block. -/
theorem gated (c : Dev nD) (t : Fin cfg0.N) (wg wu : Vec Ideal S1x1024x256 .bf16) (r : Fin 1024) (k : Fin 256) (q : Fin 2816)
    (hg : ∀ a, wg (ix3 0 a k) = (m ((c : Thread nD τ).loc main_arg5)) (ix3 1 a ⟨q, by omega⟩))
    (hu : ∀ a, wu (ix3 0 a k) = (m ((c : Thread nD τ).loc main_arg5)) (ix3 1 a ⟨2816 + q, by omega⟩))
    (b : Fin 16) (s : Fin 2048) (h : (b : ℕ) * 2048 + s = t.val * 1024 + r) :
    k0_pay1 (F := Ideal) (k0_pay4 (iblk m c 0 t) (iblk m c 2 t) (iblk m c 1 t) (iblk m c 3 t) (iblk m c 4 t)) wg wu (ix2 r k)
      = act (gu m c)
          b s q := by
  unfold act
  rw [← gate m c t wg r k ⟨q, by omega⟩ hg b s h, ← gate m c t wu r k ⟨2816 + q, by omega⟩ hu b s h]
  pointwise [k0_pay1, k0_pay7, logistic_eq]

/-- A row of the result, from a row of the gated product. -/
theorem out_of_act (c : Dev nD) (t : Fin cfg0.N) (A : Vec Ideal S1024x2816 .bf16) (r k : Fin 1024)
    (b : Fin 16) (s : Fin 2048) (h : (b : ℕ) * 2048 + s = t.val * 1024 + r)
    (hA : ∀ q, A (ix2 r q) = act (gu m c)
          b s q)
    (j : S32768x1024.Idx) (h0 : (j 0 : ℕ) = t.val * 1024 + r) (h1 : (j 1 : ℕ) = k) :
    k0_pay2 (F := Ideal) (k0_pay3 (iblk m c 0 t) (iblk m c 2 t) (iblk m c 1 t) (iblk m c 3 t)) A (iblk m c 6 t) (iblk m c 7 t) (ix2 r k)
      = res m c j := by
  idx_vars j
  have hb : b = ⟨(j0 : ℕ) / 2048, by omega⟩ := Fin.ext (by simp only []; omega)
  pointwise [k0_pay2, result, down, hA, fun k => hid m c t r k b s h, act]
  blk_point [iblk, V, idx t]

section
variable (u : FVec Ideal S1024x1024 .bf16) (a b : Vec Ideal S1x1024x256 .bf16)
theorem pay5_eq : k0_pay5 u a b = k0_pay1 u a b := rfl
theorem pay6_eq : k0_pay6 u a b = k0_pay1 u a b := rfl
theorem pay9_eq : k0_pay9 (k0_pay7 u b) (k0_pay8 u a) = k0_pay1 u a b := rfl
theorem pay10_eq : k0_pay10 u a b = k0_pay1 u a b := rfl
theorem pay11_eq : k0_pay11 u a b = k0_pay1 u a b := rfl
theorem pay12_eq : k0_pay12 u a b = k0_pay1 u a b := rfl
theorem pay13_eq : k0_pay13 u a b = k0_pay1 u a b := rfl
theorem pay16_eq : k0_pay16 (k0_pay14 u b) (k0_pay15 u a) = k0_pay1 u a b := rfl
theorem pay17_eq : k0_pay17 u a b = k0_pay1 u a b := rfl
theorem pay18_eq : k0_pay18 u a b = k0_pay1 u a b := rfl
end

/-- What a grid point stores is its block of the reference's result. -/
theorem point (c : Dev nD) (t : Fin cfg0.N) (y : S1024x1024.Idx) :
    outsAt0 (F := Ideal) m c t y = res m c (((cfg0.win 8).blk t).view.emb y) := by
  have ht : t.val < 32 := t.isLt
  have hy : (y 0 : ℕ) < 1024 := (y 0).isLt
  unfold outsAt0
  frame_out
  rw [eq_ix2 y]
  refine out_of_act m c t _ _ _ ⟨(t.val * 1024 + (y 0 : ℕ)) / 2048, by omega⟩ ⟨(t.val * 1024 + (y 0 : ℕ)) % 2048, by omega⟩ ?_ (fun q => ?_) _ ?_ ?_
  · simp only []; omega
  · refine ((congrFun (View.readCov_eq_canon' _ _ _) _).trans (congrArg _ (Rect.emb_unit_full _ _))).trans ?_
    generalize hx : (ix2 (y 0) q : S1024x2816.Idx) = x
    canon_tiles x h
    all_goals
      subst hx
      have e0 : (y 0 : ℕ) = x 0 := h0
      first
        | have e1 : (q : ℕ) = _ + (x 1 : ℕ) := h1
        | have e1 : (q : ℕ) = (x 1 : ℕ) := h1
      try first | rw [pay5_eq] | rw [pay6_eq] | rw [pay9_eq] | rw [pay10_eq] | rw [pay11_eq] | rw [pay12_eq] | rw [pay13_eq] | rw [pay16_eq] | rw [pay17_eq] | rw [pay18_eq]
      rw [eq_ix2 x]
      refine gated m c t _ _ _ _ _ (fun a => ?_) (fun a => ?_) _ _ (by simp only []; omega)
      all_goals
        pointwise
        blk_point [iblk, V, idx t]
  · blk_simp [idx t]
  · blk_simp [idx t]

/-- The result array after the run. -/
theorem final (c : Dev nD) : (dats m 0 c).arrAt 8 (cfgs 0).N = res m c := by
  refine (dats m 0 c).arrAt_eq_of_covers 8 _ (by decide +kernel) fun t _ y => ?_
  blk_simp
  rw [after0_8]
  exact point m c t y

end Cert.Kernel5Ideal.MixLayer1

namespace Cert.Proof.MixLayer1Claims

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- Kernel and reference end with the same array. -/
theorem algebraic : Cert.algebraic_Kernel5Ideal_Reference5Ideal := by
  intro m ρ m' ρ' _ hagree
  refine ⟨_, (θ_run Cert.Kernel5Ideal.defs _ _).mono
    (fun _ h c => ⟨(h c).1.trans (Cert.Kernel5Ideal.MixLayer1.final m c), (h c).2⟩)
    (Cert.Kernel5Ideal.Value.run_blocks (F := Ideal) m ρ), ?_⟩
  refine (θ_run Cert.Reference5Ideal.defs _ _).mono (fun _ h c => ⟨(h c).1.trans ?_, (h c).2⟩)
    (Cert.Reference5Ideal.Value.run (F := Ideal) m' ρ')
  obtain ⟨h0, h1, h2, h3, h4, h5, h6, h7⟩ := hagree c
  rw [Cert.Reference5Ideal.Value.res_main_v61, h0, h1, h2, h3, h4, h5, h6, h7]
  rfl

end Cert.Proof.MixLayer1Claims

end
-- ==== Proof.MixLayer2.lean ====
/- Layer 2: the mixer's projection over two inputs, and the feed-forward part. -/
module

public import proofs.«01_k».proof.Defs
public import proofs.«01_k».proof.Proof.Gen.Reference6Ideal.Run
public import proofs.«01_k».proof.Proof.Gen.Kernel6.Frame
public import proofs.«01_k».proof.Proof.Gen.Kernel6Ideal.Value
public import Idealize.ShloMosaic.Lib.Pipeline.ValueKit
public import Idealize.ShloMosaic.Lib.Quiescent
public import Idealize.ShloMosaic.Lib.Pointwise
public import Idealize.ShloMosaic.Lib.VecWindow

@[expose] public section
set_option maxRecDepth 16384
noncomputable section
open Idealize.ShloMosaic Idealize.ShloMosaic.TcCoe Idealize.SL.Sem
namespace Cert.Reference6Ideal.Result
open Cert.Reference6Ideal Cert.Reference6Ideal.Gen

/-- The mixer's output times its projection. -/
def mixed (X0 : FVec Ideal S16x2048x512 .bf16) (X1 : FVec Ideal S16x2048x512 .bf16) (X3 : FVec Ideal S2x1024x1024 .f32) :
    FVec Ideal S16x2048x1024 .f32 :=
  Host.dotGeneral dot_S16x2048x1024_S1024x1024_S16x2048x1024_2_0_01_1_n_n none (concatenate S16x2048x1024 2 [⟨S16x2048x512, (extf .f32 X0 bitsLt_bf16_f32)⟩, ⟨S16x2048x512, (extf .f32 X1 bitsLt_bf16_f32)⟩] concatenates_S16x2048x512_S16x2048x512_S16x2048x1024_d2) (shapeCast _ (extractStridedSlice S1x1024x1024 ![1, 0, 0] X3 slices_S2x1024x1024_S1x1024x1024_1_0_0) shapeCasts_S1x1024x1024_S1024x1024)

/-- The residual stream with the mixer's part added. -/
def withMix (X0 : FVec Ideal S16x2048x512 .bf16) (X1 : FVec Ideal S16x2048x512 .bf16) (X2 : FVec Ideal S16x2048x1024 .f32) (X3 : FVec Ideal S2x1024x1024 .f32) (X4 : FVec Ideal S4x1024 .f32) :
    FVec Ideal S16x2048x1024 .f32 :=
  addf X2 (mulf (mulf (mixed X0 X1 X3) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (mixed X0 X1 X3) (mixed X0 X1 X3)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![2, 0] X4 slices_S4x1024_S1x1024_2_0) shapeCasts_S1x1024_S1024))))

/-- Gate and up projection of the normalised residual stream. -/
def gateUp (X0 : FVec Ideal S16x2048x512 .bf16) (X1 : FVec Ideal S16x2048x512 .bf16) (X2 : FVec Ideal S16x2048x1024 .f32) (X3 : FVec Ideal S2x1024x1024 .f32) (X4 : FVec Ideal S4x1024 .f32) (X5 : FVec Ideal S4x1024 .f32) (X6 : FVec Ideal S4x1024x5632 .f32) :
    FVec Ideal S16x2048x5632 .f32 :=
  Host.dotGeneral dot_S16x2048x1024_S1024x5632_S16x2048x5632_2_0_01_1_n_n none (mulf (mulf (withMix X0 X1 X2 X3 X4) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (withMix X0 X1 X2 X3 X4) (withMix X0 X1 X2 X3 X4)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![2, 0] X5 slices_S4x1024_S1x1024_2_0) shapeCasts_S1x1024_S1024)))) (shapeCast _ (extractStridedSlice S1x1024x5632 ![2, 0, 0] X6 slices_S4x1024x5632_S1x1024x5632_2_0_0) shapeCasts_S1x1024x5632_S1024x5632)

/-- The gated product times the down projection. -/
def down (X0 : FVec Ideal S16x2048x512 .bf16) (X1 : FVec Ideal S16x2048x512 .bf16) (X2 : FVec Ideal S16x2048x1024 .f32) (X3 : FVec Ideal S2x1024x1024 .f32) (X4 : FVec Ideal S4x1024 .f32) (X5 : FVec Ideal S4x1024 .f32) (X6 : FVec Ideal S4x1024x5632 .f32) (X7 : FVec Ideal S4x2816x1024 .f32) :
    FVec Ideal S16x2048x1024 .f32 :=
  Host.dotGeneral dot_S16x2048x2816_S2816x1024_S16x2048x1024_2_0_01_1_n_n none (mulf (mulf (extractStridedSlice S16x2048x2816 ![0, 0, 0] (gateUp X0 X1 X2 X3 X4 X5 X6) slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] (gateUp X0 X1 X2 X3 X4 X5 X6) slices_S16x2048x5632_S16x2048x2816_0_0_0)))))) (extractStridedSlice S16x2048x2816 ![0, 0, 2816] (gateUp X0 X1 X2 X3 X4 X5 X6) slices_S16x2048x5632_S16x2048x2816_0_0_2816)) (shapeCast _ (extractStridedSlice S1x2816x1024 ![2, 0, 0] X7 slices_S4x2816x1024_S1x2816x1024_2_0_0) shapeCasts_S1x2816x1024_S2816x1024)

/-- The reference's result. -/
def result (X0 : FVec Ideal S16x2048x512 .bf16) (X1 : FVec Ideal S16x2048x512 .bf16) (X2 : FVec Ideal S16x2048x1024 .f32) (X3 : FVec Ideal S2x1024x1024 .f32) (X4 : FVec Ideal S4x1024 .f32) (X5 : FVec Ideal S4x1024 .f32) (X6 : FVec Ideal S4x1024x5632 .f32) (X7 : FVec Ideal S4x2816x1024 .f32) (X8 : FVec Ideal S4x1024 .f32) :
    FVec Ideal S32768x1024 .f32 :=
  shapeCast _ (addf (withMix X0 X1 X2 X3 X4) (mulf (mulf (down X0 X1 X2 X3 X4 X5 X6 X7) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (down X0 X1 X2 X3 X4 X5 X6 X7) (down X0 X1 X2 X3 X4 X5 X6 X7)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![2, 0] X8 slices_S4x1024_S1x1024_2_0) shapeCasts_S1x1024_S1024))))) shapeCasts_S16x2048x1024_S32768x1024
/-- The gated product of a row: the left factor of the down projection. -/
def act (g : FVec Ideal S16x2048x5632 .f32) (b : Fin 16) (s : Fin 2048) (k : Fin 2816) : EReal :=
  g (ix3 b s ⟨k, by omega⟩) * Ideal.div 1 (1 + Ideal.exp (-g (ix3 b s ⟨k, by omega⟩))) * g (ix3 b s ⟨2816 + k, by omega⟩)

end Cert.Reference6Ideal.Result

namespace Cert.Kernel6Ideal.MixLayer2
open Cert.Kernel6Ideal Cert.Kernel6Ideal.Gen Cert.Reference6Ideal.Result
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![1, 0, 0] ∧ win0_4.index t = ![0, 0] ∧ win0_5.index t = ![0, 0] ∧ win0_6.index t = ![2, 0, 0]
    ∧ win0_7.index t = ![2, 0, 0] ∧ win0_8.index t = ![0, 0] ∧ win0_9.index t = ![t.val, 0] :=
  (by decide +kernel : ∀ t : Fin grid0.N, _)

/-- The reference's gate and up projection at the run's arguments. -/
abbrev gu (c : Dev nD) : FVec Ideal Cert.Reference6Ideal.S16x2048x5632 .f32 :=
  gateUp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The reference's result at the run's arguments. -/
abbrev res (c : Dev nD) : FVec Ideal Cert.Reference6Ideal.S32768x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The two halves of the mixer's projection, as a pair of blocks holds them. -/
def Halves (c : Dev nD) (w0 w1 : Vec Ideal S1x512x1024 .bf16) : Prop :=
  (∀ (a : Fin 512) (k : Fin 1024), w0 (ix3 0 a k) = (m ((c : Thread nD τ).loc main_arg3)) (ix3 1 ⟨a, by omega⟩ k))
    ∧ ∀ (a : Fin 512) (k : Fin 1024), w1 (ix3 0 a k) = (m ((c : Thread nD τ).loc main_arg3)) (ix3 1 ⟨512 + a, by omega⟩ k)

/-- The residual stream with the mixer's part added, a row of a block. -/
theorem hid (c : Dev nD) (t : Fin cfg0.N) (w0 w1 : Vec Ideal S1x512x1024 .bf16) (hw : Halves m c w0 w1)
    (r k : Fin 1024) (b : Fin 16) (s : Fin 2048) (h : (b : ℕ) * 2048 + s = t.val * 1024 + r) :
    k0_pay2 (F := Ideal) (iblk m c 0 t) w0 (iblk m c 1 t) w1 (iblk m c 2 t) (iblk m c 4 t) (ix2 r k)
      = withMix (m ((c : Thread nD τ).loc main_arg0)) (m ((c : Thread nD τ).loc main_arg1)) (m ((c : Thread nD τ).loc main_arg2))
          (m ((c : Thread nD τ).loc main_arg3)) (m ((c : Thread nD τ).loc main_arg4)) (ix3 b s k) := by
  pointwise [k0_pay2, withMix, mixed, hw.1, hw.2]
  blk_point [iblk, V, idx t]

/-- A column of the gate or up projection, a row of a block. -/
theorem gate (c : Dev nD) (t : Fin cfg0.N) (w0 w1 : Vec Ideal S1x512x1024 .bf16) (hw : Halves m c w0 w1)
    (w : Vec Ideal S1x1024x256 .bf16) (r : Fin 1024) (k : Fin 256) (q : Fin 5632)
    (hq : ∀ a, w (ix3 0 a k) = (m ((c : Thread nD τ).loc main_arg6)) (ix3 2 a q))
    (b : Fin 16) (s : Fin 2048) (h : (b : ℕ) * 2048 + s = t.val * 1024 + r) :
    k0_pay10 (F := Ideal) (k0_pay5 (k0_pay2 (iblk m c 0 t) w0 (iblk m c 1 t) w1 (iblk m c 2 t) (iblk m c 4 t)) (k0_pay3 (iblk m c 5 t))
        (k0_pay4 (iblk m c 0 t) w0 (iblk m c 1 t) w1 (iblk m c 2 t) (iblk m c 4 t)) (Scalar.ofBits .f32 0x358637BD#32)) w (ix2 r k)
      = gu m c (ix3 b s q) := by
  pointwise [k0_pay10, k0_pay5, k0_pay3, k0_pay4, gateUp, hq, fun k => hid m c t w0 w1 hw r k b s h]
  blk_point [iblk, V, idx t]

theorem logistic_eq (x : EReal) : Ideal.logistic x = Ideal.div 1 (1 + Ideal.exp (-x)) := rfl

/-- One column of the gated product, a row of a block. -/
theorem gated (c : Dev nD) (t : Fin cfg0.N) (w0 w1 : Vec Ideal S1x512x1024 .bf16) (hw : Halves m c w0 w1)
    (wg wu : Vec Ideal S1x1024x256 .bf16) (r : Fin 1024) (k : Fin 256) (q : Fin 2816)
    (hg : ∀ a, wg (ix3 0 a k) = (m ((c : Thread nD τ).loc main_arg6)) (ix3 2 a ⟨q, by omega⟩))
    (hu : ∀ a, wu (ix3 0 a k) = (m ((c : Thread nD τ).loc main_arg6)) (ix3 2 a ⟨2816 + q, by omega⟩))
    (b : Fin 16) (s : Fin 2048) (h : (b : ℕ) * 2048 + s = t.val * 1024 + r) :
    k0_pay8 (F := Ideal) (k0_pay5 (k0_pay2 (iblk m c 0 t) w0 (iblk m c 1 t) w1 (iblk m c 2 t) (iblk m c 4 t)) (k0_pay3 (iblk m c 5 t))
        (k0_pay4 (iblk m c 0 t) w0 (iblk m c 1 t) w1 (iblk m c 2 t) (iblk m c 4 t)) (Scalar.ofBits .f32 0x358637BD#32)) wg wu (ix2 r k)
      = act (gu m c) b s q := by
  unfold act
  rw [← gate m c t w0 w1 hw wg r k ⟨q, by omega⟩ hg b s h, ← gate m c t w0 w1 hw wu r k ⟨2816 + q, by omega⟩ hu b s h]
  pointwise [k0_pay8, k0_pay10, logistic_eq]

/-- A row of the result, from a row of the gated product. -/
theorem out_of_act (c : Dev nD) (t : Fin cfg0.N) (w0 w1 : Vec Ideal S1x512x1024 .bf16) (hw : Halves m c w0 w1)
    (A : Vec Ideal S1024x2816 .bf16) (r k : Fin 1024)
    (b : Fin 16) (s : Fin 2048) (h : (b : ℕ) * 2048 + s = t.val * 1024 + r) (hA : ∀ q, A (ix2 r q) = act (gu m c) b s q)
    (j : S32768x1024.Idx) (h0 : (j 0 : ℕ) = t.val * 1024 + r) (h1 : (j 1 : ℕ) = k) :
    k0_pay1 (F := Ideal) (k0_pay2 (iblk m c 0 t) w0 (iblk m c 1 t) w1 (iblk m c 2 t) (iblk m c 4 t)) (k0_pay21 A (iblk m c 7 t))
        (k0_pay22 (iblk m c 8 t)) (ix2 r k)
      = res m c j := by
  idx_vars j
  have hb : b = ⟨(j0 : ℕ) / 2048, by omega⟩ := Fin.ext (by simp only []; omega)
  pointwise [k0_pay1, k0_pay21, k0_pay22, result, down, hA, fun k => hid m c t w0 w1 hw r k b s h, act, gu]
  blk_point [iblk, V, idx t]

section
variable (u : FVec Ideal S1024x1024 .bf16) (a b : Vec Ideal S1x1024x256 .bf16)
theorem pay9_eq : k0_pay9 u a b = k0_pay8 u a b := rfl
theorem pay12_eq : k0_pay12 (k0_pay10 u b) (k0_pay11 u a) = k0_pay8 u a b := rfl
theorem pay13_eq : k0_pay13 u a b = k0_pay8 u a b := rfl
theorem pay14_eq : k0_pay14 u a b = k0_pay8 u a b := rfl
theorem pay15_eq : k0_pay15 u a b = k0_pay8 u a b := rfl
theorem pay16_eq : k0_pay16 u a b = k0_pay8 u a b := rfl
theorem pay19_eq : k0_pay19 (k0_pay17 u b) (k0_pay18 u a) = k0_pay8 u a b := rfl
theorem pay20_eq : k0_pay20 u a b = k0_pay8 u a b := rfl
variable (x : FVec Ideal S1024x1024 .f32) (g : FVec Ideal S1x1024 .f32) (v : FVec Ideal S1024x1 .f32) (e : EReal)
theorem pay6_eq : k0_pay6 (F := Ideal) x g v e a b = k0_pay8 (k0_pay5 x g v e) a b := rfl
theorem pay7_eq : k0_pay7 (F := Ideal) x g v e a b = k0_pay8 (k0_pay5 x g v e) a b := rfl
end

/-- What a grid point stores is its block of the reference's result. -/
theorem point (c : Dev nD) (t : Fin cfg0.N) (y : S1024x1024.Idx) :
    outsAt0 (F := Ideal) m c t y = res m c (((cfg0.win 9).blk t).view.emb y) := by
  have ht : t.val < 32 := t.isLt
  have hy : (y 0 : ℕ) < 1024 := (y 0).isLt
  unfold outsAt0
  frame_out
  have hw : Halves m c (View.ld (iblk m c 3 t) (Rect.unit ![0, 0, 0] ![1, 512, 1024] inb_S1x1024x1024_S1x512x1024_0_0_0))
      (View.ld (iblk m c 3 t) (Rect.unit ![0, 512, 0] ![1, 512, 1024] inb_S1x1024x1024_S1x512x1024_0_512_0)) := by
    constructor <;> intro a k <;> pointwise <;> blk_point [iblk, V, idx t]
  rw [eq_ix2 y]
  refine out_of_act m c t _ _ hw _ _ _ ⟨(t.val * 1024 + (y 0 : ℕ)) / 2048, by omega⟩ ⟨(t.val * 1024 + (y 0 : ℕ)) % 2048, by omega⟩ ?_ (fun q => ?_) _ ?_ ?_
  · simp only []; omega
  · refine ((congrFun (View.readCov_eq_canon' _ _ _) _).trans (congrArg _ (Rect.emb_unit_full _ _))).trans ?_
    generalize hx : (ix2 (y 0) q : S1024x2816.Idx) = x
    canon_tiles x h
    all_goals
      subst hx
      have e0 : (y 0 : ℕ) = x 0 := h0
      first
        | have e1 : (q : ℕ) = _ + (x 1 : ℕ) := h1
        | have e1 : (q : ℕ) = (x 1 : ℕ) := h1
      try first | rw [pay9_eq] | rw [pay12_eq] | rw [pay13_eq] | rw [pay14_eq] | rw [pay15_eq] | rw [pay16_eq] | rw [pay19_eq] | rw [pay20_eq] | rw [pay6_eq] | rw [pay7_eq]
      rw [eq_ix2 x]
      refine gated m c t _ _ hw _ _ _ _ _ (fun a => ?_) (fun a => ?_) _ _ (by simp only []; omega)
      all_goals
        pointwise
        blk_point [iblk, V, idx t]
  · blk_simp [idx t]
  · blk_simp [idx t]

/-- The result array after the run. -/
theorem final (c : Dev nD) : (dats m 0 c).arrAt 9 (cfgs 0).N = res m c := by
  refine (dats m 0 c).arrAt_eq_of_covers 9 _ (by decide +kernel) fun t _ y => ?_
  blk_simp
  rw [after0_9]
  exact point m c t y

end Cert.Kernel6Ideal.MixLayer2

namespace Cert.Proof.MixLayer2Claims

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

/-- Kernel and reference end with the same array. -/
theorem algebraic : Cert.algebraic_Kernel6Ideal_Reference6Ideal := by
  intro m ρ m' ρ' _ hagree
  refine ⟨_, (θ_run Cert.Kernel6Ideal.defs _ _).mono
    (fun _ h c => ⟨(h c).1.trans (Cert.Kernel6Ideal.MixLayer2.final m c), (h c).2⟩)
    (Cert.Kernel6Ideal.Value.run_blocks (F := Ideal) m ρ), ?_⟩
  refine (θ_run Cert.Reference6Ideal.defs _ _).mono (fun _ h c => ⟨(h c).1.trans ?_, (h c).2⟩)
    (Cert.Reference6Ideal.Value.run (F := Ideal) m' ρ')
  obtain ⟨h0, h1, h2, h3, h4, h5, h6, h7, h8⟩ := hagree c
  rw [Cert.Reference6Ideal.Value.res_main_v63, h0, h1, h2, h3, h4, h5, h6, h7, h8]
  rfl

end Cert.Proof.MixLayer2Claims

end
-- ==== Proof.NormMatmulLayer3.lean ====
/- The result of the reference of the norm and projection, read entry by entry. -/
module

public import proofs.«01_k».proof.Defs
public import proofs.«01_k».proof.Proof.Gen.Reference7Ideal.Run
public import proofs.«01_k».proof.Proof.Gen.Kernel7.Frame
public import proofs.«01_k».proof.Proof.Gen.Kernel7Ideal.Value
public import proofs.«01_k».proof.Proof.Consts
public import Idealize.ShloMosaic.Lib.Pipeline.ValueKit
public import Idealize.ShloMosaic.Lib.Quiescent
public import Idealize.ShloMosaic.Lib.Pointwise

@[expose] public section
set_option maxRecDepth 16384
noncomputable section
open Idealize.ShloMosaic Idealize.ShloMosaic.TcCoe Idealize.SL.Sem
namespace Cert.Reference7Ideal.Result
open Cert.Reference7Ideal Cert.Reference7Ideal.Gen

/-- The normalised rows. -/
def normed (X0 : FVec Ideal S16x2048x1024 .f32) (X1 : FVec Ideal S4x1024 .f32) : FVec Ideal S16x2048x1024 .f32 :=
  mulf (mulf X0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X0 X0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![3, 0] X1 slices_S4x1024_S1x1024_3_0) shapeCasts_S1x1024_S1024)))

/-- The normalised rows times the first projection. -/
def projected (X0 : FVec Ideal S16x2048x1024 .f32) (X1 : FVec Ideal S4x1024 .f32) (X2 : FVec Ideal S2x1024x3072 .f32) :
    FVec Ideal S16x2048x3072 .f32 :=
  Host.dotGeneral dot_S16x2048x1024_S1024x3072_S16x2048x3072_2_0_01_1_n_n none (normed X0 X1) (shapeCast _ (extractStridedSlice S1x1024x3072 ![1, 0, 0] X2 slices_S2x1024x3072_S1x1024x3072_1_0_0) shapeCasts_S1x1024x3072_S1024x3072)

/-- The reference's result. -/
def result (X0 : FVec Ideal S16x2048x1024 .f32) (X1 : FVec Ideal S4x1024 .f32) (X2 : FVec Ideal S2x1024x3072 .f32) :
    FVec Ideal S32768x3072 .bf16 :=
  truncf .bf16 (shapeCast _ (concatenate S16x2048x3072 2 [⟨S16x2048x1024, (Host.divf (mulf (extractStridedSlice S16x2048x1024 ![0, 0, 0] (projected X0 X1 X2) slices_S16x2048x3072_S16x2048x1024_0_0_0) (broadcastInDim S16x2048x1024 ![] bcast_S_S16x2048x1024 (constant S_ .f32 0x3E000000#32))) (broadcastInDim S16x2048x1024 ![] bcast_S_S16x2048x1024 (Host.log (constant S_ .f32 0x40000000#32))))⟩, ⟨S16x2048x2048, (extractStridedSlice S16x2048x2048 ![0, 0, 1024] (projected X0 X1 X2) slices_S16x2048x3072_S16x2048x2048_0_0_1024)⟩] concatenates_S16x2048x1024_S16x2048x2048_S16x2048x3072_d2) shapeCasts_S16x2048x3072_S32768x3072) bitsLt_bf16_f32

/-- The factor on the queries: the kernel's named constant. -/
abbrev qScale : EReal := Named.named (F := Ideal) Cert.Kernel7Ideal.κ "q_scale" (φ := .f32) 0x3E38AA3B#32

theorem qScale_eq : qScale = (((1 / 8) * (Real.log 2)⁻¹ : ℝ) : EReal) :=
  IdealRules.named_const.ideal_named_scalar _ _ _ _ rfl

/-- The result with one factor on the columns of the queries. -/
theorem result_at (X0 : FVec Ideal S16x2048x1024 .f32) (X1 : FVec Ideal S4x1024 .f32) (X2 : FVec Ideal S2x1024x3072 .f32)
    (r : Fin 32768) (k : Fin 3072) :
    result X0 X1 X2 (ix2 r k) = if (k : ℕ) < 1024
      then projected X0 X1 X2 (ix3 ⟨r / 2048, by omega⟩ ⟨r % 2048, by omega⟩ k) * qScale
      else projected X0 X1 X2 (ix3 ⟨r / 2048, by omega⟩ ⟨r % 2048, by omega⟩ k) := by
  pointwise [result]
  by_cases h : (k : ℕ) < 1024
  · simp only [h, ↓reduceIte, ↓reduceDIte, qScale_eq]
    exact Cert.Consts.eighth_div_log _
  · simp only [h, ↓reduceIte, ↓reduceDIte]
    congr 2
    exact Fin.ext (by simp only []; omega)

end Cert.Reference7Ideal.Result

namespace Cert.Kernel7Ideal.NormMatmulLayer3
open Cert.Kernel7Ideal Cert.Kernel7Ideal.Gen Cert.Reference7Ideal.Result
variable (m : (ℓ : Loc nD τ sig) → Buf (Elt Ideal) ℓ)

theorem idx : ∀ t : Fin cfg0.N, win0_0.index t = ![t.val, 0] ∧ win0_1.index t = ![0, 0] ∧ win0_2.index t = ![1, 0, 0]
    ∧ win0_3.index t = ![t.val, 0] :=
  (by decide +kernel : ∀ t : Fin grid0.N, _)

/-- One column of queries of a block of rows. -/
theorem core_q (c : Dev nD) (t : Fin cfg0.N) (x2 : Vec Ideal S1x1024x512 .bf16) (r : Fin 1024) (k : Fin 512) (j : S32768x3072.Idx)
    (hx : ∀ a, x2 (ix3 0 a k) = (m ((c : Thread nD τ).loc main_arg2)) (ix3 1 a (j 1)))
    (h0 : (j 0 : ℕ) = t.val * 1024 + r) (h1 : (j 1 : ℕ) < 1024) :
    k0_pay6 (F := Ideal) (iblk m c 0 t) (iblk m c 1 t) x2 (ix2 r k)
      = result (m ((c : Thread nD τ).loc main_arg0)) (m ((c : Thread nD τ).loc main_arg1)) (m ((c : Thread nD τ).loc main_arg2)) j := by
  idx_vars j
  rw [result_at, if_pos h1]
  pointwise [k0_pay6, k0_pay5, projected, normed, hx]
  blk_point [iblk, V, idx t]

/-- One of the other columns of a block of rows. -/
theorem core (c : Dev nD) (t : Fin cfg0.N) (x2 : Vec Ideal S1x1024x512 .bf16) (r : Fin 1024) (k : Fin 512) (j : S32768x3072.Idx)
    (hx : ∀ a, x2 (ix3 0 a k) = (m ((c : Thread nD τ).loc main_arg2)) (ix3 1 a (j 1)))
    (h0 : (j 0 : ℕ) = t.val * 1024 + r) (h1 : ¬ (j 1 : ℕ) < 1024) :
    k0_pay1 (F := Ideal) (k0_pay5 (iblk m c 0 t) (iblk m c 1 t)) (k0_pay8 x2) (ix2 r k)
      = result (m ((c : Thread nD τ).loc main_arg0)) (m ((c : Thread nD τ).loc main_arg1)) (m ((c : Thread nD τ).loc main_arg2)) j := by
  idx_vars j
  rw [result_at, if_neg h1]
  pointwise [k0_pay1, k0_pay8, k0_pay5, projected, normed, hx]
  blk_point [iblk, V, idx t]

theorem hz : (![0, 0] : Fin 2 → Nat) = fun _ => 0 := funext fun a => by fin_cases a <;> rfl
theorem pay9_eq (x0 : Vec Ideal S1024x1024 .f32) (x1 : Vec Ideal S1x1024 .f32) (x2 : Vec Ideal S1x1024x3072 .bf16) :
    k0_pay9 x0 x1 x2 = k0_pay5 x0 x1 := by
  unfold k0_pay9
  rw [View.ld_unit_zero hz, View.ld_unit_zero hz]
theorem pay2_eq (u : FVec Ideal S1024x1024 .bf16) (w : Vec Ideal S1x1024x512 .bf16) : k0_pay2 u w = k0_pay1 u (k0_pay8 w) := rfl
theorem pay3_eq (u : FVec Ideal S1024x1024 .bf16) (w : Vec Ideal S1x1024x512 .bf16) : k0_pay3 u w = k0_pay1 u (k0_pay8 w) := rfl
theorem pay4_eq (u : FVec Ideal S1024x1024 .bf16) (w : Vec Ideal S1x1024x512 .bf16) : k0_pay4 u w = k0_pay1 u (k0_pay8 w) := rfl
theorem pay7_eq (x0 : Vec Ideal S1024x1024 .f32) (x1 : Vec Ideal S1x1024 .f32) (w : Vec Ideal S1x1024x512 .bf16) :
    k0_pay7 x0 x1 w = k0_pay6 x0 x1 w := rfl

/-- What a grid point stores is its block of the reference's result. -/
theorem point (c : Dev nD) (t : Fin cfg0.N) (y : S1024x3072.Idx) :
    out0_3 (F := Ideal) (iblk m c 0 t) (iblk m c 1 t) (iblk m c 2 t) y
      = result (m ((c : Thread nD τ).loc main_arg0)) (m ((c : Thread nD τ).loc main_arg1)) (m ((c : Thread nD τ).loc main_arg2))
        (((cfg0.win 3).blk t).view.emb y) := by
  canon_tiles x h
  case piece4 | piece5 =>
    all_goals (
      try rw [pay7_eq]
      rw [View.ld_unit_zero hz, View.ld_unit_zero hz, eq_ix2 x]
      refine core_q m c t _ _ _ _ (fun a => ?_) (by blk_simp [idx t] <;> omega) (by blk_simp [idx t] <;> omega)
      pointwise
      blk_point [iblk, V, idx t])
  all_goals (
    rw [pay9_eq]
    first | rw [pay4_eq] | rw [pay3_eq] | rw [pay2_eq] | skip
    rw [eq_ix2 x]
    refine core m c t _ _ _ _ (fun a => ?_) (by blk_simp [idx t] <;> omega) (by blk_simp [idx t] <;> omega)
    pointwise
    blk_point [iblk, V, idx t])

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel7Ideal.NormMatmulLayer3

namespace Cert.Proof.NormMatmulLayer3Claims

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal :=
  IdealRules.named_const.statement Cert.Kernel7Ideal.κ "q_scale" .f32 0x3E38AA3B#32 (((1 / 8) * (Real.log 2)⁻¹ : ℝ) : EReal) rfl

/-- Kernel and reference end with the same array. -/
theorem algebraic : Cert.algebraic_Kernel7Ideal_Reference7Ideal := by
  intro m ρ m' ρ' _ hagree
  refine ⟨_, (θ_run Cert.Kernel7Ideal.defs _ _).mono
    (fun _ h c => ⟨(h c).1.trans (Cert.Kernel7Ideal.NormMatmulLayer3.final m c), (h c).2⟩)
    (Cert.Kernel7Ideal.Value.run_blocks (F := Ideal) m ρ), ?_⟩
  refine (θ_run Cert.Reference7Ideal.defs _ _).mono (fun _ h c => ⟨(h c).1.trans ?_, (h c).2⟩)
    (Cert.Reference7Ideal.Value.run (F := Ideal) m' ρ')
  obtain ⟨h0, h1, h2⟩ := hagree c
  rw [h0, h1, h2]
  rfl

end Cert.Proof.NormMatmulLayer3Claims

end
-- ==== Proof.EvenReal.lean ====
/- Norms of finite rows are finite, and a product with negated weights is the negated product. -/
module

public import proofs.«01_k».proof.Proof.SoftmaxRow
public import proofs.«01_k».proof.Proof.Consts

@[expose] public section
noncomputable section
open Idealize.ShloMosaic
namespace Cert.EvenReal

/-- A number that is not infinite. -/
def Fin' (x : EReal) : Prop := ∃ r : ℝ, x = r

theorem mul {x y : EReal} : Fin' x → Fin' y → Fin' (x * y) := by
  rintro ⟨a, rfl⟩ ⟨b, rfl⟩
  exact ⟨a * b, (EReal.coe_mul a b).symm⟩

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem sum {n : ℕ} {f : Fin n → EReal} (h : ∀ k, Fin' (f k)) : Fin' (∑ k, f k) := by
  choose r hr using h
  exact ⟨∑ k, r k, by rw [coe_sum]; exact Finset.sum_congr rfl fun k _ => hr k⟩

/-- Products with negated weights. -/
theorem sum_neg {n : ℕ} {f g : Fin n → EReal} (hf : ∀ k, Fin' (f k)) (hg : ∀ k, Fin' (g k)) : ∑ k, f k * -g k = -∑ k, f k * g k := by
  choose r hr using hf
  choose s hs using hg
  have e1 : ∑ k, f k * -g k = ((∑ k, -(r k * s k) : ℝ) : EReal) := by
    rw [coe_sum]
    exact Finset.sum_congr rfl fun k _ => by rw [hr, hs, ← EReal.coe_neg, ← EReal.coe_mul, mul_neg]
  have e2 : ∑ k, f k * g k = ((∑ k, r k * s k : ℝ) : EReal) := by
    rw [coe_sum]
    exact Finset.sum_congr rfl fun k _ => by rw [hr, hs, ← EReal.coe_mul]
  rw [e1, e2, Finset.sum_neg_distrib, EReal.coe_neg]

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem scale {n : ℕ} {f : Fin n → EReal} (h : ∀ k, Fin' (f k)) (d e : ℝ) (hd : 0 < d) (he : 0 < e) :
    Fin' (Ideal.rsqrt (Ideal.div (∑ k, f k * f k) (d : EReal) + (e : EReal))) := by
  choose r hr using h
  have e2 : ∑ k, f k * f k = ((∑ k, r k * r k : ℝ) : EReal) := by
    rw [coe_sum]
    exact Finset.sum_congr rfl fun k _ => by rw [hr, ← EReal.coe_mul]
  have h0 : 0 ≤ ∑ k, r k * r k := Finset.sum_nonneg fun k _ => mul_self_nonneg _
  have h1 : 0 < (∑ k, r k * r k) * (1 / d) + e := by positivity
  rw [e2, Ideal.div_coe hd.ne', ← EReal.coe_mul, ← EReal.coe_add, Ideal.rsqrt_coe, if_neg (not_lt.2 h1.le), if_neg h1.ne']
  exact ⟨_, rfl⟩

/-- An entry of a norm's row is real, whatever the row: where the row has an infinite entry its factor is zero. -/
theorem unit_real {n : ℕ} (f : Fin n → EReal) (k : Fin n) (d e : ℝ) (hd : 0 < d) (he : 0 < e) :
    Fin' (f k * Ideal.rsqrt (Ideal.div (∑ k, f k * f k) (d : EReal) + (e : EReal))) := by
  by_cases h : ∀ k, Fin' (f k)
  · exact mul (h k) (scale h d e hd he)
  · obtain ⟨j, hj⟩ := not_forall.1 h
    have e1 : f j * f j = ⊤ := by
      induction hx : f j with
      | bot => rfl
      | top => rfl
      | coe r => exact absurd ⟨r, hx⟩ hj
    have h0 (i : Fin n) : 0 ≤ f i * f i := by
      induction f i with
      | bot => exact le_top
      | top => exact le_top
      | coe r => rw [← EReal.coe_mul]; exact EReal.coe_nonneg.2 (mul_self_nonneg r)
    have e2 : ∑ k, f k * f k = ⊤ :=
      top_le_iff.1 (e1 ▸ Finset.single_le_sum (f := fun k => f k * f k) (fun i _ => h0 i) (Finset.mem_univ j))
    rw [e2, Ideal.div_coe hd.ne', EReal.top_mul_coe_of_pos (by positivity), EReal.top_add_coe, Ideal.rsqrt_top, mul_zero]
    exact ⟨0, EReal.coe_zero.symm⟩

theorem ofBits_1024 : Ideal.ofBits .f32 0x44800000#32 = ((1024 : ℝ) : EReal) := by
  simp [Ideal.ofBits, Ideal.ieee, -EReal.coe_mul]; norm_num
theorem ofBits_384 : Ideal.ofBits .f32 0x43C00000#32 = ((384 : ℝ) : EReal) := by
  simp [Ideal.ofBits, Ideal.ieee, -EReal.coe_mul]; norm_num

theorem unit_1024 {n : ℕ} (f : Fin n → EReal) (k : Fin n) :
    Fin' (f k * Ideal.rsqrt (Ideal.div (∑ k, f k * f k) (Ideal.ofBits .f32 0x44800000#32) + Ideal.ofBits .f32 0x358637BD#32)) := by
  obtain ⟨e, he, h1⟩ := ofBits_eps
  rw [h1, ofBits_1024]
  exact unit_real f k _ _ (by norm_num) he
theorem unit_384 {n : ℕ} (f : Fin n → EReal) (k : Fin n) :
    Fin' (f k * Ideal.rsqrt (Ideal.div (∑ k, f k * f k) (Ideal.ofBits .f32 0x43C00000#32) + Ideal.ofBits .f32 0x358637BD#32)) := by
  obtain ⟨e, he, h1⟩ := ofBits_eps
  rw [h1, ofBits_384]
  exact unit_real f k _ _ (by norm_num) he

/-- The factor on the queries: over the root of ninety-six, over the logarithm of two. -/
def factor : EReal := Ideal.div 1 (Ideal.sqrt (Ideal.ofBits .f32 0x42C00000#32) * Ideal.log (Ideal.ofBits .f32 0x40000000#32))
def factorR : ℝ := 1 / Real.sqrt 96 * (1 / Real.log 2)

theorem factorR_nonneg : 0 ≤ factorR := by
  have := Real.log_pos (show (1 : ℝ) < 2 by norm_num)
  unfold factorR
  positivity

theorem factor_eq : factor = (factorR : EReal) := by
  have h1 : Real.log 2 ≠ 0 := (Real.log_pos (by norm_num)).ne'
  have h2 : Real.sqrt 96 ≠ 0 := (Real.sqrt_pos.2 (by norm_num)).ne'
  rw [factor, Cert.Consts.ofBits_96, Cert.Consts.ofBits_two, Ideal.log_coe, if_neg (by norm_num), Ideal.sqrt_coe, if_neg (by norm_num), ← EReal.coe_mul,
    Ideal.div_coe (mul_ne_zero h2 h1), one_mul, factorR]
  congr 1
  field_simp

theorem over_over (x : EReal) : Ideal.div (Ideal.div x (Ideal.sqrt (Ideal.ofBits .f32 0x42C00000#32))) (Ideal.log (Ideal.ofBits .f32 0x40000000#32))
    = x * factor := by
  have h1 : Real.log 2 ≠ 0 := (Real.log_pos (by norm_num)).ne'
  have h2 : Real.sqrt 96 ≠ 0 := (Real.sqrt_pos.2 (by norm_num)).ne'
  rw [factor_eq, Cert.Consts.ofBits_96, Cert.Consts.ofBits_two, Ideal.log_coe, if_neg (by norm_num), Ideal.sqrt_coe, if_neg (by norm_num),
    Ideal.div_coe h2, Ideal.div_coe h1, mul_assoc, ← EReal.coe_mul, factorR]

theorem add_factor (x y : EReal) : x * factor + y * factor = (x + y) * factor := by
  rw [factor_eq]
  exact (EReal.right_distrib_of_nonneg_of_ne_top (EReal.coe_nonneg.2 factorR_nonneg) (EReal.coe_ne_top _) x y).symm

/-- The turned pair's first half. -/
theorem turn_first (x y c s : EReal) : x * (c * factor) + -y * (s * factor) = (x * c - y * s) * factor := by
  rw [← mul_assoc, ← mul_assoc, add_factor, sub_eq_add_neg, EReal.neg_mul]

/-- The turned pair's second half. -/
theorem turn_second (x y c s : EReal) : y * (c * factor) + x * (s * factor) = (x * s + y * c) * factor := by
  rw [← mul_assoc, ← mul_assoc, add_factor, add_comm]

end Cert.EvenReal
end
-- ==== Proof.EvenLane.lean ====
/- The lanes of the packed products, turned and untouched, against the reference's. -/
module

public import proofs.«01_k».proof.Proof.EvenReal
public import Idealize.ShloMosaic.Lib.Pointwise

@[expose] public section
noncomputable section
open Idealize.ShloMosaic
namespace Cert.EvenReal

/-- An entry of a matrix, its column a plain number. -/
def col {A B : ℕ} {φ : FTy} (X : FVec Ideal ⟨2, ![A, B]⟩ φ) (a : Fin A) (j : ℕ) : EReal := if h : j < B then X (ix2 a ⟨j, h⟩) else 0

theorem to_col {A B : ℕ} {φ : FTy} (X : FVec Ideal ⟨2, ![A, B]⟩ φ) (a : Fin A) (j : Fin B) : X (ix2 a j) = col X a j := by
  rw [col, dif_pos j.2]

/-- A lane of the packed entry weights. -/
def wIn (P : ℕ → EReal) (l : ℕ) : EReal :=
  if l < 384 then P l else if l < 448 then 0 else if l < 480 then P (640 + (l - 448)) else if l < 496 then -P (656 + (l - 480))
  else if l < 512 then P (640 + (l - 496)) else if l < 768 then P (384 + (l - 512))
  else if l < 1280 then P (672 + (l - 768)) * Ideal.ofBits .f32 0x3E000000#32 else P (1184 + (l - 1280))

/-- A lane of the packed query weights. -/
def wQ (Q : ℕ → EReal) (l : ℕ) : EReal :=
  if l % 128 < 96 then Q (l / 128 * 96 + l % 128) else if l % 128 < 112 then -Q (l / 128 * 96 + (80 + (l % 128 - 96)))
  else Q (l / 128 * 96 + (64 + (l % 128 - 112)))

/-- A lane of the packed key weights. -/
def wK (K : ℕ → EReal) (l : ℕ) : EReal := if l % 128 < 64 then K l else 0

/-- A lane of the packed value weights. -/
def wV (K : ℕ → EReal) (l : ℕ) : EReal :=
  if l % 256 < 64 then K (l / 256 * 2 * 128 + (64 + l % 256)) else if l % 256 < 192 then 0
  else K ((l / 256 * 2 + 1) * 128 + (64 + (l % 256 - 192)))

/-- A lane of a table, `z` on the lanes that are not turned. -/
def tab (z : EReal) (C : ℕ → EReal) (l : ℕ) : EReal :=
  if l < 64 then z else if l < 80 then C (l - 64) else if l < 96 then C (l - 80) else 0

theorem sum_wIn {n : ℕ} (u : Fin n → EReal) (P : Fin n → ℕ → EReal) (hu : ∀ x, Fin' (u x)) (hP : ∀ x j, Fin' (P x j)) (l : ℕ) :
    ∑ x, u x * wIn (P x) l = wIn (fun j => ∑ x, u x * P x j) l := by
  unfold wIn
  split_ifs
  · rfl
  · simp
  · rfl
  · exact sum_neg hu fun x => hP x _
  · rfl
  · rfl
  · simp only [← mul_assoc, Cert.Consts.ofBits_eighth]
    exact (Cert.SoftmaxRow.sum_mul_real _ _ (by norm_num)).symm
  · rfl

theorem sum_wQ {n : ℕ} (u : Fin n → EReal) (P : Fin n → ℕ → EReal) (hu : ∀ x, Fin' (u x)) (hP : ∀ x j, Fin' (P x j)) (l : ℕ) :
    ∑ x, u x * wQ (P x) l = wQ (fun j => ∑ x, u x * P x j) l := by
  unfold wQ
  split_ifs
  · rfl
  · exact sum_neg hu fun x => hP x _
  · rfl

theorem sum_wK {n : ℕ} (u : Fin n → EReal) (P : Fin n → ℕ → EReal) (l : ℕ) : ∑ x, u x * wK (P x) l = wK (fun j => ∑ x, u x * P x j) l := by
  unfold wK
  split_ifs
  · rfl
  · simp

theorem sum_wV {n : ℕ} (u : Fin n → EReal) (P : Fin n → ℕ → EReal) (l : ℕ) : ∑ x, u x * wV (P x) l = wV (fun j => ∑ x, u x * P x j) l := by
  unfold wV
  split_ifs
  · rfl
  · simp
  · rfl

/-- A lane of the queries, of head `h` and place `l`. -/
theorem lane_q (Q c s : ℕ → EReal) (y : ℕ) (hy : y < 1024) :
    wQ Q y * (tab 1 c (y % 128) * factor) + wQ Q ((y + 32) % 1024) * (tab 0 s (y % 128) * factor)
      = (if y % 128 < 64 then Q (y / 128 * 96 + y % 128)
        else if y % 128 - 64 < 32 then
          if y % 128 - 64 < 16 then Q (y / 128 * 96 + (64 + (y % 128 - 64))) * c (y % 128 - 64) - Q (y / 128 * 96 + (64 + (16 + (y % 128 - 64)))) * s (y % 128 - 64)
          else Q (y / 128 * 96 + (64 + (y % 128 - 64 - 16))) * s (y % 128 - 64 - 16) + Q (y / 128 * 96 + (64 + (16 + (y % 128 - 64 - 16)))) * c (y % 128 - 64 - 16)
        else 0) * factor := by
  by_cases a : y % 128 < 64
  · simp only [tab, wQ, a, if_pos (show y % 128 < 96 by omega), ↓reduceIte, zero_mul, mul_zero, add_zero, one_mul]
  by_cases b : y % 128 < 80
  · rw [if_neg a, if_pos (show y % 128 - 64 < 32 by omega), if_pos (show y % 128 - 64 < 16 by omega), tab, tab, if_neg a, if_neg a, if_pos b, if_pos b,
      wQ, if_pos (show y % 128 < 96 by omega), wQ, if_neg (show ¬ (y + 32) % 1024 % 128 < 96 by omega), if_pos (show (y + 32) % 1024 % 128 < 112 by omega),
      turn_first, show y / 128 * 96 + (64 + (y % 128 - 64)) = y / 128 * 96 + y % 128 by omega,
      show (y + 32) % 1024 / 128 * 96 + (80 + ((y + 32) % 1024 % 128 - 96)) = y / 128 * 96 + (64 + (16 + (y % 128 - 64))) by omega]
  by_cases d : y % 128 < 96
  · rw [if_neg a, if_pos (show y % 128 - 64 < 32 by omega), if_neg (show ¬ y % 128 - 64 < 16 by omega), tab, tab, if_neg a, if_neg a, if_neg b, if_neg b,
      if_pos d, if_pos d, wQ, if_pos d, wQ, if_neg (show ¬ (y + 32) % 1024 % 128 < 96 by omega), if_neg (show ¬ (y + 32) % 1024 % 128 < 112 by omega),
      turn_second, show y / 128 * 96 + (64 + (16 + (y % 128 - 64 - 16))) = y / 128 * 96 + y % 128 by omega, show y % 128 - 64 - 16 = y % 128 - 80 by omega,
      show (y + 32) % 1024 / 128 * 96 + (64 + ((y + 32) % 1024 % 128 - 112)) = y / 128 * 96 + (64 + (y % 128 - 80)) by omega]
  · rw [if_neg a, if_neg (show ¬ y % 128 - 64 < 32 by omega), tab, tab, if_neg a, if_neg a, if_neg b, if_neg b, if_neg d, if_neg d]
    simp only [zero_mul, mul_zero, add_zero]

/-- A lane of the keys. -/
theorem lane_k (K P c s : ℕ → EReal) (y : ℕ) (hy : y < 1024) :
    wK K y + (wIn P (384 + y % 128) * tab 0 c (y % 128) + wIn P (384 + (y % 128 + 32) % 128) * tab 0 s (y % 128))
      = if y % 128 < 64 then K y
        else if y % 128 - 64 < 32 then
          if y % 128 - 64 < 16 then P (640 + (y % 128 - 64)) * c (y % 128 - 64) - P (640 + (16 + (y % 128 - 64))) * s (y % 128 - 64)
          else P (640 + (y % 128 - 64 - 16)) * s (y % 128 - 64 - 16) + P (640 + (16 + (y % 128 - 64 - 16))) * c (y % 128 - 64 - 16)
        else 0 := by
  have w1 (l : ℕ) (h : 448 ≤ l) (h' : l < 480) : wIn P l = P (640 + (l - 448)) := by
    rw [wIn, if_neg (by omega), if_neg (by omega), if_pos h']
  have w2 (l : ℕ) (h : 480 ≤ l) (h' : l < 496) : wIn P l = -P (656 + (l - 480)) := by
    rw [wIn, if_neg (by omega), if_neg (by omega), if_neg (by omega), if_pos h']
  have w3 (l : ℕ) (h : 496 ≤ l) (h' : l < 512) : wIn P l = P (640 + (l - 496)) := by
    rw [wIn, if_neg (by omega), if_neg (by omega), if_neg (by omega), if_neg (by omega), if_pos h']
  by_cases a : y % 128 < 64
  · simp only [tab, wK, a, ↓reduceIte, mul_zero, add_zero]
  by_cases b : y % 128 < 80
  · rw [if_neg a, if_pos (show y % 128 - 64 < 32 by omega), if_pos (show y % 128 - 64 < 16 by omega), tab, tab, if_neg a, if_neg a, if_pos b, if_pos b,
      wK, if_neg a, zero_add, w1 _ (by omega) (by omega), w2 _ (by omega) (by omega), EReal.neg_mul, ← sub_eq_add_neg,
      show 384 + y % 128 - 448 = y % 128 - 64 by omega, show 656 + (384 + (y % 128 + 32) % 128 - 480) = 640 + (16 + (y % 128 - 64)) by omega]
  by_cases d : y % 128 < 96
  · rw [if_neg a, if_pos (show y % 128 - 64 < 32 by omega), if_neg (show ¬ y % 128 - 64 < 16 by omega), tab, tab, if_neg a, if_neg a, if_neg b, if_neg b,
      if_pos d, if_pos d, wK, if_neg a, zero_add, w1 _ (by omega) (by omega), w3 _ (by omega) (by omega), add_comm,
      show 384 + (y % 128 + 32) % 128 - 496 = y % 128 - 80 by omega, show y % 128 - 64 - 16 = y % 128 - 80 by omega,
      show 640 + (384 + y % 128 - 448) = 640 + (16 + (y % 128 - 80)) by omega]
  · rw [if_neg a, if_neg (show ¬ y % 128 - 64 < 32 by omega), tab, tab, if_neg a, if_neg a, if_neg b, if_neg b, if_neg d, if_neg d, wK, if_neg a]
    simp only [mul_zero, add_zero]

/-- A lane of the values. -/
theorem lane_v (K : ℕ → EReal) (y : ℕ) :
    (if y % 256 = 64 ∨ y % 256 = 128 then 1 else wV K y)
      = if y % 256 < 64 then K (2 * (y / 256) * 128 + (64 + y % 256))
        else if y % 256 - 64 < 1 then 1 else if y % 256 - 64 - 1 < 63 then 0
        else if y % 256 - 64 - 1 - 63 < 1 then 1 else if y % 256 - 64 - 1 - 63 - 1 < 63 then 0
        else K ((1 + 2 * (y / 256)) * 128 + (64 + (y % 256 - 64 - 1 - 63 - 1 - 63))) := by
  unfold wV
  split_ifs <;> first | rfl | (exfalso; omega) | (congr 1; omega)

/-- A column of the scaled queries. -/
theorem lane_m (P : ℕ → EReal) (y : ℕ) (hy : y < 512) :
    wIn P (768 + y) * (((Real.log 2)⁻¹ : ℝ) : EReal) = P (672 + y) * (((1 / 8) * (Real.log 2)⁻¹ : ℝ) : EReal) := by
  rw [wIn, if_neg (by omega), if_neg (by omega), if_neg (by omega), if_neg (by omega), if_neg (by omega), if_neg (by omega), if_pos (by omega),
    Cert.Consts.ofBits_eighth, mul_assoc, ← EReal.coe_mul, show 768 + y - 768 = y by omega]

/-- The other columns. -/
theorem lane_n (P : ℕ → EReal) (y : ℕ) (hy : 512 ≤ y) : wIn P (768 + y) = P (1184 + (y - 512)) := by
  rw [wIn, if_neg (by omega), if_neg (by omega), if_neg (by omega), if_neg (by omega), if_neg (by omega), if_neg (by omega), if_neg (by omega),
    show 768 + y - 1280 = y - 512 by omega]

end Cert.EvenReal
end
-- ==== Proof.EvenRef.lean ====
/- The results of the reference of an even layer's entry, in steps. -/
module

public import proofs.«01_k».proof.Proof.Gen.Reference8Ideal.Run
public import proofs.«01_k».proof.Proof.EvenReal
public import Idealize.ShloMosaic.Lib.Pointwise

@[expose] public section
set_option maxRecDepth 16384
noncomputable section
open Idealize.ShloMosaic Idealize.ShloMosaic.TcCoe Idealize.SL.Sem
namespace Cert.Reference8Ideal.Result
open Cert.Reference8Ideal Cert.Reference8Ideal.Gen

/-- The normalised rows. -/
def normed (X0 : FVec Ideal S32768x1024 .f32) (X1 : FVec Ideal S1024 .f32) : FVec Ideal S32768x1024 .f32 :=
  (mulf (mulf X0 (broadcastInDim S32768x1024 ![0, 1] bcast_S32768x1_S32768x1024_0_1 (Host.rsqrt (addf (Host.divf (broadcastInDim S32768x1 ![0] bcast_S32768_S32768x1_0 (Host.reduceAdd (mulf X0 X0) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 X1)))

/-- The projected rows. -/
def proj (X0 : FVec Ideal S32768x1024 .f32) (X1 : FVec Ideal S1024 .f32) (X2 : FVec Ideal S1024x2208 .f32) : FVec Ideal S32768x2208 .f32 :=
  (Host.dotGeneral dot_S32768x1024_S1024x2208_S32768x2208_1_0_0_1_n_n none (normed X0 X1) X2)

/-- The queries' columns. -/
def cq (PROJ : FVec Ideal S32768x2208 .f32) : FVec Ideal S32768x384 .f32 :=
  (extractStridedSlice S32768x384 ![0, 0] PROJ slices_S32768x2208_S32768x384_0_0)

/-- The columns of keys and values. -/
def ckv (PROJ : FVec Ideal S32768x2208 .f32) : FVec Ideal S32768x256 .f32 :=
  (extractStridedSlice S32768x256 ![0, 384] PROJ slices_S32768x2208_S32768x256_0_384)

/-- The queries' columns, normalised. -/
def cqn (C : FVec Ideal S32768x384 .f32) (X3 : FVec Ideal S384 .f32) : FVec Ideal S32768x384 .f32 :=
  (mulf (mulf C (broadcastInDim S32768x384 ![0, 1] bcast_S32768x1_S32768x384_0_1 (Host.rsqrt (addf (Host.divf (broadcastInDim S32768x1 ![0] bcast_S32768_S32768x1_0 (Host.reduceAdd (mulf C C) (constant (F := Ideal) S_ .f32 0x00000000#32) reducesTo_S32768x384_S32768_d1 h_S_)) (broadcastInDim S32768x1 ![] bcast_S_S32768x1 (constant (F := Ideal) S_ .f32 0x43C00000#32))) (broadcastInDim S32768x1 ![] bcast_S_S32768x1 (constant (F := Ideal) S_ .f32 0x358637BD#32)))))) (broadcastInDim S32768x384 ![0, 1] bcast_S1x384_S32768x384_0_1 (broadcastInDim S1x384 ![1] bcast_S384_S1x384_1 X3)))

/-- The columns of keys and values, normalised. -/
def ckvn (K : FVec Ideal S32768x256 .f32) (X5 : FVec Ideal S256 .f32) : FVec Ideal S32768x256 .f32 :=
  (mulf (mulf K (broadcastInDim S32768x256 ![0, 1] bcast_S32768x1_S32768x256_0_1 (Host.rsqrt (addf (Host.divf (broadcastInDim S32768x1 ![0] bcast_S32768_S32768x1_0 (Host.reduceAdd (mulf K K) (constant (F := Ideal) S_ .f32 0x00000000#32) reducesTo_S32768x256_S32768_d1 h_S_)) (broadcastInDim S32768x1 ![] bcast_S_S32768x1 (constant (F := Ideal) S_ .f32 0x43800000#32))) (broadcastInDim S32768x1 ![] bcast_S_S32768x1 (constant (F := Ideal) S_ .f32 0x358637BD#32)))))) (broadcastInDim S32768x256 ![0, 1] bcast_S1x256_S32768x256_0_1 (broadcastInDim S1x256 ![1] bcast_S256_S1x256_1 X5)))

/-- The queries before they are turned. -/
def qm (C : FVec Ideal S32768x384 .f32) (X3 : FVec Ideal S384 .f32) (X4 : FVec Ideal S384x768 .f32) : FVec Ideal S32768x768 .f32 :=
  (Host.dotGeneral dot_S32768x384_S384x768_S32768x768_1_0_0_1_n_n none (cqn C X3) X4)

/-- Keys and values of all heads. -/
def kvm (K : FVec Ideal S32768x256 .f32) (X5 : FVec Ideal S256 .f32) (X6 : FVec Ideal S256x1024 .f32) : FVec Ideal S32768x1024 .f32 :=
  (Host.dotGeneral dot_S32768x256_S256x1024_S32768x1024_1_0_0_1_n_n none (ckvn K X5) X6)

/-- The queries as stored. -/
def resQ (QM : FVec Ideal S32768x768 .f32) (X7 : FVec Ideal S2048x16 .f32) (X8 : FVec Ideal S2048x16 .f32) : FVec Ideal S32768x1024 .bf16 :=
  truncf .bf16 (shapeCast _ (Host.divf (Host.divf ((concatenate S32768x8x128 2 [⟨S32768x8x64, ((extractStridedSlice S32768x8x64 ![0, 0, 0] (shapeCast _ QM shapeCasts_S32768x768_S32768x8x96) slices_S32768x8x96_S32768x8x64_0_0_0) : (⟨S32768x8x64, .f32⟩ : BufTy).Contents (Elt Ideal))⟩, ⟨S32768x8x32, ((concatenate S32768x8x32 2 [⟨S32768x8x16, (subf (mulf (extractStridedSlice S32768x8x16 ![0, 0, 0] (extractStridedSlice S32768x8x32 ![0, 0, 64] (shapeCast _ QM shapeCasts_S32768x768_S32768x8x96) slices_S32768x8x96_S32768x8x32_0_0_64) slices_S32768x8x32_S32768x8x16_0_0_0) (broadcastInDim S32768x8x16 ![0, 1, 2] bcast_S32768x1x16_S32768x8x16_0_1_2 (broadcastInDim S32768x1x16 ![0, 2] bcast_S32768x16_S32768x1x16_0_2 (shapeCast _ (broadcastInDim S16x2048x1x16 ![0, 1, 2, 3] bcast_S1x2048x1x16_S16x2048x1x16_0_1_2_3 (shapeCast _ X7 shapeCasts_S2048x16_S1x2048x1x16)) shapeCasts_S16x2048x1x16_S32768x16)))) (mulf (extractStridedSlice S32768x8x16 ![0, 0, 16] (extractStridedSlice S32768x8x32 ![0, 0, 64] (shapeCast _ QM shapeCasts_S32768x768_S32768x8x96) slices_S32768x8x96_S32768x8x32_0_0_64) slices_S32768x8x32_S32768x8x16_0_0_16) (broadcastInDim S32768x8x16 ![0, 1, 2] bcast_S32768x1x16_S32768x8x16_0_1_2 (broadcastInDim S32768x1x16 ![0, 2] bcast_S32768x16_S32768x1x16_0_2 (shapeCast _ (broadcastInDim S16x2048x1x16 ![0, 1, 2, 3] bcast_S1x2048x1x16_S16x2048x1x16_0_1_2_3 (shapeCast _ X8 shapeCasts_S2048x16_S1x2048x1x16)) shapeCasts_S16x2048x1x16_S32768x16)))))⟩, ⟨S32768x8x16, (addf (mulf (extractStridedSlice S32768x8x16 ![0, 0, 0] (extractStridedSlice S32768x8x32 ![0, 0, 64] (shapeCast _ QM shapeCasts_S32768x768_S32768x8x96) slices_S32768x8x96_S32768x8x32_0_0_64) slices_S32768x8x32_S32768x8x16_0_0_0) (broadcastInDim S32768x8x16 ![0, 1, 2] bcast_S32768x1x16_S32768x8x16_0_1_2 (broadcastInDim S32768x1x16 ![0, 2] bcast_S32768x16_S32768x1x16_0_2 (shapeCast _ (broadcastInDim S16x2048x1x16 ![0, 1, 2, 3] bcast_S1x2048x1x16_S16x2048x1x16_0_1_2_3 (shapeCast _ X8 shapeCasts_S2048x16_S1x2048x1x16)) shapeCasts_S16x2048x1x16_S32768x16)))) (mulf (extractStridedSlice S32768x8x16 ![0, 0, 16] (extractStridedSlice S32768x8x32 ![0, 0, 64] (shapeCast _ QM shapeCasts_S32768x768_S32768x8x96) slices_S32768x8x96_S32768x8x32_0_0_64) slices_S32768x8x32_S32768x8x16_0_0_16) (broadcastInDim S32768x8x16 ![0, 1, 2] bcast_S32768x1x16_S32768x8x16_0_1_2 (broadcastInDim S32768x1x16 ![0, 2] bcast_S32768x16_S32768x1x16_0_2 (shapeCast _ (broadcastInDim S16x2048x1x16 ![0, 1, 2, 3] bcast_S1x2048x1x16_S16x2048x1x16_0_1_2_3 (shapeCast _ X7 shapeCasts_S2048x16_S1x2048x1x16)) shapeCasts_S16x2048x1x16_S32768x16)))))⟩] concatenates_S32768x8x16_S32768x8x16_S32768x8x32_d2) : (⟨S32768x8x32, .f32⟩ : BufTy).Contents (Elt Ideal))⟩, ⟨S32768x8x32, ((broadcastInDim S32768x8x32 ![] bcast_S_S32768x8x32 (constant (F := Ideal) S_ .f32 0x00000000#32)) : (⟨S32768x8x32, .f32⟩ : BufTy).Contents (Elt Ideal))⟩] concatenates_S32768x8x64_S32768x8x32_S32768x8x32_S32768x8x128_d2 : (⟨S32768x8x128, .f32⟩ : BufTy).Contents (Elt Ideal))) (broadcastInDim S32768x8x128 ![] bcast_S_S32768x8x128 (Host.sqrt (constant (F := Ideal) S_ .f32 0x42C00000#32)))) (broadcastInDim S32768x8x128 ![] bcast_S_S32768x8x128 (Host.log (constant (F := Ideal) S_ .f32 0x40000000#32)))) shapeCasts_S32768x8x128_S32768x1024) bitsLt_bf16_f32

/-- The keys as stored. -/
def resK (KVM : FVec Ideal S32768x1024 .f32) (PROJ : FVec Ideal S32768x2208 .f32) (X7 : FVec Ideal S2048x16 .f32) (X8 : FVec Ideal S2048x16 .f32) : FVec Ideal S32768x1024 .bf16 :=
  truncf .bf16 (shapeCast _ ((concatenate S32768x8x128 2 [⟨S32768x8x64, ((extractStridedSlice S32768x8x64 ![0, 0, 0] (shapeCast _ KVM shapeCasts_S32768x1024_S32768x8x128) slices_S32768x8x128_S32768x8x64_0_0_0) : (⟨S32768x8x64, .f32⟩ : BufTy).Contents (Elt Ideal))⟩, ⟨S32768x8x32, ((broadcastInDim S32768x8x32 ![0, 1, 2] bcast_S32768x1x32_S32768x8x32_0_1_2 (broadcastInDim S32768x1x32 ![0, 2] bcast_S32768x32_S32768x1x32_0_2 (concatenate S32768x32 1 [⟨S32768x16, (subf (mulf (extractStridedSlice S32768x16 ![0, 0] (extractStridedSlice S32768x32 ![0, 640] PROJ slices_S32768x2208_S32768x32_0_640) slices_S32768x32_S32768x16_0_0) (shapeCast _ (broadcastInDim S16x2048x1x16 ![0, 1, 2, 3] bcast_S1x2048x1x16_S16x2048x1x16_0_1_2_3 (shapeCast _ X7 shapeCasts_S2048x16_S1x2048x1x16)) shapeCasts_S16x2048x1x16_S32768x16)) (mulf (extractStridedSlice S32768x16 ![0, 16] (extractStridedSlice S32768x32 ![0, 640] PROJ slices_S32768x2208_S32768x32_0_640) slices_S32768x32_S32768x16_0_16) (shapeCast _ (broadcastInDim S16x2048x1x16 ![0, 1, 2, 3] bcast_S1x2048x1x16_S16x2048x1x16_0_1_2_3 (shapeCast _ X8 shapeCasts_S2048x16_S1x2048x1x16)) shapeCasts_S16x2048x1x16_S32768x16)))⟩, ⟨S32768x16, (addf (mulf (extractStridedSlice S32768x16 ![0, 0] (extractStridedSlice S32768x32 ![0, 640] PROJ slices_S32768x2208_S32768x32_0_640) slices_S32768x32_S32768x16_0_0) (shapeCast _ (broadcastInDim S16x2048x1x16 ![0, 1, 2, 3] bcast_S1x2048x1x16_S16x2048x1x16_0_1_2_3 (shapeCast _ X8 shapeCasts_S2048x16_S1x2048x1x16)) shapeCasts_S16x2048x1x16_S32768x16)) (mulf (extractStridedSlice S32768x16 ![0, 16] (extractStridedSlice S32768x32 ![0, 640] PROJ slices_S32768x2208_S32768x32_0_640) slices_S32768x32_S32768x16_0_16) (shapeCast _ (broadcastInDim S16x2048x1x16 ![0, 1, 2, 3] bcast_S1x2048x1x16_S16x2048x1x16_0_1_2_3 (shapeCast _ X7 shapeCasts_S2048x16_S1x2048x1x16)) shapeCasts_S16x2048x1x16_S32768x16)))⟩] concatenates_S32768x16_S32768x16_S32768x32_d1))) : (⟨S32768x8x32, .f32⟩ : BufTy).Contents (Elt Ideal))⟩, ⟨S32768x8x32, ((broadcastInDim S32768x8x32 ![] bcast_S_S32768x8x32 (constant (F := Ideal) S_ .f32 0x00000000#32)) : (⟨S32768x8x32, .f32⟩ : BufTy).Contents (Elt Ideal))⟩] concatenates_S32768x8x64_S32768x8x32_S32768x8x32_S32768x8x128_d2 : (⟨S32768x8x128, .f32⟩ : BufTy).Contents (Elt Ideal))) shapeCasts_S32768x8x128_S32768x1024) bitsLt_bf16_f32

/-- The values as stored. -/
def resV (KVM : FVec Ideal S32768x1024 .f32) : FVec Ideal S32768x1024 .bf16 :=
  truncf .bf16 (shapeCast _ ((concatenate S32768x4x256 2 [⟨S32768x4x64, ((Host.slice S32768x4x64 ![0, 0, 0] ![1, 2, 1] (extractStridedSlice S32768x8x64 ![0, 0, 64] (shapeCast _ KVM shapeCasts_S32768x1024_S32768x8x128) slices_S32768x8x128_S32768x8x64_0_0_64) slicesBy_S32768x8x64_S32768x4x64_0s1_0s2_0s1) : (⟨S32768x4x64, .f32⟩ : BufTy).Contents (Elt Ideal))⟩, ⟨S32768x4x1, ((broadcastInDim S32768x4x1 ![] bcast_S_S32768x4x1 (constant (F := Ideal) S_ .f32 0x3F800000#32)) : (⟨S32768x4x1, .f32⟩ : BufTy).Contents (Elt Ideal))⟩, ⟨S32768x4x63, ((broadcastInDim S32768x4x63 ![] bcast_S_S32768x4x63 (constant (F := Ideal) S_ .f32 0x00000000#32)) : (⟨S32768x4x63, .f32⟩ : BufTy).Contents (Elt Ideal))⟩, ⟨S32768x4x1, ((broadcastInDim S32768x4x1 ![] bcast_S_S32768x4x1 (constant (F := Ideal) S_ .f32 0x3F800000#32)) : (⟨S32768x4x1, .f32⟩ : BufTy).Contents (Elt Ideal))⟩, ⟨S32768x4x63, ((broadcastInDim S32768x4x63 ![] bcast_S_S32768x4x63 (constant (F := Ideal) S_ .f32 0x00000000#32)) : (⟨S32768x4x63, .f32⟩ : BufTy).Contents (Elt Ideal))⟩, ⟨S32768x4x64, ((Host.slice S32768x4x64 ![0, 1, 0] ![1, 2, 1] (extractStridedSlice S32768x8x64 ![0, 0, 64] (shapeCast _ KVM shapeCasts_S32768x1024_S32768x8x128) slices_S32768x8x128_S32768x8x64_0_0_64) slicesBy_S32768x8x64_S32768x4x64_0s1_1s2_0s1) : (⟨S32768x4x64, .f32⟩ : BufTy).Contents (Elt Ideal))⟩] concatenates_S32768x4x64_S32768x4x1_S32768x4x63_S32768x4x1_S32768x4x63_S32768x4x64_S32768x4x256_d2 : (⟨S32768x4x256, .f32⟩ : BufTy).Contents (Elt Ideal))) shapeCasts_S32768x4x256_S32768x1024) bitsLt_bf16_f32

/-- Queries, keys and values of the block-sparse attention. -/
def resM (PROJ : FVec Ideal S32768x2208 .f32) : FVec Ideal S32768x1536 .bf16 :=
  truncf .bf16 (concatenate S32768x1536 1 [⟨S32768x512, (Host.divf (mulf (extractStridedSlice S32768x512 ![0, 672] PROJ slices_S32768x2208_S32768x512_0_672) (broadcastInDim S32768x512 ![] bcast_S_S32768x512 (constant (F := Ideal) S_ .f32 0x3E000000#32))) (broadcastInDim S32768x512 ![] bcast_S_S32768x512 (Host.log (constant (F := Ideal) S_ .f32 0x40000000#32))))⟩, ⟨S32768x1024, (extractStridedSlice S32768x1024 ![0, 1184] PROJ slices_S32768x2208_S32768x1024_0_1184)⟩] concatenates_S32768x512_S32768x1024_S32768x1536_d1) bitsLt_bf16_f32

theorem normed_at (X0 : FVec Ideal S32768x1024 .f32) (X1 : FVec Ideal S1024 .f32) (n : Fin 32768) (k : Fin 1024) :
    normed X0 X1 (ix2 n k) = X0 (ix2 n k) * Ideal.rsqrt (Ideal.div (∑ x, X0 (ix2 n x) * X0 (ix2 n x)) (Ideal.ofBits .f32 0x44800000#32)
      + Ideal.ofBits .f32 0x358637BD#32) * X1 (ix1 k) := by
  pointwise [normed]

theorem proj_at (X0 : FVec Ideal S32768x1024 .f32) (X1 : FVec Ideal S1024 .f32) (X2 : FVec Ideal S1024x2208 .f32) (n : Fin 32768) (j : Fin 2208) :
    proj X0 X1 X2 (ix2 n j) = ∑ x, normed X0 X1 (ix2 n x) * X2 (ix2 x j) := by
  pointwise [proj]

theorem cq_at (P : FVec Ideal S32768x2208 .f32) (n : Fin 32768) (j : Fin 384) : cq P (ix2 n j) = P (ix2 n ⟨j, by omega⟩) := by
  pointwise [cq]

theorem ckv_at (P : FVec Ideal S32768x2208 .f32) (n : Fin 32768) (j : Fin 256) : ckv P (ix2 n j) = P (ix2 n ⟨384 + j, by omega⟩) := by
  pointwise [ckv]

theorem cqn_at (C : FVec Ideal S32768x384 .f32) (X3 : FVec Ideal S384 .f32) (n : Fin 32768) (k : Fin 384) :
    cqn C X3 (ix2 n k) = C (ix2 n k) * Ideal.rsqrt (Ideal.div (∑ x, C (ix2 n x) * C (ix2 n x)) (Ideal.ofBits .f32 0x43C00000#32)
      + Ideal.ofBits .f32 0x358637BD#32) * X3 (ix1 k) := by
  pointwise [cqn]

theorem ckvn_at (K : FVec Ideal S32768x256 .f32) (X5 : FVec Ideal S256 .f32) (n : Fin 32768) (k : Fin 256) :
    ckvn K X5 (ix2 n k) = K (ix2 n k) * Ideal.rsqrt (Ideal.div (∑ x, K (ix2 n x) * K (ix2 n x)) (Ideal.ofBits .f32 0x43800000#32)
      + Ideal.ofBits .f32 0x358637BD#32) * X5 (ix1 k) := by
  pointwise [ckvn]

theorem qm_at (C : FVec Ideal S32768x384 .f32) (X3 : FVec Ideal S384 .f32) (X4 : FVec Ideal S384x768 .f32) (n : Fin 32768) (y : Fin 768) :
    qm C X3 X4 (ix2 n y) = ∑ x, cqn C X3 (ix2 n x) * X4 (ix2 x y) := by
  pointwise [qm]

theorem kvm_at (K : FVec Ideal S32768x256 .f32) (X5 : FVec Ideal S256 .f32) (X6 : FVec Ideal S256x1024 .f32) (n : Fin 32768) (y : Fin 1024) :
    kvm K X5 X6 (ix2 n y) = ∑ x, ckvn K X5 (ix2 n x) * X6 (ix2 x y) := by
  pointwise [kvm]

theorem resQ_at (QM : FVec Ideal S32768x768 .f32) (X7 X8 : FVec Ideal S2048x16 .f32) (n : Fin 32768) (y : Fin 1024) :
    resQ QM X7 X8 (ix2 n y) = (if h : (y : ℕ) % 128 < 64 then QM (ix2 n ⟨y / 128 * 96 + y % 128, by omega⟩)
      else if h : (y : ℕ) % 128 - 64 < 32 then
        if h_1 : (y : ℕ) % 128 - 64 < 16 then
          QM (ix2 n ⟨y / 128 * 96 + (64 + (y % 128 - 64)), by omega⟩) * X7 (ix2 ⟨n % 2048, by omega⟩ ⟨y % 128 - 64, by omega⟩)
            - QM (ix2 n ⟨y / 128 * 96 + (64 + (16 + (y % 128 - 64))), by omega⟩) * X8 (ix2 ⟨n % 2048, by omega⟩ ⟨y % 128 - 64, by omega⟩)
        else
          QM (ix2 n ⟨y / 128 * 96 + (64 + (y % 128 - 64 - 16)), by omega⟩) * X8 (ix2 ⟨n % 2048, by omega⟩ ⟨y % 128 - 64 - 16, by omega⟩)
            + QM (ix2 n ⟨y / 128 * 96 + (64 + (16 + (y % 128 - 64 - 16))), by omega⟩) * X7 (ix2 ⟨n % 2048, by omega⟩ ⟨y % 128 - 64 - 16, by omega⟩)
      else 0) * Cert.EvenReal.factor := by
  pointwise [resQ, Cert.EvenReal.over_over]

theorem resK_at (KVM : FVec Ideal S32768x1024 .f32) (P : FVec Ideal S32768x2208 .f32) (X7 X8 : FVec Ideal S2048x16 .f32) (n : Fin 32768) (y : Fin 1024) :
    resK KVM P X7 X8 (ix2 n y) = if h : (y : ℕ) % 128 < 64 then KVM (ix2 n y)
      else if h : (y : ℕ) % 128 - 64 < 32 then
        if h_1 : (y : ℕ) % 128 - 64 < 16 then
          P (ix2 n ⟨640 + (y % 128 - 64), by omega⟩) * X7 (ix2 ⟨n % 2048, by omega⟩ ⟨y % 128 - 64, by omega⟩)
            - P (ix2 n ⟨640 + (16 + (y % 128 - 64)), by omega⟩) * X8 (ix2 ⟨n % 2048, by omega⟩ ⟨y % 128 - 64, by omega⟩)
        else
          P (ix2 n ⟨640 + (y % 128 - 64 - 16), by omega⟩) * X8 (ix2 ⟨n % 2048, by omega⟩ ⟨y % 128 - 64 - 16, by omega⟩)
            + P (ix2 n ⟨640 + (16 + (y % 128 - 64 - 16)), by omega⟩) * X7 (ix2 ⟨n % 2048, by omega⟩ ⟨y % 128 - 64 - 16, by omega⟩)
      else 0 := by
  pointwise [resK]

theorem resV_at (KVM : FVec Ideal S32768x1024 .f32) (n : Fin 32768) (y : Fin 1024) :
    resV KVM (ix2 n y) = if h : (y : ℕ) % 256 < 64 then KVM (ix2 n ⟨2 * (y / 256) * 128 + (64 + y % 256), by omega⟩)
      else if h : (y : ℕ) % 256 - 64 < 1 then 1 else if h : (y : ℕ) % 256 - 64 - 1 < 63 then 0
      else if h : (y : ℕ) % 256 - 64 - 1 - 63 < 1 then 1 else if h : (y : ℕ) % 256 - 64 - 1 - 63 - 1 < 63 then 0
      else KVM (ix2 n ⟨(1 + 2 * (y / 256)) * 128 + (64 + (y % 256 - 64 - 1 - 63 - 1 - 63)), by omega⟩) := by
  pointwise [resV]

theorem resM_at (P : FVec Ideal S32768x2208 .f32) (n : Fin 32768) (y : Fin 1536) :
    resM P (ix2 n y) = if h : (y : ℕ) < 512 then P (ix2 n ⟨672 + y, by omega⟩) * (((1 / 8) * (Real.log 2)⁻¹ : ℝ) : EReal)
      else P (ix2 n ⟨1184 + (y - 512), by omega⟩) := by
  pointwise [resM, Cert.Consts.eighth_div_log]

end Cert.Reference8Ideal.Result
end
-- ==== Proof.EvenPay.lean ====
/- The values the entry of the even layers stores, read lane by lane. -/
module

public import proofs.«01_k».proof.Proof.EvenLane
public import proofs.«01_k».proof.Proof.EvenRef
public import proofs.«01_k».proof.Proof.Gen.Kernel8Ideal.Value
public import Idealize.ShloMosaic.Lib.Pointwise

@[expose] public section
set_option maxRecDepth 16384
noncomputable section
open Idealize.ShloMosaic Idealize.ShloMosaic.TcCoe Idealize.SL.Sem
namespace Cert.Kernel8Ideal.EvenIn
open Cert.Kernel8Ideal Cert.Kernel8Ideal.Gen Cert.EvenReal Cert.Reference8Ideal.Result

/-- The kernel's named constant. -/
abbrev log2e : EReal := Named.named (F := Ideal) Cert.Kernel8Ideal.κ "log2_e" (φ := .f32) 0x3FB8AA3B#32

section rows
variable (X0 : FVec Ideal S32768x1024 .f32) (X1 : FVec Ideal S1024 .f32) (n : Fin 32768) (r : Fin 1024)
  (v0 : Vec Ideal S1024x1024 .f32) (v1 : Vec Ideal S1x1024 .f32) (h0 : ∀ k, v0 (ix2 r k) = X0 (ix2 n k)) (h1 : ∀ k, v1 (ix2 0 k) = X1 (ix1 k))
include h0 h1

/-- The norm's row. -/
theorem pay4_at (k : Fin 1024) : k0_pay4 v0 v1 (ix2 r k) = normed X0 X1 (ix2 n k) := by
  rw [normed_at]
  pointwise [k0_pay4, h0, h1]

theorem pay5_at (w) (k : Fin 512) : k0_pay5 v0 v1 w (ix2 r k) = ∑ x, normed X0 X1 (ix2 n x) * w (ix2 x k) := by
  refine Eq.trans ?_ (Finset.sum_congr rfl fun x _ => by rw [← pay4_at X0 X1 n r v0 v1 h0 h1])
  pointwise [k0_pay5]

theorem pay6_at (w) (k : Fin 384) : k0_pay6 v0 v1 w (ix2 r k) = ∑ x, normed X0 X1 (ix2 n x) * w (ix2 x ⟨k, by omega⟩) := by
  rw [← pay5_at X0 X1 n r v0 v1 h0 h1]
  pointwise [k0_pay6]

theorem pay7_at (w) (k : Fin 128) : k0_pay7 v0 v1 w (ix2 r k) = ∑ x, normed X0 X1 (ix2 n x) * w (ix2 x ⟨384 + k, by omega⟩) := by
  rw [← pay5_at X0 X1 n r v0 v1 h0 h1]
  pointwise [k0_pay7]

theorem pay8_at (w) (k : Fin 256) : k0_pay8 v0 v1 w (ix2 r k) = ∑ x, normed X0 X1 (ix2 n x) * w (ix2 x k) := by
  refine Eq.trans ?_ (Finset.sum_congr rfl fun x _ => by rw [← pay4_at X0 X1 n r v0 v1 h0 h1])
  pointwise [k0_pay8]

theorem pay9_at (w) (k : Fin 512) : k0_pay9 v0 v1 w (ix2 r k) = (∑ x, normed X0 X1 (ix2 n x) * w (ix2 x k)) * log2e := by
  refine Eq.trans ?_ (congrArg (· * log2e) (Finset.sum_congr rfl fun x _ => by rw [← pay4_at X0 X1 n r v0 v1 h0 h1]))
  pointwise [k0_pay9]

theorem pay10_at (w) (k : Fin 512) : k0_pay10 v0 v1 w (ix2 r k) = ∑ x, normed X0 X1 (ix2 n x) * w (ix2 x k) := by
  refine Eq.trans ?_ (Finset.sum_congr rfl fun x _ => by rw [← pay4_at X0 X1 n r v0 v1 h0 h1])
  pointwise [k0_pay10]

theorem pay11_at (w) (k : Fin 512) : k0_pay11 (k0_pay4 v0 v1) w (ix2 r k) = ∑ x, normed X0 X1 (ix2 n x) * w (ix2 x k) := by
  refine Eq.trans ?_ (Finset.sum_congr rfl fun x _ => by rw [← pay4_at X0 X1 n r v0 v1 h0 h1])
  pointwise [k0_pay11]
end rows

section queries
variable (C : FVec Ideal Cert.Reference8Ideal.S32768x384 .f32) (X3 : FVec Ideal S384 .f32) (n : Fin 32768) (r : Fin 1024)
  (v0 : FVec Ideal S1024x384 .f32) (v1 : Vec Ideal S1x384 .f32) (h0 : ∀ k, v0 (ix2 r k) = C (ix2 n k)) (h1 : ∀ k, v1 (ix2 0 k) = X3 (ix1 k))
include h0 h1

theorem pay12_at (w) (k : Fin 1024) : k0_pay12 v0 v1 w (ix2 r k) = ∑ x, cqn C X3 (ix2 n x) * w (ix2 x k) := by
  refine Eq.trans ?_ (Finset.sum_congr rfl fun x _ => by rw [cqn_at])
  pointwise [k0_pay12, h0, h1]

theorem pay13_at (w) (k : Fin 1024) : k0_pay13 v0 v1 w (ix2 r k) = ∑ x, cqn C X3 (ix2 n x) * w (ix2 x ⟨(k + 32) % 1024, by omega⟩) := by
  rw [← pay12_at C X3 n r v0 v1 h0 h1]
  pointwise [k0_pay13]
  congr 3
end queries

section keys
variable (K : FVec Ideal Cert.Reference8Ideal.S32768x256 .f32) (X5 : FVec Ideal S256 .f32) (n : Fin 32768) (r : Fin 1024)
  (v0 : FVec Ideal S1024x256 .f32) (v1 : Vec Ideal S1x256 .f32) (h0 : ∀ k, v0 (ix2 r k) = K (ix2 n k)) (h1 : ∀ k, v1 (ix2 0 k) = X5 (ix1 k))
include h0 h1

theorem pay25_at (w) (k : Fin 1024) : k0_pay25 v0 v1 w (ix2 r k) = ∑ x, ckvn K X5 (ix2 n x) * w (ix2 x k) := by
  refine Eq.trans ?_ (Finset.sum_congr rfl fun x _ => by rw [ckvn_at])
  pointwise [k0_pay25, k0_pay24, h0, h1]

theorem pay26_at (w) (k : Fin 1024) : k0_pay26 v0 v1 w (ix2 r k) = ∑ x, ckvn K X5 (ix2 n x) * w (ix2 x k) := by
  refine Eq.trans ?_ (Finset.sum_congr rfl fun x _ => by rw [ckvn_at])
  pointwise [k0_pay26, k0_pay24, h0, h1]
end keys

theorem pay35_at (v0 : FVec Ideal S1024x128 .f32) (v1 w : Vec Ideal S1024x128 .f32) (r : Fin 1024) (k : Fin 128) :
    k0_pay35 v0 v1 w (ix2 r k) = v0 (ix2 r k) * v1 (ix2 r k) + v0 (ix2 r ⟨(k + 32) % 128, by omega⟩) * w (ix2 r k) := by
  pointwise [k0_pay35]
  congr 4

theorem pay17_at (a b : FVec Ideal S1024x1024 .f32) (c s : FVec Ideal S1024x128 .f32) (r : Fin 1024) (k : Fin 128) :
    k0_pay17 a b c s (ix2 r k) = a (ix2 r ⟨128 + k, by omega⟩) * c (ix2 r k) + b (ix2 r ⟨128 + k, by omega⟩) * s (ix2 r k) := by
  pointwise [k0_pay17]

theorem pay18_at (a b : FVec Ideal S1024x1024 .f32) (c s : FVec Ideal S1024x128 .f32) (r : Fin 1024) (k : Fin 128) :
    k0_pay18 a b c s (ix2 r k) = a (ix2 r ⟨256 + k, by omega⟩) * c (ix2 r k) + b (ix2 r ⟨256 + k, by omega⟩) * s (ix2 r k) := by
  pointwise [k0_pay18]

theorem pay19_at (a b : FVec Ideal S1024x1024 .f32) (c s : FVec Ideal S1024x128 .f32) (r : Fin 1024) (k : Fin 128) :
    k0_pay19 a b c s (ix2 r k) = a (ix2 r ⟨384 + k, by omega⟩) * c (ix2 r k) + b (ix2 r ⟨384 + k, by omega⟩) * s (ix2 r k) := by
  pointwise [k0_pay19]

theorem pay20_at (a b : FVec Ideal S1024x1024 .f32) (c s : FVec Ideal S1024x128 .f32) (r : Fin 1024) (k : Fin 128) :
    k0_pay20 a b c s (ix2 r k) = a (ix2 r ⟨512 + k, by omega⟩) * c (ix2 r k) + b (ix2 r ⟨512 + k, by omega⟩) * s (ix2 r k) := by
  pointwise [k0_pay20]

theorem pay21_at (a b : FVec Ideal S1024x1024 .f32) (c s : FVec Ideal S1024x128 .f32) (r : Fin 1024) (k : Fin 128) :
    k0_pay21 a b c s (ix2 r k) = a (ix2 r ⟨640 + k, by omega⟩) * c (ix2 r k) + b (ix2 r ⟨640 + k, by omega⟩) * s (ix2 r k) := by
  pointwise [k0_pay21]

theorem pay22_at (a b : FVec Ideal S1024x1024 .f32) (c s : FVec Ideal S1024x128 .f32) (r : Fin 1024) (k : Fin 128) :
    k0_pay22 a b c s (ix2 r k) = a (ix2 r ⟨768 + k, by omega⟩) * c (ix2 r k) + b (ix2 r ⟨768 + k, by omega⟩) * s (ix2 r k) := by
  pointwise [k0_pay22]

theorem pay23_at (a b : FVec Ideal S1024x1024 .f32) (c s : FVec Ideal S1024x128 .f32) (r : Fin 1024) (k : Fin 128) :
    k0_pay23 a b c s (ix2 r k) = a (ix2 r ⟨896 + k, by omega⟩) * c (ix2 r k) + b (ix2 r ⟨896 + k, by omega⟩) * s (ix2 r k) := by
  pointwise [k0_pay23]

theorem pay36_at (v : FVec Ideal S1024x128 .f32) (a : FVec Ideal S1024x1024 .f32) (c s : Vec Ideal S1024x128 .f32) (r : Fin 1024) (k : Fin 128) :
    k0_pay36 v a c s (ix2 r k) = a (ix2 r ⟨k, by omega⟩) + k0_pay35 v c s (ix2 r k) := by
  pointwise [k0_pay36]

theorem pay37_at (v : FVec Ideal S1024x128 .f32) (a : FVec Ideal S1024x1024 .f32) (c s : Vec Ideal S1024x128 .f32) (r : Fin 1024) (k : Fin 128) :
    k0_pay37 v a c s (ix2 r k) = a (ix2 r ⟨128 + k, by omega⟩) + k0_pay35 v c s (ix2 r k) := by
  pointwise [k0_pay37]

theorem pay38_at (v : FVec Ideal S1024x128 .f32) (a : FVec Ideal S1024x1024 .f32) (c s : Vec Ideal S1024x128 .f32) (r : Fin 1024) (k : Fin 128) :
    k0_pay38 v a c s (ix2 r k) = a (ix2 r ⟨256 + k, by omega⟩) + k0_pay35 v c s (ix2 r k) := by
  pointwise [k0_pay38]

theorem pay39_at (v : FVec Ideal S1024x128 .f32) (a : FVec Ideal S1024x1024 .f32) (c s : Vec Ideal S1024x128 .f32) (r : Fin 1024) (k : Fin 128) :
    k0_pay39 v a c s (ix2 r k) = a (ix2 r ⟨384 + k, by omega⟩) + k0_pay35 v c s (ix2 r k) := by
  pointwise [k0_pay39]

theorem pay40_at (v : FVec Ideal S1024x128 .f32) (a : FVec Ideal S1024x1024 .f32) (c s : Vec Ideal S1024x128 .f32) (r : Fin 1024) (k : Fin 128) :
    k0_pay40 v a c s (ix2 r k) = a (ix2 r ⟨512 + k, by omega⟩) + k0_pay35 v c s (ix2 r k) := by
  pointwise [k0_pay40]

theorem pay1_at (a : FVec Ideal S1024x1024 .f32) (v : FVec Ideal S1024x128 .f32) (r : Fin 1024) (k : Fin 128) :
    k0_pay1 a v (ix2 r k) = a (ix2 r ⟨640 + k, by omega⟩) + v (ix2 r k) := by
  pointwise [k0_pay1]

theorem pay2_at (a : FVec Ideal S1024x1024 .f32) (v : FVec Ideal S1024x128 .f32) (r : Fin 1024) (k : Fin 128) :
    k0_pay2 a v (ix2 r k) = a (ix2 r ⟨768 + k, by omega⟩) + v (ix2 r k) := by
  pointwise [k0_pay2]

theorem pay3_at (a : FVec Ideal S1024x1024 .f32) (v : FVec Ideal S1024x128 .f32) (r : Fin 1024) (k : Fin 128) :
    k0_pay3 a v (ix2 r k) = a (ix2 r ⟨896 + k, by omega⟩) + v (ix2 r k) := by
  pointwise [k0_pay3]

theorem pay14_eq (v : Vec Ideal S1024x128 .f32) : k0_pay14 v = v := by
  funext x
  rw [eq_ix2 x]
  pointwise [k0_pay14]

theorem pay15_eq (v : Vec Ideal S1024x128 .f32) : k0_pay15 v = v := by
  funext x
  rw [eq_ix2 x]
  pointwise [k0_pay15]

theorem pay16_at (v0 : FVec Ideal S1024x384 .f32) (v1 w) (c s : Vec Ideal S1024x128 .f32) (r : Fin 1024) (k : Fin 128) :
    k0_pay16 v0 v1 w c s (ix2 r k) = k0_pay12 v0 v1 w (ix2 r ⟨k, by omega⟩) * c (ix2 r k) + k0_pay13 v0 v1 w (ix2 r ⟨k, by omega⟩) * s (ix2 r k) := by
  pointwise [k0_pay16, pay14_eq, pay15_eq]

/-- The lanes that hold ones. -/
theorem mask_eq : ∀ k : Fin 1024, (IntOp.cmpi CmpIPredicate.eq (Scalar.select (IntOp.andi (IntOp.xori (IntOp.cmpi CmpIPredicate.slt (IntOp.remsi ArithUnit.vector (BitVec.ofNat 32 (k : ℕ)) (Scalar.select (Scalar.cmpi CmpIPredicate.eq 128#32 0#32) 1#32 128#32)) 0#32) (Scalar.cmpi CmpIPredicate.slt (Scalar.select (Scalar.cmpi CmpIPredicate.eq 128#32 0#32) 1#32 128#32) 0#32)) (IntOp.cmpi CmpIPredicate.ne (IntOp.remsi ArithUnit.vector (BitVec.ofNat 32 (k : ℕ)) (Scalar.select (Scalar.cmpi CmpIPredicate.eq 128#32 0#32) 1#32 128#32)) 0#32)) (IntOp.addi (IntOp.remsi ArithUnit.vector (BitVec.ofNat 32 (k : ℕ)) (Scalar.select (Scalar.cmpi CmpIPredicate.eq 128#32 0#32) 1#32 128#32)) (Scalar.select (Scalar.cmpi CmpIPredicate.eq 128#32 0#32) 1#32 128#32)) (IntOp.remsi ArithUnit.vector (BitVec.ofNat 32 (k : ℕ)) (Scalar.select (Scalar.cmpi CmpIPredicate.eq 128#32 0#32) 1#32 128#32))) (Scalar.select (IntOp.cmpi CmpIPredicate.eq (Scalar.select (IntOp.andi (IntOp.xori (IntOp.cmpi CmpIPredicate.slt (IntOp.remsi ArithUnit.vector (Scalar.select (IntOp.andi (IntOp.cmpi CmpIPredicate.ne (IntOp.subi (BitVec.setWidth 32 (IntOp.cmpi CmpIPredicate.sgt (BitVec.ofNat 32 (k : ℕ)) 0#32)) (BitVec.setWidth 32 (IntOp.cmpi CmpIPredicate.slt (BitVec.ofNat 32 (k : ℕ)) 0#32))) (Scalar.subi (Scalar.extui (Scalar.cmpi CmpIPredicate.sgt 128#32 0#32)) (Scalar.extui (Scalar.cmpi CmpIPredicate.slt 128#32 0#32)))) (IntOp.cmpi CmpIPredicate.ne (IntOp.remsi ArithUnit.vector (BitVec.ofNat 32 (k : ℕ)) 128#32) 0#32)) (IntOp.subi (IntOp.divsi ArithUnit.vector (BitVec.ofNat 32 (k : ℕ)) 128#32) 1#32) (IntOp.divsi ArithUnit.vector (BitVec.ofNat 32 (k : ℕ)) 128#32)) (Scalar.select (Scalar.cmpi CmpIPredicate.eq 2#32 0#32) 1#32 2#32)) 0#32) (Scalar.cmpi CmpIPredicate.slt (Scalar.select (Scalar.cmpi CmpIPredicate.eq 2#32 0#32) 1#32 2#32) 0#32)) (IntOp.cmpi CmpIPredicate.ne (IntOp.remsi ArithUnit.vector (Scalar.select (IntOp.andi (IntOp.cmpi CmpIPredicate.ne (IntOp.subi (BitVec.setWidth 32 (IntOp.cmpi CmpIPredicate.sgt (BitVec.ofNat 32 (k : ℕ)) 0#32)) (BitVec.setWidth 32 (IntOp.cmpi CmpIPredicate.slt (BitVec.ofNat 32 (k : ℕ)) 0#32))) (Scalar.subi (Scalar.extui (Scalar.cmpi CmpIPredicate.sgt 128#32 0#32)) (Scalar.extui (Scalar.cmpi CmpIPredicate.slt 128#32 0#32)))) (IntOp.cmpi CmpIPredicate.ne (IntOp.remsi ArithUnit.vector (BitVec.ofNat 32 (k : ℕ)) 128#32) 0#32)) (IntOp.subi (IntOp.divsi ArithUnit.vector (BitVec.ofNat 32 (k : ℕ)) 128#32) 1#32) (IntOp.divsi ArithUnit.vector (BitVec.ofNat 32 (k : ℕ)) 128#32)) (Scalar.select (Scalar.cmpi CmpIPredicate.eq 2#32 0#32) 1#32 2#32)) 0#32)) (IntOp.addi (IntOp.remsi ArithUnit.vector (Scalar.select (IntOp.andi (IntOp.cmpi CmpIPredicate.ne (IntOp.subi (BitVec.setWidth 32 (IntOp.cmpi CmpIPredicate.sgt (BitVec.ofNat 32 (k : ℕ)) 0#32)) (BitVec.setWidth 32 (IntOp.cmpi CmpIPredicate.slt (BitVec.ofNat 32 (k : ℕ)) 0#32))) (Scalar.subi (Scalar.extui (Scalar.cmpi CmpIPredicate.sgt 128#32 0#32)) (Scalar.extui (Scalar.cmpi CmpIPredicate.slt 128#32 0#32)))) (IntOp.cmpi CmpIPredicate.ne (IntOp.remsi ArithUnit.vector (BitVec.ofNat 32 (k : ℕ)) 128#32) 0#32)) (IntOp.subi (IntOp.divsi ArithUnit.vector (BitVec.ofNat 32 (k : ℕ)) 128#32) 1#32) (IntOp.divsi ArithUnit.vector (BitVec.ofNat 32 (k : ℕ)) 128#32)) (Scalar.select (Scalar.cmpi CmpIPredicate.eq 2#32 0#32) 1#32 2#32)) (Scalar.select (Scalar.cmpi CmpIPredicate.eq 2#32 0#32) 1#32 2#32)) (IntOp.remsi ArithUnit.vector (Scalar.select (IntOp.andi (IntOp.cmpi CmpIPredicate.ne (IntOp.subi (BitVec.setWidth 32 (IntOp.cmpi CmpIPredicate.sgt (BitVec.ofNat 32 (k : ℕ)) 0#32)) (BitVec.setWidth 32 (IntOp.cmpi CmpIPredicate.slt (BitVec.ofNat 32 (k : ℕ)) 0#32))) (Scalar.subi (Scalar.extui (Scalar.cmpi CmpIPredicate.sgt 128#32 0#32)) (Scalar.extui (Scalar.cmpi CmpIPredicate.slt 128#32 0#32)))) (IntOp.cmpi CmpIPredicate.ne (IntOp.remsi ArithUnit.vector (BitVec.ofNat 32 (k : ℕ)) 128#32) 0#32)) (IntOp.subi (IntOp.divsi ArithUnit.vector (BitVec.ofNat 32 (k : ℕ)) 128#32) 1#32) (IntOp.divsi ArithUnit.vector (BitVec.ofNat 32 (k : ℕ)) 128#32)) (Scalar.select (Scalar.cmpi CmpIPredicate.eq 2#32 0#32) 1#32 2#32))) 0#32) 64#32 0#32)) = if (k : ℕ) % 256 = 64 ∨ (k : ℕ) % 256 = 128 then 1#1 else 0#1 := by
  decide +kernel

theorem pay34_at (v : FVec Ideal S1024x1024 .f32) (v141) (h : v141 = iota .tc S1024x1024 32 [1] iota_S1024x1024_d1_w32) (r : Fin 1024) (k : Fin 1024) : k0_pay34 v (k0_pay29 v141 128#32 k0_pay27 k0_pay28 (Scalar.extui (Scalar.cmpi .sgt 128#32 0#32)) (Scalar.cmpi .slt 128#32 0#32)) (Scalar.select (Scalar.cmpi .eq 128#32 0#32) 1#32 128#32) (k0_pay30 v141) (k0_pay31 v141) (k0_pay32 v141) k0_pay33 (ix2 r k) = if (k : ℕ) % 256 = 64 ∨ (k : ℕ) % 256 = 128 then 1 else v (ix2 r k) := by
  subst h
  pointwise [k0_pay34, k0_pay29, k0_pay27, k0_pay28, k0_pay30, k0_pay31, k0_pay32, k0_pay33]
  rw [mask_eq k]
  split_ifs <;> rfl

end Cert.Kernel8Ideal.EvenIn
end
-- ==== Proof.EvenCore.lean ====
/- The values the entry of the even layers stores against the reference's, one row at a time. -/
module

public import proofs.«01_k».proof.Proof.EvenPay

@[expose] public section
set_option maxRecDepth 16384
noncomputable section
open Idealize.ShloMosaic Idealize.ShloMosaic.TcCoe Idealize.SL.Sem
namespace Cert.Kernel8Ideal.EvenIn
open Cert.Kernel8Ideal Cert.Kernel8Ideal.Gen Cert.EvenReal Cert.Reference8Ideal.Result

theorem log2e_eq : log2e = (((Real.log 2)⁻¹ : ℝ) : EReal) := IdealRules.named_const.ideal_named_scalar _ _ _ _ rfl

theorem fin_col {A B : ℕ} {φ : FTy} (X : FVec Ideal ⟨2, ![A, B]⟩ φ) (h : ∀ i, Fin' (X i)) (a : Fin A) (j : ℕ) : Fin' (col X a j) := by
  unfold col
  split_ifs
  · exact h _
  · exact ⟨0, EReal.coe_zero.symm⟩

variable (X0 : FVec Ideal Cert.Reference8Ideal.S32768x1024 .f32) (X1 : FVec Ideal S1024 .f32) (X2 : FVec Ideal S1024x2208 .f32)
  (X3 : FVec Ideal S384 .f32) (X4 : FVec Ideal S384x768 .f32) (X5 : FVec Ideal S256 .f32) (X6 : FVec Ideal S256x1024 .f32)
  (X7 X8 : FVec Ideal S2048x16 .f32)

theorem proj_col (n : Fin 32768) (j : ℕ) : col (proj X0 X1 X2) n j = ∑ x, normed X0 X1 (ix2 n x) * col X2 x j := by
  by_cases h : j < 2208
  · simp only [col, h, ↓reduceDIte]
    exact proj_at X0 X1 X2 n ⟨j, h⟩
  · simp only [col, h, ↓reduceDIte, mul_zero, Finset.sum_const_zero]

theorem qm_col (C : FVec Ideal Cert.Reference8Ideal.S32768x384 .f32) (n : Fin 32768) (j : ℕ) :
    col (qm C X3 X4) n j = ∑ x, cqn C X3 (ix2 n x) * col X4 x j := by
  by_cases h : j < 768
  · simp only [col, h, ↓reduceDIte]
    exact qm_at C X3 X4 n ⟨j, h⟩
  · simp only [col, h, ↓reduceDIte, mul_zero, Finset.sum_const_zero]

theorem kvm_col (K : FVec Ideal Cert.Reference8Ideal.S32768x256 .f32) (n : Fin 32768) (j : ℕ) :
    col (kvm K X5 X6) n j = ∑ x, ckvn K X5 (ix2 n x) * col X6 x j := by
  by_cases h : j < 1024
  · simp only [col, h, ↓reduceDIte]
    exact kvm_at K X5 X6 n ⟨j, h⟩
  · simp only [col, h, ↓reduceDIte, mul_zero, Finset.sum_const_zero]

section finite
variable (f1 : ∀ i, Fin' (X1 i))
include f1

theorem fin_normed (n : Fin 32768) (k : Fin 1024) : Fin' (normed X0 X1 (ix2 n k)) := by
  rw [normed_at]
  exact mul (unit_1024 (fun x => X0 (ix2 n x)) k) (f1 _)

/-- A lane of the rows times the packed entry weights. -/
theorem in_lane (f2 : ∀ i, Fin' (X2 i)) (n : Fin 32768) (l : ℕ) :
    ∑ x, normed X0 X1 (ix2 n x) * wIn (col X2 x) l = wIn (col (proj X0 X1 X2) n) l := by
  rw [sum_wIn _ _ (fin_normed X0 X1 f1 n) (fun x j => fin_col X2 f2 x j)]
  congr 1
  exact funext fun j => (proj_col X0 X1 X2 n j).symm

omit f1 in
theorem fin_cqn (f3 : ∀ i, Fin' (X3 i)) (C : FVec Ideal Cert.Reference8Ideal.S32768x384 .f32) (n : Fin 32768) (k : Fin 384) : Fin' (cqn C X3 (ix2 n k)) := by
  rw [cqn_at]
  exact mul (unit_384 (fun x => C (ix2 n x)) k) (f3 _)

omit f1 in
/-- A lane of the queries' product. -/
theorem q_lane (f3 : ∀ i, Fin' (X3 i)) (f4 : ∀ i, Fin' (X4 i)) (n : Fin 32768) (l : ℕ) :
    ∑ x, cqn (cq (proj X0 X1 X2)) X3 (ix2 n x) * wQ (col X4 x) l = wQ (col (qm (cq (proj X0 X1 X2)) X3 X4) n) l := by
  rw [sum_wQ _ _ (fin_cqn X3 f3 _ n) (fun x j => fin_col X4 f4 x j)]
  congr 1
  exact funext fun j => (qm_col X3 X4 _ n j).symm
end finite

theorem k_lane (K : FVec Ideal Cert.Reference8Ideal.S32768x256 .f32) (n : Fin 32768) (l : ℕ) :
    ∑ x, ckvn K X5 (ix2 n x) * wK (col X6 x) l = wK (col (kvm K X5 X6) n) l := by
  rw [sum_wK]
  congr 1
  exact funext fun j => (kvm_col X5 X6 K n j).symm

theorem v_lane (K : FVec Ideal Cert.Reference8Ideal.S32768x256 .f32) (n : Fin 32768) (l : ℕ) :
    ∑ x, ckvn K X5 (ix2 n x) * wV (col X6 x) l = wV (col (kvm K X5 X6) n) l := by
  rw [sum_wV]
  congr 1
  exact funext fun j => (kvm_col X5 X6 K n j).symm

/-! The stored values, over blocks that hold one row of the arguments. -/

section blocks
variable (n : Fin 32768) (r : Fin 1024) (x0 : Vec Ideal S1024x1024 .f32) (x1 : Vec Ideal S1x1024 .f32)
  (f1 : ∀ i, Fin' (X1 i)) (f2 : ∀ i, Fin' (X2 i))
  (b0 : ∀ k, x0 (ix2 r k) = X0 (ix2 n k)) (b1 : ∀ k, x1 (ix2 0 k) = X1 (ix1 k))
include f1 f2 b0 b1

/-- The queries' compressed row. -/
theorem cq_row (w : Vec Ideal S1024x512 .bf16) (hw : ∀ a l, w (ix2 a l) = wIn (col X2 a) l) (k : Fin 384) :
    k0_pay6 x0 x1 w (ix2 r k) = cq (proj X0 X1 X2) (ix2 n k) := by
  rw [pay6_at X0 X1 n r x0 x1 b0 b1, cq_at, to_col (proj X0 X1 X2)]
  simp only [hw]
  rw [in_lane X0 X1 X2 f1 f2 n]
  exact if_pos k.2

/-- The turned part's row. -/
theorem kr_row (w : Vec Ideal S1024x512 .bf16) (hw : ∀ a l, w (ix2 a l) = wIn (col X2 a) l) (k : Fin 128) :
    k0_pay7 x0 x1 w (ix2 r k) = wIn (col (proj X0 X1 X2) n) (384 + k) := by
  rw [pay7_at X0 X1 n r x0 x1 b0 b1]
  simp only [hw]
  exact in_lane X0 X1 X2 f1 f2 n _

/-- The keys' compressed row. -/
theorem ckv_row (w : Vec Ideal S1024x256 .bf16) (hw : ∀ (a : Fin 1024) (l : Fin 256), w (ix2 a l) = wIn (col X2 a) (512 + l)) (k : Fin 256) :
    k0_pay8 x0 x1 w (ix2 r k) = ckv (proj X0 X1 X2) (ix2 n k) := by
  rw [pay8_at X0 X1 n r x0 x1 b0 b1, ckv_at, to_col (proj X0 X1 X2)]
  simp only [hw]
  rw [in_lane X0 X1 X2 f1 f2 n, wIn, if_neg (by omega), if_neg (by omega), if_neg (by omega), if_neg (by omega), if_neg (by omega), if_pos (by omega)]
  congr 1
  show 384 + (512 + (k : ℕ) - 512) = 384 + k
  omega

/-- The scaled columns of the last result. -/
theorem m_first (w : Vec Ideal S1024x512 .bf16) (hw : ∀ (a : Fin 1024) (l : Fin 512), w (ix2 a l) = wIn (col X2 a) (768 + l)) (k : Fin 512)
    (y : Fin 1536) (hy : (y : ℕ) = k) : k0_pay9 x0 x1 w (ix2 r k) = resM (proj X0 X1 X2) (ix2 n y) := by
  rw [pay9_at X0 X1 n r x0 x1 b0 b1, resM_at, dif_pos (by omega), to_col (proj X0 X1 X2), log2e_eq]
  simp only [hw]
  rw [in_lane X0 X1 X2 f1 f2 n, lane_m _ _ k.2]
  simp only [hy]

/-- The other columns of the last result. -/
theorem m_rest (z : ℕ) (hz : 512 ≤ z) (w : Vec Ideal S1024x512 .bf16) (hw : ∀ (a : Fin 1024) (l : Fin 512), w (ix2 a l) = wIn (col X2 a) (768 + (z + l)))
    (k : Fin 512) (y : Fin 1536) (hy : (y : ℕ) = z + k) : ∑ x, normed X0 X1 (ix2 n x) * w (ix2 x k) = resM (proj X0 X1 X2) (ix2 n y) := by
  rw [resM_at, dif_neg (by omega), to_col (proj X0 X1 X2)]
  simp only [hw]
  rw [in_lane X0 X1 X2 f1 f2 n, lane_n _ _ (by omega)]
  simp only [hy]

/-- The queries. -/
theorem q_row (f3 : ∀ i, Fin' (X3 i)) (f4 : ∀ i, Fin' (X4 i)) (w : Vec Ideal S1024x512 .bf16) (hw : ∀ a l, w (ix2 a l) = wIn (col X2 a) l)
    (x3 : Vec Ideal S1x384 .f32) (b3 : ∀ k, x3 (ix2 0 k) = X3 (ix1 k)) (x4 : Vec Ideal S384x1024 .bf16) (b4 : ∀ a l, x4 (ix2 a l) = wQ (col X4 a) l)
    (x8 x9 : Vec Ideal S1024x128 .f32) (b8 : ∀ l, x8 (ix2 r l) = tab 1 (col X7 ⟨n % 2048, by omega⟩) l * factor)
    (b9 : ∀ l, x9 (ix2 r l) = tab 0 (col X8 ⟨n % 2048, by omega⟩) l * factor) (y y' : Fin 1024) (k : Fin 128) (hk : (k : ℕ) = y % 128) (hy : y' = y) :
    k0_pay12 (k0_pay6 x0 x1 w) x3 x4 (ix2 r y) * x8 (ix2 r k) + k0_pay13 (k0_pay6 x0 x1 w) x3 x4 (ix2 r y) * x9 (ix2 r k)
      = resQ (qm (cq (proj X0 X1 X2)) X3 X4) X7 X8 (ix2 n y') := by
  subst hy
  have h6 := cq_row X0 X1 X2 n r x0 x1 f1 f2 b0 b1 w hw
  rw [pay12_at _ X3 n r _ x3 h6 b3, pay13_at _ X3 n r _ x3 h6 b3, b8, b9, resQ_at]
  simp only [b4, to_col (qm (cq (proj X0 X1 X2)) X3 X4), to_col X7, to_col X8, dite_eq_ite]
  rw [q_lane X0 X1 X2 X3 X4 f3 f4 n, q_lane X0 X1 X2 X3 X4 f3 f4 n, hk]
  exact lane_q _ _ _ y' y'.2

/-- The keys. -/
theorem k_row (w : Vec Ideal S1024x512 .bf16) (hw : ∀ a l, w (ix2 a l) = wIn (col X2 a) l)
    (w' : Vec Ideal S1024x256 .bf16) (hw' : ∀ (a : Fin 1024) (l : Fin 256), w' (ix2 a l) = wIn (col X2 a) (512 + l))
    (x5 : Vec Ideal S1x256 .f32) (b5 : ∀ k, x5 (ix2 0 k) = X5 (ix1 k)) (x6 : Vec Ideal S256x1024 .bf16) (b6 : ∀ a l, x6 (ix2 a l) = wK (col X6 a) l)
    (x10 x11 : Vec Ideal S1024x128 .f32) (b10 : ∀ l, x10 (ix2 r l) = tab 0 (col X7 ⟨n % 2048, by omega⟩) l)
    (b11 : ∀ l, x11 (ix2 r l) = tab 0 (col X8 ⟨n % 2048, by omega⟩) l) (y y' : Fin 1024) (k : Fin 128) (hk : (k : ℕ) = y % 128) (hy : y' = y) :
    k0_pay25 (k0_pay8 x0 x1 w') x5 x6 (ix2 r y) + k0_pay35 (k0_pay7 x0 x1 w) x10 x11 (ix2 r k)
      = resK (kvm (ckv (proj X0 X1 X2)) X5 X6) (proj X0 X1 X2) X7 X8 (ix2 n y') := by
  subst hy
  have h8 := ckv_row X0 X1 X2 n r x0 x1 f1 f2 b0 b1 w' hw'
  have h7 := kr_row X0 X1 X2 n r x0 x1 f1 f2 b0 b1 w hw
  rw [pay25_at _ X5 n r _ x5 h8 b5, pay35_at, h7, h7, b10, b11, resK_at]
  simp only [b6, to_col (kvm (ckv (proj X0 X1 X2)) X5 X6), to_col (proj X0 X1 X2), to_col X7, to_col X8, dite_eq_ite]
  rw [k_lane X5 X6 _ n, hk]
  exact lane_k _ _ _ _ y' y'.2

/-- The values. -/
theorem v_row (w' : Vec Ideal S1024x256 .bf16) (hw' : ∀ (a : Fin 1024) (l : Fin 256), w' (ix2 a l) = wIn (col X2 a) (512 + l))
    (x5 : Vec Ideal S1x256 .f32) (b5 : ∀ k, x5 (ix2 0 k) = X5 (ix1 k)) (x7 : Vec Ideal S256x1024 .bf16) (b7 : ∀ a l, x7 (ix2 a l) = wV (col X6 a) l)
    (y y' : Fin 1024) (hy : y' = y) :
    (if (y : ℕ) % 256 = 64 ∨ (y : ℕ) % 256 = 128 then 1 else k0_pay26 (k0_pay8 x0 x1 w') x5 x7 (ix2 r y))
      = resV (kvm (ckv (proj X0 X1 X2)) X5 X6) (ix2 n y') := by
  subst hy
  have h8 := ckv_row X0 X1 X2 n r x0 x1 f1 f2 b0 b1 w' hw'
  rw [pay26_at _ X5 n r _ x5 h8 b5, resV_at]
  simp only [b7, to_col (kvm (ckv (proj X0 X1 X2)) X5 X6), dite_eq_ite]
  rw [v_lane X5 X6 _ n]
  exact lane_v _ y'
end blocks

end Cert.Kernel8Ideal.EvenIn
end
-- ==== Proof.EvenHost.lean ====
/- What the operations before the entry's launch leave in each of their arrays. -/
module

public import proofs.«01_k».proof.Proof.Gen.Kernel8Ideal.Value
public import Idealize.ShloMosaic.Lib.Pipeline.ValueKit
public import Idealize.ShloMosaic.Lib.Pointwise

@[expose] public section
set_option maxRecDepth 16384
set_option maxHeartbeats 800000
noncomputable section
open Idealize.ShloMosaic Idealize.ShloMosaic.TcCoe Idealize.SL.Sem
namespace Cert.Kernel8Ideal.EvenIn
open Cert.Kernel8Ideal Cert.Kernel8Ideal.Gen
variable (m : (ℓ : Loc nD τ sig) → Buf (Elt Ideal) ℓ) (c : Dev nD)

/-- The operations before the launch. -/
def ops : List (HloOp τ sig (Elt Ideal)) := hostOps0 (F := Ideal)

/-- The array each of them writes. -/
def outs : List (Ref sig .tc) := [main_v0, main_v1, main_cst, main_v2, main_v3, main_v4, main_v5, main_v6, main_v7, main_v8, main_cst_0, main_v9, main_v10, main_v11, main_v12, main_v13, main_v14, main_v15, main_v16, main_v17, main_v18, main_v19, main_v20, main_v21, main_v22, main_v23, main_v24, main_v25, main_v26, main_cst_1, main_v27, main_v28, main_v29, main_v30, main_v31, main_v32, main_v33, main_cst_2, main_v34, main_v35, main_v36, main_v37, main_v38, main_v39, main_v40, main_v41, main_v42, main_v43, main_v44, main_v45, main_cst_3, main_v46, main_cst_4, main_v47, main_cst_5, main_v48, main_cst_6, main_v49, main_cst_7, main_v50, main_v51, main_cst_8, main_v52, main_v53, main_v54, main_v55, main_v56, main_v57, main_v58, main_v59, main_v60, main_v61, main_v62, main_v63]

theorem ops_writes : List.Forall₂ (fun (op : HloOp τ sig (Elt Ideal)) r => op.writes = {Proc.devRef .tc r}) ops outs := by
  unfold ops outs
  repeat' first | exact List.Forall₂.nil | refine List.Forall₂.cons rfl ?_

/-- The arrays after the first `n` operations. -/
def upto (n : ℕ) : Valuation τ sig (Elt Ideal) := StableHlo.after (ops.take n) fun b => m (c, b)

theorem after_append (l l' : List (HloOp τ sig (Elt Ideal))) (σ : Valuation τ sig (Elt Ideal)) :
    StableHlo.after (l ++ l') σ = StableHlo.after l' (StableHlo.after l σ) := by
  induction l generalizing σ with
  | nil => rfl
  | cons op l ih => exact ih _

/-- An array none of the later operations writes. -/
theorem before (n : ℕ) (r : Ref sig .tc) (hr : r ∉ outs.drop n) : upto m c n (Proc.devRef .tc r) = V m c r := by
  have e : V m c r = StableHlo.after (ops.take n ++ ops.drop n) (fun b => m (c, b)) (Proc.devRef .tc r) := by
    rw [List.take_append_drop]; rfl
  rw [e, after_append]
  refine (StableHlo.after_of_forall_not_mem _ _ fun op hop hm => hr ?_).symm
  have h := List.forall₂_drop n ops_writes
  obtain ⟨k, hk, rfl⟩ := List.getElem_of_mem hop
  have h2 := h.get hk (h.length_eq ▸ hk)
  simp only [List.get_eq_getElem] at h2
  rw [h2, Finset.mem_singleton] at hm
  by_cases h3 : r = (outs.drop n)[k]'(h.length_eq ▸ hk)
  · rw [h3]; exact List.getElem_mem _
  · exact absurd hm (StableHlo.devRef_ne_of_ne h3)

/-- The array an operation writes. -/
theorem at_step (n : ℕ) (op : HloOp τ sig (Elt Ideal)) (hop : ops[n]? = some op) (y : Ref sig .tc) (hy : y ∉ outs.drop (n + 1)) :
    V m c y = op.result (upto m c n) (Proc.devRef .tc y) := by
  rw [← before m c (n + 1) y hy, upto, upto, List.take_succ, hop, after_append]
  rfl

theorem congr3 {α β γ δ : Type} (f : α → β → γ → δ) {a a' : α} {b b' : β} {d d' : γ} (ha : a = a') (hb : b = b') (hd : d = d') :
    f a b d = f a' b' d' := by rw [ha, hb, hd]

theorem congr4 {α β γ δ ε : Type} (f : α → β → γ → δ → ε) {a a' : α} {b b' : β} {d d' : γ} {e e' : δ} (ha : a = a') (hb : b = b') (hd : d = d')
    (he : e = e') : f a b d e = f a' b' d' e' := by rw [ha, hb, hd, he]

theorem congr7 {α β γ δ ε ζ η θ : Type} (f : α → β → γ → δ → ε → ζ → η → θ) {a a' : α} {b b' : β} {d d' : γ} {e e' : δ} {k k' : ε} {l l' : ζ}
    {n n' : η} (ha : a = a') (hb : b = b') (hd : d = d') (he : e = e') (hk : k = k') (hl : l = l') (hn : n = n') :
    f a b d e k l n = f a' b' d' e' k' l' n' := by rw [ha, hb, hd, he, hk, hl, hn]

theorem V_v0 : V m c main_v0 = ((extractStridedSlice S1024x32 ![0, 640] (V m c main_arg2 : FVec Ideal S1024x2208 .f32) slices_S1024x2208_S1024x32_0_640) : FVec Ideal S1024x32 .f32) := by
  refine (at_step m c 0 _ rfl main_v0 (by decide)).trans ?_
  refine (StableHlo.unary_result ..).trans ?_
  rw [before m c 0 main_arg2 (by decide)]

theorem V_v1 : V m c main_v1 = ((extractStridedSlice S1024x384 ![0, 0] (V m c main_arg2 : FVec Ideal S1024x2208 .f32) slices_S1024x2208_S1024x384_0_0) : FVec Ideal S1024x384 .f32) := by
  refine (at_step m c 1 _ rfl main_v1 (by decide)).trans ?_
  refine (StableHlo.unary_result ..).trans ?_
  rw [before m c 1 main_arg2 (by decide)]

theorem V_cst : V m c main_cst = constant (F := Ideal) S_ .f32 0x00000000#32 :=
  (at_step m c 2 _ rfl main_cst (by decide)).trans (StableHlo.nullary_result ..)

theorem V_v2 : V m c main_v2 = ((broadcastInDim S1024x64 ![] bcast_S_S1024x64 (V m c main_cst : FVec Ideal S_ .f32)) : FVec Ideal S1024x64 .f32) := by
  refine (at_step m c 3 _ rfl main_v2 (by decide)).trans ?_
  refine (StableHlo.unary_result ..).trans ?_
  rw [before m c 3 main_cst (by decide)]

theorem V_v3 : V m c main_v3 = ((extractStridedSlice S1024x16 ![0, 16] (V m c main_v0 : FVec Ideal S1024x32 .f32) slices_S1024x32_S1024x16_0_16) : FVec Ideal S1024x16 .f32) := by
  refine (at_step m c 4 _ rfl main_v3 (by decide)).trans ?_
  refine (StableHlo.unary_result ..).trans ?_
  rw [before m c 4 main_v0 (by decide)]

theorem V_v4 : V m c main_v4 = ((Host.negf (V m c main_v3 : FVec Ideal S1024x16 .f32)) : FVec Ideal S1024x16 .f32) := by
  refine (at_step m c 5 _ rfl main_v4 (by decide)).trans ?_
  refine (StableHlo.unary_result ..).trans ?_
  rw [before m c 5 main_v3 (by decide)]

theorem V_v5 : V m c main_v5 = ((extractStridedSlice S1024x16 ![0, 0] (V m c main_v0 : FVec Ideal S1024x32 .f32) slices_S1024x32_S1024x16_0_0) : FVec Ideal S1024x16 .f32) := by
  refine (at_step m c 6 _ rfl main_v5 (by decide)).trans ?_
  refine (StableHlo.unary_result ..).trans ?_
  rw [before m c 6 main_v0 (by decide)]

theorem V_v6 : V m c main_v6 = ((concatenate S1024x32 1 [⟨S1024x16, (V m c main_v4 : FVec Ideal S1024x16 .f32)⟩, ⟨S1024x16, (V m c main_v5 : FVec Ideal S1024x16 .f32)⟩] concatenates_S1024x16_S1024x16_S1024x32_d1) : FVec Ideal S1024x32 .f32) :=
  (at_step m c 7 _ rfl main_v6 (by decide)).trans ((StableHlo.binary_result ..).trans (congrArg₂ (fun (v : FVec Ideal S1024x16 .f32) (w : FVec Ideal S1024x16 .f32) => (concatenate S1024x32 1 [⟨S1024x16, v⟩, ⟨S1024x16, w⟩] concatenates_S1024x16_S1024x16_S1024x32_d1)) (before m c 7 main_v4 (by decide)) (before m c 7 main_v5 (by decide))))

theorem V_v7 : V m c main_v7 = ((extractStridedSlice S1024x256 ![0, 384] (V m c main_arg2 : FVec Ideal S1024x2208 .f32) slices_S1024x2208_S1024x256_0_384) : FVec Ideal S1024x256 .f32) := by
  refine (at_step m c 8 _ rfl main_v7 (by decide)).trans ?_
  refine (StableHlo.unary_result ..).trans ?_
  rw [before m c 8 main_arg2 (by decide)]

theorem V_v8 : V m c main_v8 = ((extractStridedSlice S1024x512 ![0, 672] (V m c main_arg2 : FVec Ideal S1024x2208 .f32) slices_S1024x2208_S1024x512_0_672) : FVec Ideal S1024x512 .f32) := by
  refine (at_step m c 9 _ rfl main_v8 (by decide)).trans ?_
  refine (StableHlo.unary_result ..).trans ?_
  rw [before m c 9 main_arg2 (by decide)]

theorem V_cst_0 : V m c main_cst_0 = constant (F := Ideal) S_ .f32 0x3E000000#32 :=
  (at_step m c 10 _ rfl main_cst_0 (by decide)).trans (StableHlo.nullary_result ..)

theorem V_v9 : V m c main_v9 = ((broadcastInDim S1024x512 ![] bcast_S_S1024x512 (V m c main_cst_0 : FVec Ideal S_ .f32)) : FVec Ideal S1024x512 .f32) := by
  refine (at_step m c 11 _ rfl main_v9 (by decide)).trans ?_
  refine (StableHlo.unary_result ..).trans ?_
  rw [before m c 11 main_cst_0 (by decide)]

theorem V_v10 : V m c main_v10 = ((mulf (V m c main_v8 : FVec Ideal S1024x512 .f32) (V m c main_v9 : FVec Ideal S1024x512 .f32)) : FVec Ideal S1024x512 .f32) :=
  (at_step m c 12 _ rfl main_v10 (by decide)).trans ((StableHlo.binary_result ..).trans (congrArg₂ (fun (v : FVec Ideal S1024x512 .f32) (w : FVec Ideal S1024x512 .f32) => (mulf v w)) (before m c 12 main_v8 (by decide)) (before m c 12 main_v9 (by decide))))

theorem V_v11 : V m c main_v11 = ((extractStridedSlice S1024x1024 ![0, 1184] (V m c main_arg2 : FVec Ideal S1024x2208 .f32) slices_S1024x2208_S1024x1024_0_1184) : FVec Ideal S1024x1024 .f32) := by
  refine (at_step m c 13 _ rfl main_v11 (by decide)).trans ?_
  refine (StableHlo.unary_result ..).trans ?_
  rw [before m c 13 main_arg2 (by decide)]

theorem V_v12 : V m c main_v12 = concatenate S1024x2304 1 [⟨S1024x384, (V m c main_v1 : FVec Ideal S1024x384 .f32)⟩, ⟨S1024x64, (V m c main_v2 : FVec Ideal S1024x64 .f32)⟩, ⟨S1024x32, (V m c main_v0 : FVec Ideal S1024x32 .f32)⟩, ⟨S1024x32, (V m c main_v6 : FVec Ideal S1024x32 .f32)⟩, ⟨S1024x256, (V m c main_v7 : FVec Ideal S1024x256 .f32)⟩, ⟨S1024x512, (V m c main_v10 : FVec Ideal S1024x512 .f32)⟩, ⟨S1024x1024, (V m c main_v11 : FVec Ideal S1024x1024 .f32)⟩] concatenates_S1024x384_S1024x64_S1024x32_S1024x32_S1024x256_S1024x512_S1024x1024_S1024x2304_d1 :=
  (at_step m c 14 _ rfl main_v12 (by decide)).trans ((StableHlo.nary_result ..).trans (congr7 (fun (v0 : FVec Ideal S1024x384 .f32) (v1 : FVec Ideal S1024x64 .f32) (v2 : FVec Ideal S1024x32 .f32) (v3 : FVec Ideal S1024x32 .f32) (v4 : FVec Ideal S1024x256 .f32) (v5 : FVec Ideal S1024x512 .f32) (v6 : FVec Ideal S1024x1024 .f32) => concatenate S1024x2304 1 [⟨S1024x384, v0⟩, ⟨S1024x64, v1⟩, ⟨S1024x32, v2⟩, ⟨S1024x32, v3⟩, ⟨S1024x256, v4⟩, ⟨S1024x512, v5⟩, ⟨S1024x1024, v6⟩] concatenates_S1024x384_S1024x64_S1024x32_S1024x32_S1024x256_S1024x512_S1024x1024_S1024x2304_d1) (before m c 14 main_v1 (by decide)) (before m c 14 main_v2 (by decide)) (before m c 14 main_v0 (by decide)) (before m c 14 main_v6 (by decide)) (before m c 14 main_v7 (by decide)) (before m c 14 main_v10 (by decide)) (before m c 14 main_v11 (by decide))))

theorem V_v13 : V m c main_v13 = ((truncf .bf16 (V m c main_v12 : FVec Ideal S1024x2304 .f32) bitsLt_bf16_f32) : FVec Ideal S1024x2304 .bf16) := by
  refine (at_step m c 15 _ rfl main_v13 (by decide)).trans ?_
  refine (StableHlo.unary_result ..).trans ?_
  rw [before m c 15 main_v12 (by decide)]

theorem V_v14 : V m c main_v14 = shapeCast S384x8x96 (V m c main_arg4 : FVec Ideal S384x768 .f32) shapeCasts_S384x768_S384x8x96 :=
  (at_step m c 16 _ rfl main_v14 (by decide)).trans ((StableHlo.reshape_result ..).trans (congrArg (fun v => shapeCast S384x8x96 (v : FVec Ideal S384x768 .f32) shapeCasts_S384x768_S384x8x96) (before m c 16 main_arg4 (by decide))))

theorem V_v15 : V m c main_v15 = ((extractStridedSlice S384x8x64 ![0, 0, 0] (V m c main_v14 : FVec Ideal S384x8x96 .f32) slices_S384x8x96_S384x8x64_0_0_0) : FVec Ideal S384x8x64 .f32) := by
  refine (at_step m c 17 _ rfl main_v15 (by decide)).trans ?_
  refine (StableHlo.unary_result ..).trans ?_
  rw [before m c 17 main_v14 (by decide)]

theorem V_v16 : V m c main_v16 = ((extractStridedSlice S384x8x32 ![0, 0, 64] (V m c main_v14 : FVec Ideal S384x8x96 .f32) slices_S384x8x96_S384x8x32_0_0_64) : FVec Ideal S384x8x32 .f32) := by
  refine (at_step m c 18 _ rfl main_v16 (by decide)).trans ?_
  refine (StableHlo.unary_result ..).trans ?_
  rw [before m c 18 main_v14 (by decide)]

theorem V_v17 : V m c main_v17 = ((extractStridedSlice S384x8x16 ![0, 0, 16] (V m c main_v16 : FVec Ideal S384x8x32 .f32) slices_S384x8x32_S384x8x16_0_0_16) : FVec Ideal S384x8x16 .f32) := by
  refine (at_step m c 19 _ rfl main_v17 (by decide)).trans ?_
  refine (StableHlo.unary_result ..).trans ?_
  rw [before m c 19 main_v16 (by decide)]

theorem V_v18 : V m c main_v18 = ((Host.negf (V m c main_v17 : FVec Ideal S384x8x16 .f32)) : FVec Ideal S384x8x16 .f32) := by
  refine (at_step m c 20 _ rfl main_v18 (by decide)).trans ?_
  refine (StableHlo.unary_result ..).trans ?_
  rw [before m c 20 main_v17 (by decide)]

theorem V_v19 : V m c main_v19 = ((extractStridedSlice S384x8x16 ![0, 0, 0] (V m c main_v16 : FVec Ideal S384x8x32 .f32) slices_S384x8x32_S384x8x16_0_0_0) : FVec Ideal S384x8x16 .f32) := by
  refine (at_step m c 21 _ rfl main_v19 (by decide)).trans ?_
  refine (StableHlo.unary_result ..).trans ?_
  rw [before m c 21 main_v16 (by decide)]

theorem V_v20 : V m c main_v20 = ((concatenate S384x8x32 2 [⟨S384x8x16, (V m c main_v18 : FVec Ideal S384x8x16 .f32)⟩, ⟨S384x8x16, (V m c main_v19 : FVec Ideal S384x8x16 .f32)⟩] concatenates_S384x8x16_S384x8x16_S384x8x32_d2) : FVec Ideal S384x8x32 .f32) :=
  (at_step m c 22 _ rfl main_v20 (by decide)).trans ((StableHlo.binary_result ..).trans (congrArg₂ (fun (v : FVec Ideal S384x8x16 .f32) (w : FVec Ideal S384x8x16 .f32) => (concatenate S384x8x32 2 [⟨S384x8x16, v⟩, ⟨S384x8x16, w⟩] concatenates_S384x8x16_S384x8x16_S384x8x32_d2)) (before m c 22 main_v18 (by decide)) (before m c 22 main_v19 (by decide))))

theorem V_v21 : V m c main_v21 = concatenate S384x8x128 2 [⟨S384x8x64, (V m c main_v15 : FVec Ideal S384x8x64 .f32)⟩, ⟨S384x8x32, (V m c main_v16 : FVec Ideal S384x8x32 .f32)⟩, ⟨S384x8x32, (V m c main_v20 : FVec Ideal S384x8x32 .f32)⟩] concatenates_S384x8x64_S384x8x32_S384x8x32_S384x8x128_d2 :=
  (at_step m c 23 _ rfl main_v21 (by decide)).trans ((StableHlo.nary_result ..).trans (congr3 (fun (v0 : FVec Ideal S384x8x64 .f32) (v1 : FVec Ideal S384x8x32 .f32) (v2 : FVec Ideal S384x8x32 .f32) => concatenate S384x8x128 2 [⟨S384x8x64, v0⟩, ⟨S384x8x32, v1⟩, ⟨S384x8x32, v2⟩] concatenates_S384x8x64_S384x8x32_S384x8x32_S384x8x128_d2) (before m c 23 main_v15 (by decide)) (before m c 23 main_v16 (by decide)) (before m c 23 main_v20 (by decide))))

theorem V_v22 : V m c main_v22 = shapeCast S384x1024 (V m c main_v21 : FVec Ideal S384x8x128 .f32) shapeCasts_S384x8x128_S384x1024 :=
  (at_step m c 24 _ rfl main_v22 (by decide)).trans ((StableHlo.reshape_result ..).trans (congrArg (fun v => shapeCast S384x1024 (v : FVec Ideal S384x8x128 .f32) shapeCasts_S384x8x128_S384x1024) (before m c 24 main_v21 (by decide))))

theorem V_v23 : V m c main_v23 = ((truncf .bf16 (V m c main_v22 : FVec Ideal S384x1024 .f32) bitsLt_bf16_f32) : FVec Ideal S384x1024 .bf16) := by
  refine (at_step m c 25 _ rfl main_v23 (by decide)).trans ?_
  refine (StableHlo.unary_result ..).trans ?_
  rw [before m c 25 main_v22 (by decide)]

theorem V_v24 : V m c main_v24 = shapeCast S256x8x128 (V m c main_arg6 : FVec Ideal S256x1024 .f32) shapeCasts_S256x1024_S256x8x128 :=
  (at_step m c 26 _ rfl main_v24 (by decide)).trans ((StableHlo.reshape_result ..).trans (congrArg (fun v => shapeCast S256x8x128 (v : FVec Ideal S256x1024 .f32) shapeCasts_S256x1024_S256x8x128) (before m c 26 main_arg6 (by decide))))

theorem V_v25 : V m c main_v25 = ((extractStridedSlice S256x8x64 ![0, 0, 0] (V m c main_v24 : FVec Ideal S256x8x128 .f32) slices_S256x8x128_S256x8x64_0_0_0) : FVec Ideal S256x8x64 .f32) := by
  refine (at_step m c 27 _ rfl main_v25 (by decide)).trans ?_
  refine (StableHlo.unary_result ..).trans ?_
  rw [before m c 27 main_v24 (by decide)]

theorem V_v26 : V m c main_v26 = ((extractStridedSlice S256x8x64 ![0, 0, 64] (V m c main_v24 : FVec Ideal S256x8x128 .f32) slices_S256x8x128_S256x8x64_0_0_64) : FVec Ideal S256x8x64 .f32) := by
  refine (at_step m c 28 _ rfl main_v26 (by decide)).trans ?_
  refine (StableHlo.unary_result ..).trans ?_
  rw [before m c 28 main_v24 (by decide)]

theorem V_cst_1 : V m c main_cst_1 = constant (F := Ideal) S_ .f32 0x00000000#32 :=
  (at_step m c 29 _ rfl main_cst_1 (by decide)).trans (StableHlo.nullary_result ..)

theorem V_v27 : V m c main_v27 = ((broadcastInDim S256x8x64 ![] bcast_S_S256x8x64 (V m c main_cst_1 : FVec Ideal S_ .f32)) : FVec Ideal S256x8x64 .f32) := by
  refine (at_step m c 30 _ rfl main_v27 (by decide)).trans ?_
  refine (StableHlo.unary_result ..).trans ?_
  rw [before m c 30 main_cst_1 (by decide)]

theorem V_v28 : V m c main_v28 = ((concatenate S256x8x128 2 [⟨S256x8x64, (V m c main_v25 : FVec Ideal S256x8x64 .f32)⟩, ⟨S256x8x64, (V m c main_v27 : FVec Ideal S256x8x64 .f32)⟩] concatenates_S256x8x64_S256x8x64_S256x8x128_d2) : FVec Ideal S256x8x128 .f32) :=
  (at_step m c 31 _ rfl main_v28 (by decide)).trans ((StableHlo.binary_result ..).trans (congrArg₂ (fun (v : FVec Ideal S256x8x64 .f32) (w : FVec Ideal S256x8x64 .f32) => (concatenate S256x8x128 2 [⟨S256x8x64, v⟩, ⟨S256x8x64, w⟩] concatenates_S256x8x64_S256x8x64_S256x8x128_d2)) (before m c 31 main_v25 (by decide)) (before m c 31 main_v27 (by decide))))

theorem V_v29 : V m c main_v29 = shapeCast S256x1024 (V m c main_v28 : FVec Ideal S256x8x128 .f32) shapeCasts_S256x8x128_S256x1024 :=
  (at_step m c 32 _ rfl main_v29 (by decide)).trans ((StableHlo.reshape_result ..).trans (congrArg (fun v => shapeCast S256x1024 (v : FVec Ideal S256x8x128 .f32) shapeCasts_S256x8x128_S256x1024) (before m c 32 main_v28 (by decide))))

theorem V_v30 : V m c main_v30 = ((truncf .bf16 (V m c main_v29 : FVec Ideal S256x1024 .f32) bitsLt_bf16_f32) : FVec Ideal S256x1024 .bf16) := by
  refine (at_step m c 33 _ rfl main_v30 (by decide)).trans ?_
  refine (StableHlo.unary_result ..).trans ?_
  rw [before m c 33 main_v29 (by decide)]

theorem V_v31 : V m c main_v31 = shapeCast S256x4x2x64 (V m c main_v26 : FVec Ideal S256x8x64 .f32) shapeCasts_S256x8x64_S256x4x2x64 :=
  (at_step m c 34 _ rfl main_v31 (by decide)).trans ((StableHlo.reshape_result ..).trans (congrArg (fun v => shapeCast S256x4x2x64 (v : FVec Ideal S256x8x64 .f32) shapeCasts_S256x8x64_S256x4x2x64) (before m c 34 main_v26 (by decide))))

theorem V_v32 : V m c main_v32 = ((extractStridedSlice S256x4x1x64 ![0, 0, 0, 0] (V m c main_v31 : FVec Ideal S256x4x2x64 .f32) slices_S256x4x2x64_S256x4x1x64_0_0_0_0) : FVec Ideal S256x4x1x64 .f32) := by
  refine (at_step m c 35 _ rfl main_v32 (by decide)).trans ?_
  refine (StableHlo.unary_result ..).trans ?_
  rw [before m c 35 main_v31 (by decide)]

theorem V_v33 : V m c main_v33 = shapeCast S256x4x64 (V m c main_v32 : FVec Ideal S256x4x1x64 .f32) shapeCasts_S256x4x1x64_S256x4x64 :=
  (at_step m c 36 _ rfl main_v33 (by decide)).trans ((StableHlo.reshape_result ..).trans (congrArg (fun v => shapeCast S256x4x64 (v : FVec Ideal S256x4x1x64 .f32) shapeCasts_S256x4x1x64_S256x4x64) (before m c 36 main_v32 (by decide))))

theorem V_cst_2 : V m c main_cst_2 = constant (F := Ideal) S_ .f32 0x00000000#32 :=
  (at_step m c 37 _ rfl main_cst_2 (by decide)).trans (StableHlo.nullary_result ..)

theorem V_v34 : V m c main_v34 = ((broadcastInDim S256x4x64 ![] bcast_S_S256x4x64 (V m c main_cst_2 : FVec Ideal S_ .f32)) : FVec Ideal S256x4x64 .f32) := by
  refine (at_step m c 38 _ rfl main_v34 (by decide)).trans ?_
  refine (StableHlo.unary_result ..).trans ?_
  rw [before m c 38 main_cst_2 (by decide)]

theorem V_v35 : V m c main_v35 = ((extractStridedSlice S256x4x1x64 ![0, 0, 0, 0] (V m c main_v31 : FVec Ideal S256x4x2x64 .f32) slices_S256x4x2x64_S256x4x1x64_0_0_0_0) : FVec Ideal S256x4x1x64 .f32) := by
  refine (at_step m c 39 _ rfl main_v35 (by decide)).trans ?_
  refine (StableHlo.unary_result ..).trans ?_
  rw [before m c 39 main_v31 (by decide)]

theorem V_v36 : V m c main_v36 = shapeCast S256x4x64 (V m c main_v35 : FVec Ideal S256x4x1x64 .f32) shapeCasts_S256x4x1x64_S256x4x64 :=
  (at_step m c 40 _ rfl main_v36 (by decide)).trans ((StableHlo.reshape_result ..).trans (congrArg (fun v => shapeCast S256x4x64 (v : FVec Ideal S256x4x1x64 .f32) shapeCasts_S256x4x1x64_S256x4x64) (before m c 40 main_v35 (by decide))))

theorem V_v37 : V m c main_v37 = ((concatenate S256x4x128 2 [⟨S256x4x64, (V m c main_v36 : FVec Ideal S256x4x64 .f32)⟩, ⟨S256x4x64, (V m c main_v34 : FVec Ideal S256x4x64 .f32)⟩] concatenates_S256x4x64_S256x4x64_S256x4x128_d2) : FVec Ideal S256x4x128 .f32) :=
  (at_step m c 41 _ rfl main_v37 (by decide)).trans ((StableHlo.binary_result ..).trans (congrArg₂ (fun (v : FVec Ideal S256x4x64 .f32) (w : FVec Ideal S256x4x64 .f32) => (concatenate S256x4x128 2 [⟨S256x4x64, v⟩, ⟨S256x4x64, w⟩] concatenates_S256x4x64_S256x4x64_S256x4x128_d2)) (before m c 41 main_v36 (by decide)) (before m c 41 main_v34 (by decide))))

theorem V_v38 : V m c main_v38 = ((extractStridedSlice S256x4x1x64 ![0, 0, 1, 0] (V m c main_v31 : FVec Ideal S256x4x2x64 .f32) slices_S256x4x2x64_S256x4x1x64_0_0_1_0) : FVec Ideal S256x4x1x64 .f32) := by
  refine (at_step m c 42 _ rfl main_v38 (by decide)).trans ?_
  refine (StableHlo.unary_result ..).trans ?_
  rw [before m c 42 main_v31 (by decide)]

theorem V_v39 : V m c main_v39 = shapeCast S256x4x64 (V m c main_v38 : FVec Ideal S256x4x1x64 .f32) shapeCasts_S256x4x1x64_S256x4x64 :=
  (at_step m c 43 _ rfl main_v39 (by decide)).trans ((StableHlo.reshape_result ..).trans (congrArg (fun v => shapeCast S256x4x64 (v : FVec Ideal S256x4x1x64 .f32) shapeCasts_S256x4x1x64_S256x4x64) (before m c 43 main_v38 (by decide))))

theorem V_v40 : V m c main_v40 = ((concatenate S256x4x128 2 [⟨S256x4x64, (V m c main_v34 : FVec Ideal S256x4x64 .f32)⟩, ⟨S256x4x64, (V m c main_v39 : FVec Ideal S256x4x64 .f32)⟩] concatenates_S256x4x64_S256x4x64_S256x4x128_d2) : FVec Ideal S256x4x128 .f32) :=
  (at_step m c 44 _ rfl main_v40 (by decide)).trans ((StableHlo.binary_result ..).trans (congrArg₂ (fun (v : FVec Ideal S256x4x64 .f32) (w : FVec Ideal S256x4x64 .f32) => (concatenate S256x4x128 2 [⟨S256x4x64, v⟩, ⟨S256x4x64, w⟩] concatenates_S256x4x64_S256x4x64_S256x4x128_d2)) (before m c 44 main_v34 (by decide)) (before m c 44 main_v39 (by decide))))

theorem V_v41 : V m c main_v41 = ((broadcastInDim S256x4x1x128 ![0, 1, 3] bcast_S256x4x128_S256x4x1x128_0_1_3 (V m c main_v37 : FVec Ideal S256x4x128 .f32)) : FVec Ideal S256x4x1x128 .f32) := by
  refine (at_step m c 45 _ rfl main_v41 (by decide)).trans ?_
  refine (StableHlo.unary_result ..).trans ?_
  rw [before m c 45 main_v37 (by decide)]

theorem V_v42 : V m c main_v42 = ((broadcastInDim S256x4x1x128 ![0, 1, 3] bcast_S256x4x128_S256x4x1x128_0_1_3 (V m c main_v40 : FVec Ideal S256x4x128 .f32)) : FVec Ideal S256x4x1x128 .f32) := by
  refine (at_step m c 46 _ rfl main_v42 (by decide)).trans ?_
  refine (StableHlo.unary_result ..).trans ?_
  rw [before m c 46 main_v40 (by decide)]

theorem V_v43 : V m c main_v43 = ((concatenate S256x4x2x128 2 [⟨S256x4x1x128, (V m c main_v41 : FVec Ideal S256x4x1x128 .f32)⟩, ⟨S256x4x1x128, (V m c main_v42 : FVec Ideal S256x4x1x128 .f32)⟩] concatenates_S256x4x1x128_S256x4x1x128_S256x4x2x128_d2) : FVec Ideal S256x4x2x128 .f32) :=
  (at_step m c 47 _ rfl main_v43 (by decide)).trans ((StableHlo.binary_result ..).trans (congrArg₂ (fun (v : FVec Ideal S256x4x1x128 .f32) (w : FVec Ideal S256x4x1x128 .f32) => (concatenate S256x4x2x128 2 [⟨S256x4x1x128, v⟩, ⟨S256x4x1x128, w⟩] concatenates_S256x4x1x128_S256x4x1x128_S256x4x2x128_d2)) (before m c 47 main_v41 (by decide)) (before m c 47 main_v42 (by decide))))

theorem V_v44 : V m c main_v44 = shapeCast S256x1024 (V m c main_v43 : FVec Ideal S256x4x2x128 .f32) shapeCasts_S256x4x2x128_S256x1024 :=
  (at_step m c 48 _ rfl main_v44 (by decide)).trans ((StableHlo.reshape_result ..).trans (congrArg (fun v => shapeCast S256x1024 (v : FVec Ideal S256x4x2x128 .f32) shapeCasts_S256x4x2x128_S256x1024) (before m c 48 main_v43 (by decide))))

theorem V_v45 : V m c main_v45 = ((truncf .bf16 (V m c main_v44 : FVec Ideal S256x1024 .f32) bitsLt_bf16_f32) : FVec Ideal S256x1024 .bf16) := by
  refine (at_step m c 49 _ rfl main_v45 (by decide)).trans ?_
  refine (StableHlo.unary_result ..).trans ?_
  rw [before m c 49 main_v44 (by decide)]

theorem V_cst_3 : V m c main_cst_3 = constant (F := Ideal) S_ .f32 0x3F800000#32 :=
  (at_step m c 50 _ rfl main_cst_3 (by decide)).trans (StableHlo.nullary_result ..)

theorem V_v46 : V m c main_v46 = ((broadcastInDim S2048x64 ![] bcast_S_S2048x64 (V m c main_cst_3 : FVec Ideal S_ .f32)) : FVec Ideal S2048x64 .f32) := by
  refine (at_step m c 51 _ rfl main_v46 (by decide)).trans ?_
  refine (StableHlo.unary_result ..).trans ?_
  rw [before m c 51 main_cst_3 (by decide)]

theorem V_cst_4 : V m c main_cst_4 = constant (F := Ideal) S_ .f32 0x00000000#32 :=
  (at_step m c 52 _ rfl main_cst_4 (by decide)).trans (StableHlo.nullary_result ..)

theorem V_v47 : V m c main_v47 = ((broadcastInDim S2048x64 ![] bcast_S_S2048x64 (V m c main_cst_4 : FVec Ideal S_ .f32)) : FVec Ideal S2048x64 .f32) := by
  refine (at_step m c 53 _ rfl main_v47 (by decide)).trans ?_
  refine (StableHlo.unary_result ..).trans ?_
  rw [before m c 53 main_cst_4 (by decide)]

theorem V_cst_5 : V m c main_cst_5 = constant (F := Ideal) S_ .f32 0x00000000#32 :=
  (at_step m c 54 _ rfl main_cst_5 (by decide)).trans (StableHlo.nullary_result ..)

theorem V_v48 : V m c main_v48 = ((broadcastInDim S2048x32 ![] bcast_S_S2048x32 (V m c main_cst_5 : FVec Ideal S_ .f32)) : FVec Ideal S2048x32 .f32) := by
  refine (at_step m c 55 _ rfl main_v48 (by decide)).trans ?_
  refine (StableHlo.unary_result ..).trans ?_
  rw [before m c 55 main_cst_5 (by decide)]

theorem V_cst_6 : V m c main_cst_6 = constant (F := Ideal) S_ .f32 0x42C00000#32 :=
  (at_step m c 56 _ rfl main_cst_6 (by decide)).trans (StableHlo.nullary_result ..)

theorem V_v49 : V m c main_v49 = ((Host.sqrt (V m c main_cst_6 : FVec Ideal S_ .f32)) : FVec Ideal S_ .f32) := by
  refine (at_step m c 57 _ rfl main_v49 (by decide)).trans ?_
  refine (StableHlo.unary_result ..).trans ?_
  rw [before m c 57 main_cst_6 (by decide)]

theorem V_cst_7 : V m c main_cst_7 = constant (F := Ideal) S_ .f32 0x40000000#32 :=
  (at_step m c 58 _ rfl main_cst_7 (by decide)).trans (StableHlo.nullary_result ..)

theorem V_v50 : V m c main_v50 = ((Host.log (V m c main_cst_7 : FVec Ideal S_ .f32)) : FVec Ideal S_ .f32) := by
  refine (at_step m c 59 _ rfl main_v50 (by decide)).trans ?_
  refine (StableHlo.unary_result ..).trans ?_
  rw [before m c 59 main_cst_7 (by decide)]

theorem V_v51 : V m c main_v51 = ((mulf (V m c main_v49 : FVec Ideal S_ .f32) (V m c main_v50 : FVec Ideal S_ .f32)) : FVec Ideal S_ .f32) :=
  (at_step m c 60 _ rfl main_v51 (by decide)).trans ((StableHlo.binary_result ..).trans (congrArg₂ (fun (v : FVec Ideal S_ .f32) (w : FVec Ideal S_ .f32) => (mulf v w)) (before m c 60 main_v49 (by decide)) (before m c 60 main_v50 (by decide))))

theorem V_cst_8 : V m c main_cst_8 = constant (F := Ideal) S_ .f32 0x3F800000#32 :=
  (at_step m c 61 _ rfl main_cst_8 (by decide)).trans (StableHlo.nullary_result ..)

theorem V_v52 : V m c main_v52 = ((Host.divf (V m c main_cst_8 : FVec Ideal S_ .f32) (V m c main_v51 : FVec Ideal S_ .f32)) : FVec Ideal S_ .f32) :=
  (at_step m c 62 _ rfl main_v52 (by decide)).trans ((StableHlo.binary_result ..).trans (congrArg₂ (fun (v : FVec Ideal S_ .f32) (w : FVec Ideal S_ .f32) => (Host.divf v w)) (before m c 62 main_cst_8 (by decide)) (before m c 62 main_v51 (by decide))))

theorem V_v53 : V m c main_v53 = concatenate S2048x128 1 [⟨S2048x64, (V m c main_v46 : FVec Ideal S2048x64 .f32)⟩, ⟨S2048x16, (V m c main_arg7 : FVec Ideal S2048x16 .f32)⟩, ⟨S2048x16, (V m c main_arg7 : FVec Ideal S2048x16 .f32)⟩, ⟨S2048x32, (V m c main_v48 : FVec Ideal S2048x32 .f32)⟩] concatenates_S2048x64_S2048x16_S2048x16_S2048x32_S2048x128_d1 :=
  (at_step m c 63 _ rfl main_v53 (by decide)).trans ((StableHlo.nary_result ..).trans (congr4 (fun (v0 : FVec Ideal S2048x64 .f32) (v1 : FVec Ideal S2048x16 .f32) (v2 : FVec Ideal S2048x16 .f32) (v3 : FVec Ideal S2048x32 .f32) => concatenate S2048x128 1 [⟨S2048x64, v0⟩, ⟨S2048x16, v1⟩, ⟨S2048x16, v2⟩, ⟨S2048x32, v3⟩] concatenates_S2048x64_S2048x16_S2048x16_S2048x32_S2048x128_d1) (before m c 63 main_v46 (by decide)) (before m c 63 main_arg7 (by decide)) (before m c 63 main_arg7 (by decide)) (before m c 63 main_v48 (by decide))))

theorem V_v54 : V m c main_v54 = ((broadcastInDim S2048x128 ![] bcast_S_S2048x128 (V m c main_v52 : FVec Ideal S_ .f32)) : FVec Ideal S2048x128 .f32) := by
  refine (at_step m c 64 _ rfl main_v54 (by decide)).trans ?_
  refine (StableHlo.unary_result ..).trans ?_
  rw [before m c 64 main_v52 (by decide)]

theorem V_v55 : V m c main_v55 = ((mulf (V m c main_v53 : FVec Ideal S2048x128 .f32) (V m c main_v54 : FVec Ideal S2048x128 .f32)) : FVec Ideal S2048x128 .f32) :=
  (at_step m c 65 _ rfl main_v55 (by decide)).trans ((StableHlo.binary_result ..).trans (congrArg₂ (fun (v : FVec Ideal S2048x128 .f32) (w : FVec Ideal S2048x128 .f32) => (mulf v w)) (before m c 65 main_v53 (by decide)) (before m c 65 main_v54 (by decide))))

theorem V_v56 : V m c main_v56 = concatenate S2048x128 1 [⟨S2048x64, (V m c main_v47 : FVec Ideal S2048x64 .f32)⟩, ⟨S2048x16, (V m c main_arg8 : FVec Ideal S2048x16 .f32)⟩, ⟨S2048x16, (V m c main_arg8 : FVec Ideal S2048x16 .f32)⟩, ⟨S2048x32, (V m c main_v48 : FVec Ideal S2048x32 .f32)⟩] concatenates_S2048x64_S2048x16_S2048x16_S2048x32_S2048x128_d1 :=
  (at_step m c 66 _ rfl main_v56 (by decide)).trans ((StableHlo.nary_result ..).trans (congr4 (fun (v0 : FVec Ideal S2048x64 .f32) (v1 : FVec Ideal S2048x16 .f32) (v2 : FVec Ideal S2048x16 .f32) (v3 : FVec Ideal S2048x32 .f32) => concatenate S2048x128 1 [⟨S2048x64, v0⟩, ⟨S2048x16, v1⟩, ⟨S2048x16, v2⟩, ⟨S2048x32, v3⟩] concatenates_S2048x64_S2048x16_S2048x16_S2048x32_S2048x128_d1) (before m c 66 main_v47 (by decide)) (before m c 66 main_arg8 (by decide)) (before m c 66 main_arg8 (by decide)) (before m c 66 main_v48 (by decide))))

theorem V_v57 : V m c main_v57 = ((broadcastInDim S2048x128 ![] bcast_S_S2048x128 (V m c main_v52 : FVec Ideal S_ .f32)) : FVec Ideal S2048x128 .f32) := by
  refine (at_step m c 67 _ rfl main_v57 (by decide)).trans ?_
  refine (StableHlo.unary_result ..).trans ?_
  rw [before m c 67 main_v52 (by decide)]

theorem V_v58 : V m c main_v58 = ((mulf (V m c main_v56 : FVec Ideal S2048x128 .f32) (V m c main_v57 : FVec Ideal S2048x128 .f32)) : FVec Ideal S2048x128 .f32) :=
  (at_step m c 68 _ rfl main_v58 (by decide)).trans ((StableHlo.binary_result ..).trans (congrArg₂ (fun (v : FVec Ideal S2048x128 .f32) (w : FVec Ideal S2048x128 .f32) => (mulf v w)) (before m c 68 main_v56 (by decide)) (before m c 68 main_v57 (by decide))))

theorem V_v59 : V m c main_v59 = concatenate S2048x128 1 [⟨S2048x64, (V m c main_v47 : FVec Ideal S2048x64 .f32)⟩, ⟨S2048x16, (V m c main_arg7 : FVec Ideal S2048x16 .f32)⟩, ⟨S2048x16, (V m c main_arg7 : FVec Ideal S2048x16 .f32)⟩, ⟨S2048x32, (V m c main_v48 : FVec Ideal S2048x32 .f32)⟩] concatenates_S2048x64_S2048x16_S2048x16_S2048x32_S2048x128_d1 :=
  (at_step m c 69 _ rfl main_v59 (by decide)).trans ((StableHlo.nary_result ..).trans (congr4 (fun (v0 : FVec Ideal S2048x64 .f32) (v1 : FVec Ideal S2048x16 .f32) (v2 : FVec Ideal S2048x16 .f32) (v3 : FVec Ideal S2048x32 .f32) => concatenate S2048x128 1 [⟨S2048x64, v0⟩, ⟨S2048x16, v1⟩, ⟨S2048x16, v2⟩, ⟨S2048x32, v3⟩] concatenates_S2048x64_S2048x16_S2048x16_S2048x32_S2048x128_d1) (before m c 69 main_v47 (by decide)) (before m c 69 main_arg7 (by decide)) (before m c 69 main_arg7 (by decide)) (before m c 69 main_v48 (by decide))))

theorem V_v60 : V m c main_v60 = concatenate S2048x128 1 [⟨S2048x64, (V m c main_v47 : FVec Ideal S2048x64 .f32)⟩, ⟨S2048x16, (V m c main_arg8 : FVec Ideal S2048x16 .f32)⟩, ⟨S2048x16, (V m c main_arg8 : FVec Ideal S2048x16 .f32)⟩, ⟨S2048x32, (V m c main_v48 : FVec Ideal S2048x32 .f32)⟩] concatenates_S2048x64_S2048x16_S2048x16_S2048x32_S2048x128_d1 :=
  (at_step m c 70 _ rfl main_v60 (by decide)).trans ((StableHlo.nary_result ..).trans (congr4 (fun (v0 : FVec Ideal S2048x64 .f32) (v1 : FVec Ideal S2048x16 .f32) (v2 : FVec Ideal S2048x16 .f32) (v3 : FVec Ideal S2048x32 .f32) => concatenate S2048x128 1 [⟨S2048x64, v0⟩, ⟨S2048x16, v1⟩, ⟨S2048x16, v2⟩, ⟨S2048x32, v3⟩] concatenates_S2048x64_S2048x16_S2048x16_S2048x32_S2048x128_d1) (before m c 70 main_v47 (by decide)) (before m c 70 main_arg8 (by decide)) (before m c 70 main_arg8 (by decide)) (before m c 70 main_v48 (by decide))))

theorem V_v61 : V m c main_v61 = shapeCast S1x1024 (V m c main_arg1 : FVec Ideal S1024 .f32) shapeCasts_S1024_S1x1024 :=
  (at_step m c 71 _ rfl main_v61 (by decide)).trans ((StableHlo.reshape_result ..).trans (congrArg (fun v => shapeCast S1x1024 (v : FVec Ideal S1024 .f32) shapeCasts_S1024_S1x1024) (before m c 71 main_arg1 (by decide))))

theorem V_v62 : V m c main_v62 = shapeCast S1x384 (V m c main_arg3 : FVec Ideal S384 .f32) shapeCasts_S384_S1x384 :=
  (at_step m c 72 _ rfl main_v62 (by decide)).trans ((StableHlo.reshape_result ..).trans (congrArg (fun v => shapeCast S1x384 (v : FVec Ideal S384 .f32) shapeCasts_S384_S1x384) (before m c 72 main_arg3 (by decide))))

theorem V_v63 : V m c main_v63 = shapeCast S1x256 (V m c main_arg5 : FVec Ideal S256 .f32) shapeCasts_S256_S1x256 :=
  (at_step m c 73 _ rfl main_v63 (by decide)).trans ((StableHlo.reshape_result ..).trans (congrArg (fun v => shapeCast S1x256 (v : FVec Ideal S256 .f32) shapeCasts_S256_S1x256) (before m c 73 main_arg5 (by decide))))

end Cert.Kernel8Ideal.EvenIn
end
-- ==== Proof.EvenPack.lean ====
/- The packed operands of the even layers' entry, read lane by lane. -/
module

public import proofs.«01_k».proof.Proof.EvenLane
public import proofs.«01_k».proof.Proof.Gen.Kernel8Ideal.Value
public import Idealize.ShloMosaic.Lib.Pointwise

@[expose] public section
set_option maxRecDepth 16384
noncomputable section
open Idealize.ShloMosaic Idealize.ShloMosaic.TcCoe Idealize.SL.Sem
namespace Cert.Kernel8Ideal.EvenIn
open Cert.Kernel8Ideal Cert.Kernel8Ideal.Gen Cert.EvenReal

set_option maxHeartbeats 4000000 in
theorem pure_v13 (X2 : FVec Ideal S1024x2208 .f32) (a : Fin 1024) (l : Fin 2304) : (truncf .bf16 (concatenate S1024x2304 1 [⟨S1024x384, (extractStridedSlice S1024x384 ![0, 0] X2 slices_S1024x2208_S1024x384_0_0)⟩, ⟨S1024x64, (broadcastInDim S1024x64 ![] bcast_S_S1024x64 (constant (F := Ideal) S_ .f32 0x00000000#32))⟩, ⟨S1024x32, (extractStridedSlice S1024x32 ![0, 640] X2 slices_S1024x2208_S1024x32_0_640)⟩, ⟨S1024x32, (concatenate S1024x32 1 [⟨S1024x16, (Host.negf (extractStridedSlice S1024x16 ![0, 16] (extractStridedSlice S1024x32 ![0, 640] X2 slices_S1024x2208_S1024x32_0_640) slices_S1024x32_S1024x16_0_16))⟩, ⟨S1024x16, (extractStridedSlice S1024x16 ![0, 0] (extractStridedSlice S1024x32 ![0, 640] X2 slices_S1024x2208_S1024x32_0_640) slices_S1024x32_S1024x16_0_0)⟩] concatenates_S1024x16_S1024x16_S1024x32_d1)⟩, ⟨S1024x256, (extractStridedSlice S1024x256 ![0, 384] X2 slices_S1024x2208_S1024x256_0_384)⟩, ⟨S1024x512, (mulf (extractStridedSlice S1024x512 ![0, 672] X2 slices_S1024x2208_S1024x512_0_672) (broadcastInDim S1024x512 ![] bcast_S_S1024x512 (constant (F := Ideal) S_ .f32 0x3E000000#32)))⟩, ⟨S1024x1024, (extractStridedSlice S1024x1024 ![0, 1184] X2 slices_S1024x2208_S1024x1024_0_1184)⟩] concatenates_S1024x384_S1024x64_S1024x32_S1024x32_S1024x256_S1024x512_S1024x1024_S1024x2304_d1) bitsLt_bf16_f32 : FVec Ideal S1024x2304 .bf16) (ix2 a l) = wIn (col X2 a) l := by
  pointwise
  have hl := l.2
  simp only [to_col X2, wIn, Fin.val_mk]
  skip
  by_cases a1 : (l : ℕ) < 384
  · simp only [a1, ↓reduceDIte, ↓reduceIte]
  by_cases a2 : (l : ℕ) < 448
  · simp only [a1, a2, show (l : ℕ) - 384 < 64 by omega, ↓reduceDIte, ↓reduceIte]
  by_cases a3 : (l : ℕ) < 480
  · simp only [a1, a2, a3, show ¬ (l : ℕ) - 384 < 64 by omega, show (l : ℕ) - 384 - 64 < 32 by omega, ↓reduceDIte, ↓reduceIte,
      show (l : ℕ) - 384 - 64 = l - 448 by omega, show (l : ℕ) - 448 < 32 by omega]
  by_cases a4 : (l : ℕ) < 496
  · simp only [a1, a2, a3, a4, show ¬ (l : ℕ) - 384 < 64 by omega, show ¬ (l : ℕ) - 384 - 64 < 32 by omega, show (l : ℕ) - 384 - 64 - 32 < 32 by omega,
      show (l : ℕ) - 384 - 64 - 32 < 16 by omega, ↓reduceDIte, ↓reduceIte, show 640 + (16 + ((l : ℕ) - 384 - 64 - 32)) = 656 + (l - 480) by omega]
  by_cases a5 : (l : ℕ) < 512
  · simp only [a1, a2, a3, a4, a5, show ¬ (l : ℕ) - 384 < 64 by omega, show ¬ (l : ℕ) - 384 - 64 < 32 by omega, show (l : ℕ) - 384 - 64 - 32 < 32 by omega,
      show ¬ (l : ℕ) - 384 - 64 - 32 < 16 by omega, ↓reduceDIte, ↓reduceIte, show 640 + ((l : ℕ) - 384 - 64 - 32 - 16) = 640 + (l - 496) by omega]
  simp only [a1, a2, a3, a4, a5, show ¬ (l : ℕ) - 384 < 64 by omega, show ¬ (l : ℕ) - 384 - 64 < 32 by omega, show ¬ (l : ℕ) - 384 - 64 - 32 < 32 by omega,
    ↓reduceDIte, ↓reduceIte]
  split_ifs <;> first | rfl | (exfalso; omega) | (congr 1; omega) | (congr 2; omega) | (congr 1; congr 1; congr 1; omega)

theorem pure_v23 (X4 : FVec Ideal S384x768 .f32) (a : Fin 384) (l : Fin 1024) : (truncf .bf16 (shapeCast S384x1024 (concatenate S384x8x128 2 [⟨S384x8x64, (extractStridedSlice S384x8x64 ![0, 0, 0] (shapeCast S384x8x96 X4 shapeCasts_S384x768_S384x8x96) slices_S384x8x96_S384x8x64_0_0_0)⟩, ⟨S384x8x32, (extractStridedSlice S384x8x32 ![0, 0, 64] (shapeCast S384x8x96 X4 shapeCasts_S384x768_S384x8x96) slices_S384x8x96_S384x8x32_0_0_64)⟩, ⟨S384x8x32, (concatenate S384x8x32 2 [⟨S384x8x16, (Host.negf (extractStridedSlice S384x8x16 ![0, 0, 16] (extractStridedSlice S384x8x32 ![0, 0, 64] (shapeCast S384x8x96 X4 shapeCasts_S384x768_S384x8x96) slices_S384x8x96_S384x8x32_0_0_64) slices_S384x8x32_S384x8x16_0_0_16))⟩, ⟨S384x8x16, (extractStridedSlice S384x8x16 ![0, 0, 0] (extractStridedSlice S384x8x32 ![0, 0, 64] (shapeCast S384x8x96 X4 shapeCasts_S384x768_S384x8x96) slices_S384x8x96_S384x8x32_0_0_64) slices_S384x8x32_S384x8x16_0_0_0)⟩] concatenates_S384x8x16_S384x8x16_S384x8x32_d2)⟩] concatenates_S384x8x64_S384x8x32_S384x8x32_S384x8x128_d2) shapeCasts_S384x8x128_S384x1024) bitsLt_bf16_f32 : FVec Ideal S384x1024 .bf16) (ix2 a l) = wQ (col X4 a) l := by
  pointwise
  have hl := l.2
  simp only [to_col X4, wQ, Fin.val_mk]
  skip
  skip
  split_ifs <;> first | rfl | (exfalso; omega) | (congr 1; omega) | (congr 2; omega) | (congr 1; congr 1; congr 1; omega)

theorem pure_v30 (X6 : FVec Ideal S256x1024 .f32) (a : Fin 256) (l : Fin 1024) : (truncf .bf16 (shapeCast S256x1024 (concatenate S256x8x128 2 [⟨S256x8x64, (extractStridedSlice S256x8x64 ![0, 0, 0] (shapeCast S256x8x128 X6 shapeCasts_S256x1024_S256x8x128) slices_S256x8x128_S256x8x64_0_0_0)⟩, ⟨S256x8x64, (broadcastInDim S256x8x64 ![] bcast_S_S256x8x64 (constant (F := Ideal) S_ .f32 0x00000000#32))⟩] concatenates_S256x8x64_S256x8x64_S256x8x128_d2) shapeCasts_S256x8x128_S256x1024) bitsLt_bf16_f32 : FVec Ideal S256x1024 .bf16) (ix2 a l) = wK (col X6 a) l := by
  pointwise
  have hl := l.2
  simp only [to_col X6, wK, Fin.val_mk]
  skip
  skip
  split_ifs <;> first | rfl | (exfalso; omega) | (congr 1; omega) | (congr 2; omega) | (congr 1; congr 1; congr 1; omega)

theorem pure_v45 (X6 : FVec Ideal S256x1024 .f32) (a : Fin 256) (l : Fin 1024) : (truncf .bf16 (shapeCast S256x1024 (concatenate S256x4x2x128 2 [⟨S256x4x1x128, (broadcastInDim S256x4x1x128 ![0, 1, 3] bcast_S256x4x128_S256x4x1x128_0_1_3 (concatenate S256x4x128 2 [⟨S256x4x64, (shapeCast S256x4x64 (extractStridedSlice S256x4x1x64 ![0, 0, 0, 0] (shapeCast S256x4x2x64 (extractStridedSlice S256x8x64 ![0, 0, 64] (shapeCast S256x8x128 X6 shapeCasts_S256x1024_S256x8x128) slices_S256x8x128_S256x8x64_0_0_64) shapeCasts_S256x8x64_S256x4x2x64) slices_S256x4x2x64_S256x4x1x64_0_0_0_0) shapeCasts_S256x4x1x64_S256x4x64)⟩, ⟨S256x4x64, (broadcastInDim S256x4x64 ![] bcast_S_S256x4x64 (constant (F := Ideal) S_ .f32 0x00000000#32))⟩] concatenates_S256x4x64_S256x4x64_S256x4x128_d2))⟩, ⟨S256x4x1x128, (broadcastInDim S256x4x1x128 ![0, 1, 3] bcast_S256x4x128_S256x4x1x128_0_1_3 (concatenate S256x4x128 2 [⟨S256x4x64, (broadcastInDim S256x4x64 ![] bcast_S_S256x4x64 (constant (F := Ideal) S_ .f32 0x00000000#32))⟩, ⟨S256x4x64, (shapeCast S256x4x64 (extractStridedSlice S256x4x1x64 ![0, 0, 1, 0] (shapeCast S256x4x2x64 (extractStridedSlice S256x8x64 ![0, 0, 64] (shapeCast S256x8x128 X6 shapeCasts_S256x1024_S256x8x128) slices_S256x8x128_S256x8x64_0_0_64) shapeCasts_S256x8x64_S256x4x2x64) slices_S256x4x2x64_S256x4x1x64_0_0_1_0) shapeCasts_S256x4x1x64_S256x4x64)⟩] concatenates_S256x4x64_S256x4x64_S256x4x128_d2))⟩] concatenates_S256x4x1x128_S256x4x1x128_S256x4x2x128_d2) shapeCasts_S256x4x2x128_S256x1024) bitsLt_bf16_f32 : FVec Ideal S256x1024 .bf16) (ix2 a l) = wV (col X6 a) l := by
  pointwise
  have hl := l.2
  simp only [to_col X6, wV, Fin.val_mk]
  skip
  skip
  split_ifs <;> first | rfl | (exfalso; omega) | (congr 1; omega) | (congr 2; omega) | (congr 1; congr 1; congr 1; omega)

theorem pure_v55 (X7 : FVec Ideal S2048x16 .f32) (a : Fin 2048) (l : Fin 128) : (mulf (concatenate S2048x128 1 [⟨S2048x64, (broadcastInDim S2048x64 ![] bcast_S_S2048x64 (constant (F := Ideal) S_ .f32 0x3F800000#32))⟩, ⟨S2048x16, X7⟩, ⟨S2048x16, X7⟩, ⟨S2048x32, (broadcastInDim S2048x32 ![] bcast_S_S2048x32 (constant (F := Ideal) S_ .f32 0x00000000#32))⟩] concatenates_S2048x64_S2048x16_S2048x16_S2048x32_S2048x128_d1) (broadcastInDim S2048x128 ![] bcast_S_S2048x128 (Host.divf (constant (F := Ideal) S_ .f32 0x3F800000#32) (mulf (Host.sqrt (constant (F := Ideal) S_ .f32 0x42C00000#32)) (Host.log (constant (F := Ideal) S_ .f32 0x40000000#32))))) : FVec Ideal S2048x128 .f32) (ix2 a l) = tab 1 (col X7 a) l * factor := by
  pointwise
  have hl := l.2
  simp only [to_col X7, tab, factor, Fin.val_mk]
  congr 1
  skip
  split_ifs <;> first | rfl | (exfalso; omega) | (congr 1; omega) | (congr 2; omega) | (congr 1; congr 1; congr 1; omega)

theorem pure_v58 (X8 : FVec Ideal S2048x16 .f32) (a : Fin 2048) (l : Fin 128) : (mulf (concatenate S2048x128 1 [⟨S2048x64, (broadcastInDim S2048x64 ![] bcast_S_S2048x64 (constant (F := Ideal) S_ .f32 0x00000000#32))⟩, ⟨S2048x16, X8⟩, ⟨S2048x16, X8⟩, ⟨S2048x32, (broadcastInDim S2048x32 ![] bcast_S_S2048x32 (constant (F := Ideal) S_ .f32 0x00000000#32))⟩] concatenates_S2048x64_S2048x16_S2048x16_S2048x32_S2048x128_d1) (broadcastInDim S2048x128 ![] bcast_S_S2048x128 (Host.divf (constant (F := Ideal) S_ .f32 0x3F800000#32) (mulf (Host.sqrt (constant (F := Ideal) S_ .f32 0x42C00000#32)) (Host.log (constant (F := Ideal) S_ .f32 0x40000000#32))))) : FVec Ideal S2048x128 .f32) (ix2 a l) = tab 0 (col X8 a) l * factor := by
  pointwise
  have hl := l.2
  simp only [to_col X8, tab, factor, Fin.val_mk]
  congr 1
  skip
  split_ifs <;> first | rfl | (exfalso; omega) | (congr 1; omega) | (congr 2; omega) | (congr 1; congr 1; congr 1; omega)

theorem pure_v59 (X7 : FVec Ideal S2048x16 .f32) (a : Fin 2048) (l : Fin 128) : (concatenate S2048x128 1 [⟨S2048x64, (broadcastInDim S2048x64 ![] bcast_S_S2048x64 (constant (F := Ideal) S_ .f32 0x00000000#32))⟩, ⟨S2048x16, X7⟩, ⟨S2048x16, X7⟩, ⟨S2048x32, (broadcastInDim S2048x32 ![] bcast_S_S2048x32 (constant (F := Ideal) S_ .f32 0x00000000#32))⟩] concatenates_S2048x64_S2048x16_S2048x16_S2048x32_S2048x128_d1 : FVec Ideal S2048x128 .f32) (ix2 a l) = tab 0 (col X7 a) l := by
  pointwise
  have hl := l.2
  simp only [to_col X7, tab, Fin.val_mk]
  skip
  skip
  split_ifs <;> first | rfl | (exfalso; omega) | (congr 1; omega) | (congr 2; omega) | (congr 1; congr 1; congr 1; omega)

theorem pure_v60 (X8 : FVec Ideal S2048x16 .f32) (a : Fin 2048) (l : Fin 128) : (concatenate S2048x128 1 [⟨S2048x64, (broadcastInDim S2048x64 ![] bcast_S_S2048x64 (constant (F := Ideal) S_ .f32 0x00000000#32))⟩, ⟨S2048x16, X8⟩, ⟨S2048x16, X8⟩, ⟨S2048x32, (broadcastInDim S2048x32 ![] bcast_S_S2048x32 (constant (F := Ideal) S_ .f32 0x00000000#32))⟩] concatenates_S2048x64_S2048x16_S2048x16_S2048x32_S2048x128_d1 : FVec Ideal S2048x128 .f32) (ix2 a l) = tab 0 (col X8 a) l := by
  pointwise
  have hl := l.2
  simp only [to_col X8, tab, Fin.val_mk]
  skip
  skip
  split_ifs <;> first | rfl | (exfalso; omega) | (congr 1; omega) | (congr 2; omega) | (congr 1; congr 1; congr 1; omega)

theorem pure_v61 (X1 : FVec Ideal S1024 .f32) (l : Fin 1024) : (shapeCast S1x1024 X1 shapeCasts_S1024_S1x1024 : FVec Ideal S1x1024 .f32) (ix2 0 l) = X1 (ix1 l) := by
  pointwise

theorem pure_v62 (X3 : FVec Ideal S384 .f32) (l : Fin 384) : (shapeCast S1x384 X3 shapeCasts_S384_S1x384 : FVec Ideal S1x384 .f32) (ix2 0 l) = X3 (ix1 l) := by
  pointwise

theorem pure_v63 (X5 : FVec Ideal S256 .f32) (l : Fin 256) : (shapeCast S1x256 X5 shapeCasts_S256_S1x256 : FVec Ideal S1x256 .f32) (ix2 0 l) = X5 (ix1 l) := by
  pointwise

end Cert.Kernel8Ideal.EvenIn
end
-- ==== Proof.EvenBlocks.lean ====
/- The blocks the entry of the even layers loads. -/
module

public import proofs.«01_k».proof.Proof.EvenHost
public import proofs.«01_k».proof.Proof.EvenPack

@[expose] public section
set_option maxRecDepth 16384
noncomputable section
open Idealize.ShloMosaic Idealize.ShloMosaic.TcCoe Idealize.SL.Sem
namespace Cert.Kernel8Ideal.EvenIn
open Cert.Kernel8Ideal Cert.Kernel8Ideal.Gen Cert.EvenReal
variable (m : (ℓ : Loc nD τ sig) → Buf (Elt Ideal) ℓ) (c : Dev nD)

abbrev A0 : FVec Ideal S32768x1024 .f32 := m ((c : Thread nD τ).loc main_arg0)
abbrev A1 : FVec Ideal S1024 .f32 := m ((c : Thread nD τ).loc main_arg1)
abbrev A2 : FVec Ideal S1024x2208 .f32 := m ((c : Thread nD τ).loc main_arg2)
abbrev A3 : FVec Ideal S384 .f32 := m ((c : Thread nD τ).loc main_arg3)
abbrev A4 : FVec Ideal S384x768 .f32 := m ((c : Thread nD τ).loc main_arg4)
abbrev A5 : FVec Ideal S256 .f32 := m ((c : Thread nD τ).loc main_arg5)
abbrev A6 : FVec Ideal S256x1024 .f32 := m ((c : Thread nD τ).loc main_arg6)
abbrev A7 : FVec Ideal S2048x16 .f32 := m ((c : Thread nD τ).loc main_arg7)
abbrev A8 : FVec Ideal S2048x16 .f32 := m ((c : Thread nD τ).loc main_arg8)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val % 2, 0] ∧ win0_9.index t = ![t.val % 2, 0] ∧ win0_10.index t = ![t.val % 2, 0] ∧ win0_11.index t = ![t.val % 2, 0]
    ∧ win0_12.index t = ![t.val, 0] ∧ win0_13.index t = ![t.val, 0] ∧ win0_14.index t = ![t.val, 0] ∧ win0_15.index t = ![t.val, 0] :=
  (by decide +kernel : ∀ t : Fin grid0.N, _)

/-- The row of the arguments that a block's row is. -/
def row (t : Fin cfg0.N) (r : Fin 1024) : Fin 32768 := ⟨t.val * 1024 + r, by have := t.2; change t.val < 32 at this; omega⟩

theorem win0 (t : Fin cfg0.N) (r k : Fin 1024) : iblk m c 0 t (ix2 r k) = A0 m c (ix2 (row t r) k) := by
  have e : iblk m c 0 t = ((cfg0.win 0).blk t).view.read (Elt Ideal) (V m c main_arg0) := rfl
  rw [e, V_main_arg0]
  unfold row
  blk_ext [idx t]

theorem pack_v61 : V m c main_v61 = (shapeCast S1x1024 (A1 m c) shapeCasts_S1024_S1x1024 : FVec Ideal S1x1024 .f32) := by
  rw [V_v61, V_main_arg1]

theorem blk1_at (t : Fin cfg0.N) (l : Fin 1024) (Y : Vec Ideal S1x1024 .f32) (hY : V m c main_v61 = Y) : iblk m c 1 t (ix2 0 l) = Y (ix2 0 l) := by
  have e : iblk m c 1 t = ((cfg0.win 1).blk t).view.read (Elt Ideal) (V m c main_v61) := rfl
  rw [e, hY]
  clear e hY
  blk_ext [idx t]

theorem win1 (t : Fin cfg0.N) (l : Fin 1024) : iblk m c 1 t (ix2 0 l) = A1 m c (ix1 l) :=
  (blk1_at m c t l _ (pack_v61 m c)).trans (pure_v61 _ l)

theorem pack_v13 : V m c main_v13 = (truncf .bf16 (concatenate S1024x2304 1 [⟨S1024x384, (extractStridedSlice S1024x384 ![0, 0] (A2 m c) slices_S1024x2208_S1024x384_0_0)⟩, ⟨S1024x64, (broadcastInDim S1024x64 ![] bcast_S_S1024x64 (constant (F := Ideal) S_ .f32 0x00000000#32))⟩, ⟨S1024x32, (extractStridedSlice S1024x32 ![0, 640] (A2 m c) slices_S1024x2208_S1024x32_0_640)⟩, ⟨S1024x32, (concatenate S1024x32 1 [⟨S1024x16, (Host.negf (extractStridedSlice S1024x16 ![0, 16] (extractStridedSlice S1024x32 ![0, 640] (A2 m c) slices_S1024x2208_S1024x32_0_640) slices_S1024x32_S1024x16_0_16))⟩, ⟨S1024x16, (extractStridedSlice S1024x16 ![0, 0] (extractStridedSlice S1024x32 ![0, 640] (A2 m c) slices_S1024x2208_S1024x32_0_640) slices_S1024x32_S1024x16_0_0)⟩] concatenates_S1024x16_S1024x16_S1024x32_d1)⟩, ⟨S1024x256, (extractStridedSlice S1024x256 ![0, 384] (A2 m c) slices_S1024x2208_S1024x256_0_384)⟩, ⟨S1024x512, (mulf (extractStridedSlice S1024x512 ![0, 672] (A2 m c) slices_S1024x2208_S1024x512_0_672) (broadcastInDim S1024x512 ![] bcast_S_S1024x512 (constant (F := Ideal) S_ .f32 0x3E000000#32)))⟩, ⟨S1024x1024, (extractStridedSlice S1024x1024 ![0, 1184] (A2 m c) slices_S1024x2208_S1024x1024_0_1184)⟩] concatenates_S1024x384_S1024x64_S1024x32_S1024x32_S1024x256_S1024x512_S1024x1024_S1024x2304_d1) bitsLt_bf16_f32 : FVec Ideal S1024x2304 .bf16) := by
  rw [V_v13, V_v12, V_v1, V_main_arg2, V_v2, V_cst, V_v0, V_main_arg2, V_v6, V_v4, V_v3, V_v0, V_main_arg2, V_v5, V_v0, V_main_arg2, V_v7, V_main_arg2, V_v10, V_v8, V_main_arg2, V_v9, V_cst_0, V_v11, V_main_arg2]

theorem blk2_at (t : Fin cfg0.N) (a : Fin 1024) (l : Fin 2304) (Y : Vec Ideal S1024x2304 .bf16) (hY : V m c main_v13 = Y) : iblk m c 2 t (ix2 a l) = Y (ix2 a l) := by
  have e : iblk m c 2 t = ((cfg0.win 2).blk t).view.read (Elt Ideal) (V m c main_v13) := rfl
  rw [e, hY]
  clear e hY
  blk_ext [idx t]

theorem win2 (t : Fin cfg0.N) (a : Fin 1024) (l : Fin 2304) : iblk m c 2 t (ix2 a l) = wIn (col (A2 m c) a) l :=
  (blk2_at m c t a l _ (pack_v13 m c)).trans (pure_v13 _ a l)

theorem pack_v62 : V m c main_v62 = (shapeCast S1x384 (A3 m c) shapeCasts_S384_S1x384 : FVec Ideal S1x384 .f32) := by
  rw [V_v62, V_main_arg3]

theorem blk3_at (t : Fin cfg0.N) (l : Fin 384) (Y : Vec Ideal S1x384 .f32) (hY : V m c main_v62 = Y) : iblk m c 3 t (ix2 0 l) = Y (ix2 0 l) := by
  have e : iblk m c 3 t = ((cfg0.win 3).blk t).view.read (Elt Ideal) (V m c main_v62) := rfl
  rw [e, hY]
  clear e hY
  blk_ext [idx t]

theorem win3 (t : Fin cfg0.N) (l : Fin 384) : iblk m c 3 t (ix2 0 l) = A3 m c (ix1 l) :=
  (blk3_at m c t l _ (pack_v62 m c)).trans (pure_v62 _ l)

theorem pack_v23 : V m c main_v23 = (truncf .bf16 (shapeCast S384x1024 (concatenate S384x8x128 2 [⟨S384x8x64, (extractStridedSlice S384x8x64 ![0, 0, 0] (shapeCast S384x8x96 (A4 m c) shapeCasts_S384x768_S384x8x96) slices_S384x8x96_S384x8x64_0_0_0)⟩, ⟨S384x8x32, (extractStridedSlice S384x8x32 ![0, 0, 64] (shapeCast S384x8x96 (A4 m c) shapeCasts_S384x768_S384x8x96) slices_S384x8x96_S384x8x32_0_0_64)⟩, ⟨S384x8x32, (concatenate S384x8x32 2 [⟨S384x8x16, (Host.negf (extractStridedSlice S384x8x16 ![0, 0, 16] (extractStridedSlice S384x8x32 ![0, 0, 64] (shapeCast S384x8x96 (A4 m c) shapeCasts_S384x768_S384x8x96) slices_S384x8x96_S384x8x32_0_0_64) slices_S384x8x32_S384x8x16_0_0_16))⟩, ⟨S384x8x16, (extractStridedSlice S384x8x16 ![0, 0, 0] (extractStridedSlice S384x8x32 ![0, 0, 64] (shapeCast S384x8x96 (A4 m c) shapeCasts_S384x768_S384x8x96) slices_S384x8x96_S384x8x32_0_0_64) slices_S384x8x32_S384x8x16_0_0_0)⟩] concatenates_S384x8x16_S384x8x16_S384x8x32_d2)⟩] concatenates_S384x8x64_S384x8x32_S384x8x32_S384x8x128_d2) shapeCasts_S384x8x128_S384x1024) bitsLt_bf16_f32 : FVec Ideal S384x1024 .bf16) := by
  rw [V_v23, V_v22, V_v21, V_v15, V_v14, V_main_arg4, V_v16, V_v14, V_main_arg4, V_v20, V_v18, V_v17, V_v16, V_v14, V_main_arg4, V_v19, V_v16, V_v14, V_main_arg4]

theorem blk4_at (t : Fin cfg0.N) (a : Fin 384) (l : Fin 1024) (Y : Vec Ideal S384x1024 .bf16) (hY : V m c main_v23 = Y) : iblk m c 4 t (ix2 a l) = Y (ix2 a l) := by
  have e : iblk m c 4 t = ((cfg0.win 4).blk t).view.read (Elt Ideal) (V m c main_v23) := rfl
  rw [e, hY]
  clear e hY
  blk_ext [idx t]

theorem win4 (t : Fin cfg0.N) (a : Fin 384) (l : Fin 1024) : iblk m c 4 t (ix2 a l) = wQ (col (A4 m c) a) l :=
  (blk4_at m c t a l _ (pack_v23 m c)).trans (pure_v23 _ a l)

theorem pack_v63 : V m c main_v63 = (shapeCast S1x256 (A5 m c) shapeCasts_S256_S1x256 : FVec Ideal S1x256 .f32) := by
  rw [V_v63, V_main_arg5]

theorem blk5_at (t : Fin cfg0.N) (l : Fin 256) (Y : Vec Ideal S1x256 .f32) (hY : V m c main_v63 = Y) : iblk m c 5 t (ix2 0 l) = Y (ix2 0 l) := by
  have e : iblk m c 5 t = ((cfg0.win 5).blk t).view.read (Elt Ideal) (V m c main_v63) := rfl
  rw [e, hY]
  clear e hY
  blk_ext [idx t]

theorem win5 (t : Fin cfg0.N) (l : Fin 256) : iblk m c 5 t (ix2 0 l) = A5 m c (ix1 l) :=
  (blk5_at m c t l _ (pack_v63 m c)).trans (pure_v63 _ l)

theorem pack_v30 : V m c main_v30 = (truncf .bf16 (shapeCast S256x1024 (concatenate S256x8x128 2 [⟨S256x8x64, (extractStridedSlice S256x8x64 ![0, 0, 0] (shapeCast S256x8x128 (A6 m c) shapeCasts_S256x1024_S256x8x128) slices_S256x8x128_S256x8x64_0_0_0)⟩, ⟨S256x8x64, (broadcastInDim S256x8x64 ![] bcast_S_S256x8x64 (constant (F := Ideal) S_ .f32 0x00000000#32))⟩] concatenates_S256x8x64_S256x8x64_S256x8x128_d2) shapeCasts_S256x8x128_S256x1024) bitsLt_bf16_f32 : FVec Ideal S256x1024 .bf16) := by
  rw [V_v30, V_v29, V_v28, V_v25, V_v24, V_main_arg6, V_v27, V_cst_1]

theorem blk6_at (t : Fin cfg0.N) (a : Fin 256) (l : Fin 1024) (Y : Vec Ideal S256x1024 .bf16) (hY : V m c main_v30 = Y) : iblk m c 6 t (ix2 a l) = Y (ix2 a l) := by
  have e : iblk m c 6 t = ((cfg0.win 6).blk t).view.read (Elt Ideal) (V m c main_v30) := rfl
  rw [e, hY]
  clear e hY
  blk_ext [idx t]

theorem win6 (t : Fin cfg0.N) (a : Fin 256) (l : Fin 1024) : iblk m c 6 t (ix2 a l) = wK (col (A6 m c) a) l :=
  (blk6_at m c t a l _ (pack_v30 m c)).trans (pure_v30 _ a l)

theorem pack_v45 : V m c main_v45 = (truncf .bf16 (shapeCast S256x1024 (concatenate S256x4x2x128 2 [⟨S256x4x1x128, (broadcastInDim S256x4x1x128 ![0, 1, 3] bcast_S256x4x128_S256x4x1x128_0_1_3 (concatenate S256x4x128 2 [⟨S256x4x64, (shapeCast S256x4x64 (extractStridedSlice S256x4x1x64 ![0, 0, 0, 0] (shapeCast S256x4x2x64 (extractStridedSlice S256x8x64 ![0, 0, 64] (shapeCast S256x8x128 (A6 m c) shapeCasts_S256x1024_S256x8x128) slices_S256x8x128_S256x8x64_0_0_64) shapeCasts_S256x8x64_S256x4x2x64) slices_S256x4x2x64_S256x4x1x64_0_0_0_0) shapeCasts_S256x4x1x64_S256x4x64)⟩, ⟨S256x4x64, (broadcastInDim S256x4x64 ![] bcast_S_S256x4x64 (constant (F := Ideal) S_ .f32 0x00000000#32))⟩] concatenates_S256x4x64_S256x4x64_S256x4x128_d2))⟩, ⟨S256x4x1x128, (broadcastInDim S256x4x1x128 ![0, 1, 3] bcast_S256x4x128_S256x4x1x128_0_1_3 (concatenate S256x4x128 2 [⟨S256x4x64, (broadcastInDim S256x4x64 ![] bcast_S_S256x4x64 (constant (F := Ideal) S_ .f32 0x00000000#32))⟩, ⟨S256x4x64, (shapeCast S256x4x64 (extractStridedSlice S256x4x1x64 ![0, 0, 1, 0] (shapeCast S256x4x2x64 (extractStridedSlice S256x8x64 ![0, 0, 64] (shapeCast S256x8x128 (A6 m c) shapeCasts_S256x1024_S256x8x128) slices_S256x8x128_S256x8x64_0_0_64) shapeCasts_S256x8x64_S256x4x2x64) slices_S256x4x2x64_S256x4x1x64_0_0_1_0) shapeCasts_S256x4x1x64_S256x4x64)⟩] concatenates_S256x4x64_S256x4x64_S256x4x128_d2))⟩] concatenates_S256x4x1x128_S256x4x1x128_S256x4x2x128_d2) shapeCasts_S256x4x2x128_S256x1024) bitsLt_bf16_f32 : FVec Ideal S256x1024 .bf16) := by
  rw [V_v45, V_v44, V_v43, V_v41, V_v37, V_v36, V_v35, V_v31, V_v26, V_v24, V_main_arg6, V_v34, V_cst_2, V_v42, V_v40, V_v34, V_cst_2, V_v39, V_v38, V_v31, V_v26, V_v24, V_main_arg6]

theorem blk7_at (t : Fin cfg0.N) (a : Fin 256) (l : Fin 1024) (Y : Vec Ideal S256x1024 .bf16) (hY : V m c main_v45 = Y) : iblk m c 7 t (ix2 a l) = Y (ix2 a l) := by
  have e : iblk m c 7 t = ((cfg0.win 7).blk t).view.read (Elt Ideal) (V m c main_v45) := rfl
  rw [e, hY]
  clear e hY
  blk_ext [idx t]

theorem win7 (t : Fin cfg0.N) (a : Fin 256) (l : Fin 1024) : iblk m c 7 t (ix2 a l) = wV (col (A6 m c) a) l :=
  (blk7_at m c t a l _ (pack_v45 m c)).trans (pure_v45 _ a l)

theorem pack_v55 : V m c main_v55 = (mulf (concatenate S2048x128 1 [⟨S2048x64, (broadcastInDim S2048x64 ![] bcast_S_S2048x64 (constant (F := Ideal) S_ .f32 0x3F800000#32))⟩, ⟨S2048x16, (A7 m c)⟩, ⟨S2048x16, (A7 m c)⟩, ⟨S2048x32, (broadcastInDim S2048x32 ![] bcast_S_S2048x32 (constant (F := Ideal) S_ .f32 0x00000000#32))⟩] concatenates_S2048x64_S2048x16_S2048x16_S2048x32_S2048x128_d1) (broadcastInDim S2048x128 ![] bcast_S_S2048x128 (Host.divf (constant (F := Ideal) S_ .f32 0x3F800000#32) (mulf (Host.sqrt (constant (F := Ideal) S_ .f32 0x42C00000#32)) (Host.log (constant (F := Ideal) S_ .f32 0x40000000#32))))) : FVec Ideal S2048x128 .f32) := by
  rw [V_v55, V_v53, V_v46, V_cst_3, V_main_arg7, V_v48, V_cst_5, V_v54, V_v52, V_cst_8, V_v51, V_v49, V_cst_6, V_v50, V_cst_7]

theorem blk8_at (t : Fin cfg0.N) (r : Fin 1024) (l : Fin 128) (Y : Vec Ideal S2048x128 .f32) (hY : V m c main_v55 = Y) : iblk m c 8 t (ix2 r l) = Y (ix2 (⟨row t r % 2048, by omega⟩ : Fin 2048) l) := by
  have e : iblk m c 8 t = ((cfg0.win 8).blk t).view.read (Elt Ideal) (V m c main_v55) := rfl
  rw [e, hY]
  clear e hY
  unfold row
  blk_ext [idx t]

theorem win8 (t : Fin cfg0.N) (r : Fin 1024) (l : Fin 128) : iblk m c 8 t (ix2 r l) = tab 1 (col (A7 m c) ⟨row t r % 2048, by omega⟩) l * factor :=
  (blk8_at m c t r l _ (pack_v55 m c)).trans (pure_v55 _ _ l)

theorem pack_v58 : V m c main_v58 = (mulf (concatenate S2048x128 1 [⟨S2048x64, (broadcastInDim S2048x64 ![] bcast_S_S2048x64 (constant (F := Ideal) S_ .f32 0x00000000#32))⟩, ⟨S2048x16, (A8 m c)⟩, ⟨S2048x16, (A8 m c)⟩, ⟨S2048x32, (broadcastInDim S2048x32 ![] bcast_S_S2048x32 (constant (F := Ideal) S_ .f32 0x00000000#32))⟩] concatenates_S2048x64_S2048x16_S2048x16_S2048x32_S2048x128_d1) (broadcastInDim S2048x128 ![] bcast_S_S2048x128 (Host.divf (constant (F := Ideal) S_ .f32 0x3F800000#32) (mulf (Host.sqrt (constant (F := Ideal) S_ .f32 0x42C00000#32)) (Host.log (constant (F := Ideal) S_ .f32 0x40000000#32))))) : FVec Ideal S2048x128 .f32) := by
  rw [V_v58, V_v56, V_v47, V_cst_4, V_main_arg8, V_v48, V_cst_5, V_v57, V_v52, V_cst_8, V_v51, V_v49, V_cst_6, V_v50, V_cst_7]

theorem blk9_at (t : Fin cfg0.N) (r : Fin 1024) (l : Fin 128) (Y : Vec Ideal S2048x128 .f32) (hY : V m c main_v58 = Y) : iblk m c 9 t (ix2 r l) = Y (ix2 (⟨row t r % 2048, by omega⟩ : Fin 2048) l) := by
  have e : iblk m c 9 t = ((cfg0.win 9).blk t).view.read (Elt Ideal) (V m c main_v58) := rfl
  rw [e, hY]
  clear e hY
  unfold row
  blk_ext [idx t]

theorem win9 (t : Fin cfg0.N) (r : Fin 1024) (l : Fin 128) : iblk m c 9 t (ix2 r l) = tab 0 (col (A8 m c) ⟨row t r % 2048, by omega⟩) l * factor :=
  (blk9_at m c t r l _ (pack_v58 m c)).trans (pure_v58 _ _ l)

theorem pack_v59 : V m c main_v59 = (concatenate S2048x128 1 [⟨S2048x64, (broadcastInDim S2048x64 ![] bcast_S_S2048x64 (constant (F := Ideal) S_ .f32 0x00000000#32))⟩, ⟨S2048x16, (A7 m c)⟩, ⟨S2048x16, (A7 m c)⟩, ⟨S2048x32, (broadcastInDim S2048x32 ![] bcast_S_S2048x32 (constant (F := Ideal) S_ .f32 0x00000000#32))⟩] concatenates_S2048x64_S2048x16_S2048x16_S2048x32_S2048x128_d1 : FVec Ideal S2048x128 .f32) := by
  rw [V_v59, V_v47, V_cst_4, V_main_arg7, V_v48, V_cst_5]

theorem blk10_at (t : Fin cfg0.N) (r : Fin 1024) (l : Fin 128) (Y : Vec Ideal S2048x128 .f32) (hY : V m c main_v59 = Y) : iblk m c 10 t (ix2 r l) = Y (ix2 (⟨row t r % 2048, by omega⟩ : Fin 2048) l) := by
  have e : iblk m c 10 t = ((cfg0.win 10).blk t).view.read (Elt Ideal) (V m c main_v59) := rfl
  rw [e, hY]
  clear e hY
  unfold row
  blk_ext [idx t]

theorem win10 (t : Fin cfg0.N) (r : Fin 1024) (l : Fin 128) : iblk m c 10 t (ix2 r l) = tab 0 (col (A7 m c) ⟨row t r % 2048, by omega⟩) l :=
  (blk10_at m c t r l _ (pack_v59 m c)).trans (pure_v59 _ _ l)

theorem pack_v60 : V m c main_v60 = (concatenate S2048x128 1 [⟨S2048x64, (broadcastInDim S2048x64 ![] bcast_S_S2048x64 (constant (F := Ideal) S_ .f32 0x00000000#32))⟩, ⟨S2048x16, (A8 m c)⟩, ⟨S2048x16, (A8 m c)⟩, ⟨S2048x32, (broadcastInDim S2048x32 ![] bcast_S_S2048x32 (constant (F := Ideal) S_ .f32 0x00000000#32))⟩] concatenates_S2048x64_S2048x16_S2048x16_S2048x32_S2048x128_d1 : FVec Ideal S2048x128 .f32) := by
  rw [V_v60, V_v47, V_cst_4, V_main_arg8, V_v48, V_cst_5]

theorem blk11_at (t : Fin cfg0.N) (r : Fin 1024) (l : Fin 128) (Y : Vec Ideal S2048x128 .f32) (hY : V m c main_v60 = Y) : iblk m c 11 t (ix2 r l) = Y (ix2 (⟨row t r % 2048, by omega⟩ : Fin 2048) l) := by
  have e : iblk m c 11 t = ((cfg0.win 11).blk t).view.read (Elt Ideal) (V m c main_v60) := rfl
  rw [e, hY]
  clear e hY
  unfold row
  blk_ext [idx t]

theorem win11 (t : Fin cfg0.N) (r : Fin 1024) (l : Fin 128) : iblk m c 11 t (ix2 r l) = tab 0 (col (A8 m c) ⟨row t r % 2048, by omega⟩) l :=
  (blk11_at m c t r l _ (pack_v60 m c)).trans (pure_v60 _ _ l)

end Cert.Kernel8Ideal.EvenIn
end
-- ==== Proof.EvenFinite.lean ====
/- What the precondition of the entry says of its arguments. -/
module

public import proofs.«01_k».proof.Proof.Gen.Pre_finite_entry
public import proofs.«01_k».proof.Proof.MlaFinite
public import proofs.«01_k».proof.Proof.EvenReal

@[expose] public section
noncomputable section
open Idealize.ShloMosaic
namespace Cert.FiniteEntry
open Cert.FiniteScores Cert.EvenReal Cert.Pre_finite_entry

/-- The entry weights, the queries' weights and the gains of their norms are real. -/
theorem real (X0 : FVec Ideal S32768x1024 .f32) (X1 : FVec Ideal S1024 .f32) (X2 : FVec Ideal S1024x2208 .f32) (X3 : FVec Ideal S384 .f32)
    (X4 : FVec Ideal S384x768 .f32) (X5 : FVec Ideal S256 .f32) (X6 : FVec Ideal S256x1024 .f32) (X7 X8 : FVec Ideal S2048x16 .f32)
    (h : Cert.Pre_finite_entry.fn (F := Ideal) X0 X1 X2 X3 X4 X5 X6 X7 X8 = fun _ => 1#1) :
    (∀ i, Fin' (X1 i)) ∧ (∀ i, Fin' (X2 i)) ∧ (∀ i, Fin' (X3 i)) ∧ (∀ i, Fin' (X4 i)) := by
  have pre := congrFun h ix0
  simp only [Cert.Pre_finite_entry.fn, Cert.Pre_finite_entry.fn_part1, andi, andi_one] at pre
  obtain ⟨⟨⟨h1, h2⟩, h3⟩, h4⟩ := pre
  refine ⟨fun j => ⟨EReal.toReal (X1 j), ?_⟩, fun j => ⟨EReal.toReal (X2 j), ?_⟩,
    fun j => ⟨EReal.toReal (X3 j), ?_⟩, fun j => ⟨EReal.toReal (X4 j), ?_⟩⟩
  · exact (real_of_abs_lt _ (reduce_one _ _ _ _ _ h1 j (funext fun a => a.elim0))).symm
  · exact (real_of_abs_lt _ (reduce_one _ _ _ _ _ h2 j (funext fun a => a.elim0))).symm
  · exact (real_of_abs_lt _ (reduce_one _ _ _ _ _ h3 j (funext fun a => a.elim0))).symm
  · exact (real_of_abs_lt _ (reduce_one _ _ _ _ _ h4 j (funext fun a => a.elim0))).symm

end Cert.FiniteEntry
end
-- ==== Proof.EvenIn.lean ====
/- The entry of the even layers: its four results are the reference's. -/
module

public import proofs.«01_k».proof.Defs
public import proofs.«01_k».proof.Proof.Gen.Reference8Ideal.Run
public import proofs.«01_k».proof.Proof.Gen.Kernel8.Frame
public import proofs.«01_k».proof.Proof.Gen.Kernel8Ideal.Value
public import proofs.«01_k».proof.Proof.EvenCore
public import proofs.«01_k».proof.Proof.EvenBlocks
public import proofs.«01_k».proof.Proof.EvenFinite
public import Idealize.ShloMosaic.Lib.Quiescent

@[expose] public section
set_option maxRecDepth 16384
noncomputable section
open Idealize.ShloMosaic Idealize.ShloMosaic.TcCoe Idealize.SL.Sem
namespace Cert.Kernel8Ideal.EvenIn
open Cert.Kernel8Ideal Cert.Kernel8Ideal.Gen Cert.EvenReal Cert.Reference8Ideal.Result

theorem hz : (![0, 0] : Fin 2 → Nat) = fun _ => 0 := funext fun a => by fin_cases a <;> rfl

theorem ld2_at (x : Vec Ideal S1024x2304 .bf16) (a : Fin 1024) (l : Fin 512) : View.ld x r0_2 (ix2 a l) = x (ix2 a ⟨l, by omega⟩) := by
  pointwise
theorem ld3_at (x : Vec Ideal S1024x2304 .bf16) (a : Fin 1024) (l : Fin 256) : View.ld x r0_3 (ix2 a l) = x (ix2 a ⟨512 + l, by omega⟩) := by
  pointwise
theorem ld4_at (x : Vec Ideal S1024x2304 .bf16) (a : Fin 1024) (l : Fin 512) : View.ld x r0_4 (ix2 a l) = x (ix2 a ⟨768 + l, by omega⟩) := by
  pointwise
theorem ld6_at (x : Vec Ideal S1024x2304 .bf16) (a : Fin 1024) (l : Fin 512) : View.ld x r0_6 (ix2 a l) = x (ix2 a ⟨1280 + l, by omega⟩) := by
  pointwise
theorem ld8_at (x : Vec Ideal S1024x2304 .bf16) (a : Fin 1024) (l : Fin 512) : View.ld x r0_8 (ix2 a l) = x (ix2 a ⟨1792 + l, by omega⟩) := by
  pointwise

section
variable (m : (ℓ : Loc nD τ sig) → Buf (Elt Ideal) ℓ) (c : Dev nD)

/-- The reference's product of the rows and the entry weights. -/
abbrev PR : FVec Ideal Cert.Reference8Ideal.S32768x2208 .f32 := proj (A0 m c) (A1 m c) (A2 m c)
abbrev resultQ : FVec Ideal Cert.Reference8Ideal.S32768x1024 .bf16 := resQ (qm (cq (PR m c)) (A3 m c) (A4 m c)) (A7 m c) (A8 m c)
abbrev resultK : FVec Ideal Cert.Reference8Ideal.S32768x1024 .bf16 := resK (kvm (ckv (PR m c)) (A5 m c) (A6 m c)) (PR m c) (A7 m c) (A8 m c)
abbrev resultV : FVec Ideal Cert.Reference8Ideal.S32768x1024 .bf16 := resV (kvm (ckv (PR m c)) (A5 m c) (A6 m c))
abbrev resultM : FVec Ideal Cert.Reference8Ideal.S32768x1536 .bf16 := resM (PR m c)

variable (f1 : ∀ i, Fin' (A1 m c i)) (f2 : ∀ i, Fin' (A2 m c i))
  (f3 : ∀ i, Fin' (A3 m c i)) (f4 : ∀ i, Fin' (A4 m c i)) (t : Fin cfg0.N)

theorem ld2_row (a : Fin 1024) (l : Fin 512) : View.ld (iblk m c 2 t : Vec Ideal S1024x2304 .bf16) r0_2 (ix2 a l) = wIn (col (A2 m c) a) l :=
  (ld2_at _ a l).trans (win2 m c t a _)
theorem ld3_row (a : Fin 1024) (l : Fin 256) : View.ld (iblk m c 2 t : Vec Ideal S1024x2304 .bf16) r0_3 (ix2 a l) = wIn (col (A2 m c) a) (512 + l) :=
  (ld3_at _ a l).trans (win2 m c t a _)
theorem ld4_row (a : Fin 1024) (l : Fin 512) : View.ld (iblk m c 2 t : Vec Ideal S1024x2304 .bf16) r0_4 (ix2 a l) = wIn (col (A2 m c) a) (768 + l) :=
  (ld4_at _ a l).trans (win2 m c t a _)
theorem ld6_row (a : Fin 1024) (l : Fin 512) : View.ld (iblk m c 2 t : Vec Ideal S1024x2304 .bf16) r0_6 (ix2 a l) = wIn (col (A2 m c) a) (768 + (512 + l)) :=
  ((ld6_at _ a l).trans (win2 m c t a _)).trans (congrArg (wIn (col (A2 m c) a)) (by simp only []; omega))
theorem ld8_row (a : Fin 1024) (l : Fin 512) : View.ld (iblk m c 2 t : Vec Ideal S1024x2304 .bf16) r0_8 (ix2 a l) = wIn (col (A2 m c) a) (768 + (1024 + l)) :=
  ((ld8_at _ a l).trans (win2 m c t a _)).trans (congrArg (wIn (col (A2 m c) a)) (by simp only []; omega))

theorem at_row {B : ℕ} (j : (⟨2, ![32768, B]⟩ : Shape).Idx) (r : Fin 1024) (h : (j 0 : ℕ) = t.val * 1024 + r) : j = ix2 (row t r) (j 1) := by
  refine (eq_ix2 j).trans ?_
  congr 1
  exact Fin.ext h

include f1 f2

theorem q_of (f3 : ∀ i, Fin' (A3 m c i)) (f4 : ∀ i, Fin' (A4 m c i)) (r : Fin 1024) (k : Fin 128) (y : Fin 1024) (hk : (k : ℕ) = y % 128)
    (j : Cert.Reference8Ideal.S32768x1024.Idx) (h0 : (j 0 : ℕ) = t.val * 1024 + r) (h1 : (j 1 : ℕ) = y) :
    k0_pay12 (k0_pay6 (iblk m c 0 t) (iblk m c 1 t) (View.ld (iblk m c 2 t : Vec Ideal S1024x2304 .bf16) r0_2)) (iblk m c 3 t) (iblk m c 4 t) (ix2 r y) * (iblk m c 8 t : Vec Ideal S1024x128 .f32) (ix2 r k)
      + k0_pay13 (k0_pay6 (iblk m c 0 t) (iblk m c 1 t) (View.ld (iblk m c 2 t : Vec Ideal S1024x2304 .bf16) r0_2)) (iblk m c 3 t) (iblk m c 4 t) (ix2 r y) * (iblk m c 9 t : Vec Ideal S1024x128 .f32) (ix2 r k)
      = resultQ m c j := by
  rw [at_row t j r h0]
  exact q_row (A0 m c) (A1 m c) (A2 m c) (A3 m c) (A4 m c) (A7 m c) (A8 m c) (row t r) r _ _ f1 f2 (win0 m c t r) (win1 m c t) f3 f4 _ (ld2_row m c t)
    _ (win3 m c t) _ (win4 m c t) _ _ (win8 m c t r) (win9 m c t r) y (j 1) k hk (Fin.ext h1)

theorem k_of (r : Fin 1024) (k : Fin 128) (y : Fin 1024) (hk : (k : ℕ) = y % 128)
    (j : Cert.Reference8Ideal.S32768x1024.Idx) (h0 : (j 0 : ℕ) = t.val * 1024 + r) (h1 : (j 1 : ℕ) = y) :
    k0_pay25 (k0_pay8 (iblk m c 0 t) (iblk m c 1 t) (View.ld (iblk m c 2 t : Vec Ideal S1024x2304 .bf16) r0_3)) (iblk m c 5 t) (iblk m c 6 t) (ix2 r y)
      + k0_pay35 (k0_pay7 (iblk m c 0 t) (iblk m c 1 t) (View.ld (iblk m c 2 t : Vec Ideal S1024x2304 .bf16) r0_2)) (iblk m c 10 t) (iblk m c 11 t) (ix2 r k)
      = resultK m c j := by
  rw [at_row t j r h0]
  exact k_row (A0 m c) (A1 m c) (A2 m c) (A5 m c) (A6 m c) (A7 m c) (A8 m c) (row t r) r _ _ f1 f2 (win0 m c t r) (win1 m c t) _ (ld2_row m c t)
    _ (ld3_row m c t) _ (win5 m c t) _ (win6 m c t) _ _ (win10 m c t r) (win11 m c t r) y (j 1) k hk (Fin.ext h1)

theorem v_of (r : Fin 1024) (y : Fin 1024) (j : Cert.Reference8Ideal.S32768x1024.Idx) (h0 : (j 0 : ℕ) = t.val * 1024 + r) (h1 : (j 1 : ℕ) = y) :
    (if (y : ℕ) % 256 = 64 ∨ (y : ℕ) % 256 = 128 then 1
      else k0_pay26 (k0_pay8 (iblk m c 0 t) (iblk m c 1 t) (View.ld (iblk m c 2 t : Vec Ideal S1024x2304 .bf16) r0_3)) (iblk m c 5 t) (iblk m c 7 t) (ix2 r y))
      = resultV m c j := by
  rw [at_row t j r h0]
  exact v_row (A0 m c) (A1 m c) (A2 m c) (A5 m c) (A6 m c) (row t r) r _ _ f1 f2 (win0 m c t r) (win1 m c t)
    _ (ld3_row m c t) _ (win5 m c t) _ (win7 m c t) y (j 1) (Fin.ext h1)

theorem m9_of (r : Fin 1024) (k : Fin 512) (j : Cert.Reference8Ideal.S32768x1536.Idx) (h0 : (j 0 : ℕ) = t.val * 1024 + r) (h1 : (j 1 : ℕ) = k) :
    k0_pay9 (iblk m c 0 t) (iblk m c 1 t) (View.ld (iblk m c 2 t : Vec Ideal S1024x2304 .bf16) r0_4) (ix2 r k) = resultM m c j := by
  rw [at_row t j r h0]
  exact m_first (A0 m c) (A1 m c) (A2 m c) (row t r) r _ _ f1 f2 (win0 m c t r) (win1 m c t) _ (ld4_row m c t) k (j 1) h1

theorem m10_of (r : Fin 1024) (k : Fin 512) (j : Cert.Reference8Ideal.S32768x1536.Idx) (h0 : (j 0 : ℕ) = t.val * 1024 + r) (h1 : (j 1 : ℕ) = 512 + k) :
    k0_pay10 (iblk m c 0 t) (iblk m c 1 t) (View.ld (iblk m c 2 t : Vec Ideal S1024x2304 .bf16) r0_6) (ix2 r k) = resultM m c j := by
  rw [at_row t j r h0]
  exact (pay10_at (A0 m c) (A1 m c) (row t r) r _ _ (win0 m c t r) (win1 m c t) _ k).trans
    (m_rest (A0 m c) (A1 m c) (A2 m c) (row t r) r (iblk m c 0 t) (iblk m c 1 t) f1 f2 (win0 m c t r) (win1 m c t) 512 le_rfl _ (ld6_row m c t) k (j 1) h1)

theorem m11_of (r : Fin 1024) (k : Fin 512) (j : Cert.Reference8Ideal.S32768x1536.Idx) (h0 : (j 0 : ℕ) = t.val * 1024 + r) (h1 : (j 1 : ℕ) = 1024 + k) :
    k0_pay11 (k0_pay4 (iblk m c 0 t) (iblk m c 1 t)) (View.ld (iblk m c 2 t : Vec Ideal S1024x2304 .bf16) r0_8) (ix2 r k) = resultM m c j := by
  rw [at_row t j r h0]
  exact (pay11_at (A0 m c) (A1 m c) (row t r) r _ _ (win0 m c t r) (win1 m c t) _ k).trans
    (m_rest (A0 m c) (A1 m c) (A2 m c) (row t r) r (iblk m c 0 t) (iblk m c 1 t) f1 f2 (win0 m c t r) (win1 m c t) 1024 (by omega) _ (ld8_row m c t) k (j 1) h1)

/-- What a grid point stores of the queries. -/
theorem point_q (f3 : ∀ i, Fin' (A3 m c i)) (f4 : ∀ i, Fin' (A4 m c i)) (y : S1024x1024.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resultQ m c (((cfg0.win 12).blk t).view.emb y) := by
  unfold_out out0_12
  canon_tiles x h
  case piece0 =>
    obtain ⟨r, k, rfl⟩ : ∃ (r : Fin 1024) (k : Fin 128), x = ix2 r k := ⟨x 0, x 1, eq_ix2 x⟩
    repeat rw [View.ld_unit_zero hz]
    rw [pay23_at, pay14_eq, pay15_eq]
    exact q_of m c f1 f2 t f3 f4 r k _ (by simp only []; omega) _ (by blk_simp [idx t]; exact congrArg (t.val * 1024 + ·) h0) (by blk_simp [idx t]; exact h1)
  case piece1 =>
    obtain ⟨r, k, rfl⟩ : ∃ (r : Fin 1024) (k : Fin 128), x = ix2 r k := ⟨x 0, x 1, eq_ix2 x⟩
    repeat rw [View.ld_unit_zero hz]
    rw [pay22_at, pay14_eq, pay15_eq]
    exact q_of m c f1 f2 t f3 f4 r k _ (by simp only []; omega) _ (by blk_simp [idx t]; exact congrArg (t.val * 1024 + ·) h0) (by blk_simp [idx t]; exact h1)
  case piece2 =>
    obtain ⟨r, k, rfl⟩ : ∃ (r : Fin 1024) (k : Fin 128), x = ix2 r k := ⟨x 0, x 1, eq_ix2 x⟩
    repeat rw [View.ld_unit_zero hz]
    rw [pay21_at, pay14_eq, pay15_eq]
    exact q_of m c f1 f2 t f3 f4 r k _ (by simp only []; omega) _ (by blk_simp [idx t]; exact congrArg (t.val * 1024 + ·) h0) (by blk_simp [idx t]; exact h1)
  case piece3 =>
    obtain ⟨r, k, rfl⟩ : ∃ (r : Fin 1024) (k : Fin 128), x = ix2 r k := ⟨x 0, x 1, eq_ix2 x⟩
    repeat rw [View.ld_unit_zero hz]
    rw [pay20_at, pay14_eq, pay15_eq]
    exact q_of m c f1 f2 t f3 f4 r k _ (by simp only []; omega) _ (by blk_simp [idx t]; exact congrArg (t.val * 1024 + ·) h0) (by blk_simp [idx t]; exact h1)
  case piece4 =>
    obtain ⟨r, k, rfl⟩ : ∃ (r : Fin 1024) (k : Fin 128), x = ix2 r k := ⟨x 0, x 1, eq_ix2 x⟩
    repeat rw [View.ld_unit_zero hz]
    rw [pay19_at, pay14_eq, pay15_eq]
    exact q_of m c f1 f2 t f3 f4 r k _ (by simp only []; omega) _ (by blk_simp [idx t]; exact congrArg (t.val * 1024 + ·) h0) (by blk_simp [idx t]; exact h1)
  case piece5 =>
    obtain ⟨r, k, rfl⟩ : ∃ (r : Fin 1024) (k : Fin 128), x = ix2 r k := ⟨x 0, x 1, eq_ix2 x⟩
    repeat rw [View.ld_unit_zero hz]
    rw [pay18_at, pay14_eq, pay15_eq]
    exact q_of m c f1 f2 t f3 f4 r k _ (by simp only []; omega) _ (by blk_simp [idx t]; exact congrArg (t.val * 1024 + ·) h0) (by blk_simp [idx t]; exact h1)
  case piece6 =>
    obtain ⟨r, k, rfl⟩ : ∃ (r : Fin 1024) (k : Fin 128), x = ix2 r k := ⟨x 0, x 1, eq_ix2 x⟩
    repeat rw [View.ld_unit_zero hz]
    rw [pay17_at, pay14_eq, pay15_eq]
    exact q_of m c f1 f2 t f3 f4 r k _ (by simp only []; omega) _ (by blk_simp [idx t]; exact congrArg (t.val * 1024 + ·) h0) (by blk_simp [idx t]; exact h1)
  case piece7 =>
    obtain ⟨r, k, rfl⟩ : ∃ (r : Fin 1024) (k : Fin 128), x = ix2 r k := ⟨x 0, x 1, eq_ix2 x⟩
    repeat rw [View.ld_unit_zero hz]
    rw [pay16_at]
    exact q_of m c f1 f2 t f3 f4 r k _ (by simp only []; omega) _ (by blk_simp [idx t]; exact congrArg (t.val * 1024 + ·) h0) (by blk_simp [idx t]; exact h1)

/-- What a grid point stores of the keys. -/
theorem point_k (y : S1024x1024.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resultK m c (((cfg0.win 13).blk t).view.emb y) := by
  unfold_out out0_13
  canon_tiles x h
  case piece0 =>
    obtain ⟨r, k, rfl⟩ : ∃ (r : Fin 1024) (k : Fin 128), x = ix2 r k := ⟨x 0, x 1, eq_ix2 x⟩
    repeat rw [View.ld_unit_zero hz]
    rw [pay3_at]
    exact k_of m c f1 f2 t r k _ (by simp only []; omega) _ (by blk_simp [idx t]; exact congrArg (t.val * 1024 + ·) h0) (by blk_simp [idx t]; exact h1)
  case piece1 =>
    obtain ⟨r, k, rfl⟩ : ∃ (r : Fin 1024) (k : Fin 128), x = ix2 r k := ⟨x 0, x 1, eq_ix2 x⟩
    repeat rw [View.ld_unit_zero hz]
    rw [pay2_at]
    exact k_of m c f1 f2 t r k _ (by simp only []; omega) _ (by blk_simp [idx t]; exact congrArg (t.val * 1024 + ·) h0) (by blk_simp [idx t]; exact h1)
  case piece2 =>
    obtain ⟨r, k, rfl⟩ : ∃ (r : Fin 1024) (k : Fin 128), x = ix2 r k := ⟨x 0, x 1, eq_ix2 x⟩
    repeat rw [View.ld_unit_zero hz]
    rw [pay1_at]
    exact k_of m c f1 f2 t r k _ (by simp only []; omega) _ (by blk_simp [idx t]; exact congrArg (t.val * 1024 + ·) h0) (by blk_simp [idx t]; exact h1)
  case piece3 =>
    obtain ⟨r, k, rfl⟩ : ∃ (r : Fin 1024) (k : Fin 128), x = ix2 r k := ⟨x 0, x 1, eq_ix2 x⟩
    repeat rw [View.ld_unit_zero hz]
    rw [pay40_at]
    exact k_of m c f1 f2 t r k _ (by simp only []; omega) _ (by blk_simp [idx t]; exact congrArg (t.val * 1024 + ·) h0) (by blk_simp [idx t]; exact h1)
  case piece4 =>
    obtain ⟨r, k, rfl⟩ : ∃ (r : Fin 1024) (k : Fin 128), x = ix2 r k := ⟨x 0, x 1, eq_ix2 x⟩
    repeat rw [View.ld_unit_zero hz]
    rw [pay39_at]
    exact k_of m c f1 f2 t r k _ (by simp only []; omega) _ (by blk_simp [idx t]; exact congrArg (t.val * 1024 + ·) h0) (by blk_simp [idx t]; exact h1)
  case piece5 =>
    obtain ⟨r, k, rfl⟩ : ∃ (r : Fin 1024) (k : Fin 128), x = ix2 r k := ⟨x 0, x 1, eq_ix2 x⟩
    repeat rw [View.ld_unit_zero hz]
    rw [pay38_at]
    exact k_of m c f1 f2 t r k _ (by simp only []; omega) _ (by blk_simp [idx t]; exact congrArg (t.val * 1024 + ·) h0) (by blk_simp [idx t]; exact h1)
  case piece6 =>
    obtain ⟨r, k, rfl⟩ : ∃ (r : Fin 1024) (k : Fin 128), x = ix2 r k := ⟨x 0, x 1, eq_ix2 x⟩
    repeat rw [View.ld_unit_zero hz]
    rw [pay37_at]
    exact k_of m c f1 f2 t r k _ (by simp only []; omega) _ (by blk_simp [idx t]; exact congrArg (t.val * 1024 + ·) h0) (by blk_simp [idx t]; exact h1)
  case piece7 =>
    obtain ⟨r, k, rfl⟩ : ∃ (r : Fin 1024) (k : Fin 128), x = ix2 r k := ⟨x 0, x 1, eq_ix2 x⟩
    repeat rw [View.ld_unit_zero hz]
    rw [pay36_at]
    exact k_of m c f1 f2 t r k _ (by simp only []; omega) _ (by blk_simp [idx t]; exact congrArg (t.val * 1024 + ·) h0) (by blk_simp [idx t]; exact h1)

/-- What a grid point stores of the values. -/
theorem point_v (y : S1024x1024.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resultV m c (((cfg0.win 14).blk t).view.emb y) := by
  unfold_out out0_14
  canon_tiles x h
  obtain ⟨r, k, rfl⟩ : ∃ (r : Fin 1024) (k : Fin 1024), x = ix2 r k := ⟨x 0, x 1, eq_ix2 x⟩
  repeat rw [View.ld_unit_zero hz]
  rw [pay34_at _ _ rfl]
  exact v_of m c f1 f2 t r k _ (by blk_simp [idx t]; exact congrArg (t.val * 1024 + ·) h0) (by blk_simp [idx t]; exact h1)

/-- What a grid point stores of the scaled products. -/
theorem point_m (y : S1024x1536.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = resultM m c (((cfg0.win 15).blk t).view.emb y) := by
  unfold_out out0_15
  canon_tiles x h
  case piece0 =>
    obtain ⟨r, k, rfl⟩ : ∃ (r : Fin 1024) (k : Fin 512), x = ix2 r k := ⟨x 0, x 1, eq_ix2 x⟩
    repeat rw [View.ld_unit_zero hz]
    exact m11_of m c f1 f2 t r k _ (by blk_simp [idx t]; exact congrArg (t.val * 1024 + ·) h0) (by blk_simp [idx t]; exact h1)
  case piece1 =>
    obtain ⟨r, k, rfl⟩ : ∃ (r : Fin 1024) (k : Fin 512), x = ix2 r k := ⟨x 0, x 1, eq_ix2 x⟩
    repeat rw [View.ld_unit_zero hz]
    exact m10_of m c f1 f2 t r k _ (by blk_simp [idx t]; exact congrArg (t.val * 1024 + ·) h0) (by blk_simp [idx t]; exact h1)
  case piece2 =>
    obtain ⟨r, k, rfl⟩ : ∃ (r : Fin 1024) (k : Fin 512), x = ix2 r k := ⟨x 0, x 1, eq_ix2 x⟩
    repeat rw [View.ld_unit_zero hz]
    exact m9_of m c f1 f2 t r k _ (by blk_simp [idx t]; exact congrArg (t.val * 1024 + ·) h0) (by blk_simp [idx t]; exact h1)
omit f1 f2

abbrev Pre : Prop := Cert.Pre_finite_entry.fn (F := Ideal) (A0 m c) (A1 m c) (A2 m c) (A3 m c) (A4 m c) (A5 m c) (A6 m c) (A7 m c) (A8 m c) = fun _ => 1#1

theorem final_q (hpre : Pre m c) : (dats m 0 c).arrAt 12 (cfgs 0).N = resultQ m c := by
  obtain ⟨f1, f2, f3, f4⟩ := Cert.FiniteEntry.real _ _ _ _ _ _ _ _ _ hpre
  refine (dats m 0 c).arrAt_eq_of_covers 12 _ (by decide +kernel) fun t _ y => ?_
  blk_simp
  rw [after0_12]
  exact point_q m c f1 f2 t f3 f4 y

theorem final_k (hpre : Pre m c) : (dats m 0 c).arrAt 13 (cfgs 0).N = resultK m c := by
  obtain ⟨f1, f2, f3, f4⟩ := Cert.FiniteEntry.real _ _ _ _ _ _ _ _ _ hpre
  refine (dats m 0 c).arrAt_eq_of_covers 13 _ (by decide +kernel) fun t _ y => ?_
  blk_simp
  rw [after0_13]
  exact point_k m c f1 f2 t y

theorem final_v (hpre : Pre m c) : (dats m 0 c).arrAt 14 (cfgs 0).N = resultV m c := by
  obtain ⟨f1, f2, f3, f4⟩ := Cert.FiniteEntry.real _ _ _ _ _ _ _ _ _ hpre
  refine (dats m 0 c).arrAt_eq_of_covers 14 _ (by decide +kernel) fun t _ y => ?_
  blk_simp
  rw [after0_14]
  exact point_v m c f1 f2 t y

theorem final_m (hpre : Pre m c) : (dats m 0 c).arrAt 15 (cfgs 0).N = resultM m c := by
  obtain ⟨f1, f2, f3, f4⟩ := Cert.FiniteEntry.real _ _ _ _ _ _ _ _ _ hpre
  refine (dats m 0 c).arrAt_eq_of_covers 15 _ (by decide +kernel) fun t _ y => ?_
  blk_simp
  rw [after0_15]
  exact point_m m c f1 f2 t y

end
end Cert.Kernel8Ideal.EvenIn

namespace Cert.Proof.EvenInClaims

theorem frame_p : Cert.quiescent_Kernel8 := fun m ρ _ => Cert.Kernel8.Gen.frame m ρ
theorem frame_pi : Cert.quiescent_Kernel8Ideal := fun m ρ _ => Cert.Kernel8Ideal.Gen.frame m ρ
theorem frame_pi_pre : Cert.quiescent_Kernel8Ideal_pre_finite_entry := fun m ρ _ => Cert.Kernel8Ideal.Gen.frame m ρ
theorem frame_ri : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)
theorem frame_ri_pre : Cert.quiescent_Reference8Ideal_pre_finite_entry := fun m ρ _ => frame_ri m ρ trivial

theorem preserves : Cert.preserves_Kernel8_Kernel8Ideal :=
  IdealRules.named_const.statement Cert.Kernel8Ideal.κ "log2_e" .f32 0x3FB8AA3B#32 (((Real.log 2)⁻¹ : ℝ) : EReal) rfl

open Cert.Kernel8Ideal.EvenIn Cert.Reference8Ideal.Result in
/-- Kernel and reference end with the same four arrays. -/
theorem algebraic : Cert.algebraic_Kernel8Ideal_Reference8Ideal_pre_finite_entry := by
  intro m ρ m' ρ' hpre hagree
  refine ⟨fun c => resultQ m c, fun c => resultK m c, fun c => resultV m c, fun c => resultM m c, (θ_run Cert.Kernel8Ideal.defs _ _).mono
    (fun _ h c => ⟨(h c).1.trans (final_q m c (hpre c)), (h c).2.1.trans (final_k m c (hpre c)), (h c).2.2.1.trans (final_v m c (hpre c)),
      (h c).2.2.2.1.trans (final_m m c (hpre c)), (h c).2.2.2.2⟩)
    (Cert.Kernel8Ideal.Value.run_blocks (F := Ideal) m ρ), ?_⟩
  refine (θ_run Cert.Reference8Ideal.defs _ _).mono (fun _ h c => ⟨(h c).1.trans ?_, (h c).2.1.trans ?_, (h c).2.2.1.trans ?_, (h c).2.2.2.1.trans ?_,
    (h c).2.2.2.2⟩) (Cert.Reference8Ideal.Value.run (F := Ideal) m' ρ')
  · obtain ⟨h0, h1, h2, h3, h4, h5, h6, h7, h8⟩ := hagree c
    refine Eq.trans (b := resQ (qm (cq (proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)))) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))) (m' ((c.tc : Thread Cert.Reference8Ideal.nD Cert.Reference8Ideal.τ).loc Cert.Reference8Ideal.main_arg7)) (m' ((c.tc : Thread Cert.Reference8Ideal.nD Cert.Reference8Ideal.τ).loc Cert.Reference8Ideal.main_arg8))) rfl ?_
    rw [h0, h1, h2, h3, h4, h7, h8]
  · obtain ⟨h0, h1, h2, h3, h4, h5, h6, h7, h8⟩ := hagree c
    refine Eq.trans (b := resK (kvm (ckv (proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)))) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6))) (proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))) (m' ((c.tc : Thread Cert.Reference8Ideal.nD Cert.Reference8Ideal.τ).loc Cert.Reference8Ideal.main_arg7)) (m' ((c.tc : Thread Cert.Reference8Ideal.nD Cert.Reference8Ideal.τ).loc Cert.Reference8Ideal.main_arg8))) rfl ?_
    rw [h0, h1, h2, h5, h6, h7, h8]
  · obtain ⟨h0, h1, h2, h3, h4, h5, h6, h7, h8⟩ := hagree c
    refine Eq.trans (b := resV (kvm (ckv (proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)))) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)))) rfl ?_
    rw [h0, h1, h2, h5, h6]
  · obtain ⟨h0, h1, h2, h3, h4, h5, h6, h7, h8⟩ := hagree c
    refine Eq.trans (b := resM (proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)))) rfl ?_
    rw [h0, h1, h2]

end Cert.Proof.EvenInClaims

end
-- ==== Proof.lean ====
/- The claims of this directory, put together. -/
module

public import proofs.«01_k».proof.Defs
public import proofs.«01_k».proof.Proof.MlaAttn
public import proofs.«01_k».proof.Proof.MixFirst
public import proofs.«01_k».proof.Proof.NormMatmul
public import proofs.«01_k».proof.Proof.MixLast
public import proofs.«01_k».proof.Proof.MixLayer1
public import proofs.«01_k».proof.Proof.MixLayer2
public import proofs.«01_k».proof.Proof.NormMatmulLayer3
public import proofs.«01_k».proof.Proof.EvenIn
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Pre_finite_scores
public import proofs.«01_k».proof.Proof.Gen.Pre_finite_entry

@[expose] public section
noncomputable section

namespace Cert.Proof

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Pre_finite_scores.Gen.facts,
    Cert.Pre_finite_entry.Gen.facts,
    MlaAttnClaims.frame_p,
    MlaAttnClaims.frame_pi,
    MlaAttnClaims.frame_pi_pre,
    MlaAttnClaims.frame_ri,
    MlaAttnClaims.frame_ri_pre,
    MixFirstClaims.frame_p,
    MixFirstClaims.frame_pi,
    MixFirstClaims.frame_ri,
    NormMatmulClaims.frame_p,
    NormMatmulClaims.frame_pi,
    NormMatmulClaims.frame_ri,
    MixLastClaims.frame_p,
    MixLastClaims.frame_pi,
    MixLastClaims.frame_ri,
    MixLayer1Claims.frame_p,
    MixLayer1Claims.frame_pi,
    MixLayer1Claims.frame_ri,
    MixLayer2Claims.frame_p,
    MixLayer2Claims.frame_pi,
    MixLayer2Claims.frame_ri,
    NormMatmulLayer3Claims.frame_p,
    NormMatmulLayer3Claims.frame_pi,
    NormMatmulLayer3Claims.frame_ri,
    EvenInClaims.frame_p,
    EvenInClaims.frame_pi,
    EvenInClaims.frame_pi_pre,
    EvenInClaims.frame_ri,
    EvenInClaims.frame_ri_pre,
    MlaAttnClaims.preserves,
    MlaAttnClaims.algebraic,
    MixFirstClaims.preserves,
    MixFirstClaims.algebraic,
    NormMatmulClaims.preserves,
    NormMatmulClaims.algebraic,
    MixLastClaims.preserves,
    MixLastClaims.algebraic,
    MixLayer1Claims.preserves,
    MixLayer1Claims.algebraic,
    MixLayer2Claims.preserves,
    MixLayer2Claims.algebraic,
    NormMatmulLayer3Claims.preserves,
    NormMatmulLayer3Claims.algebraic,
    EvenInClaims.preserves,
    EvenInClaims.algebraic⟩

end Cert.Proof

end
